-- ==== Defs.lean ====
def Pre_Ret (m : (ℓ : Loc Cert.Ret.nD Cert.Ret.τ Cert.Ret.sig) → Buf (Elt Bits) ℓ) : Prop :=
  True

def Pre_RetIdeal (m : (ℓ : Loc Cert.RetIdeal.nD Cert.RetIdeal.τ Cert.RetIdeal.sig) → Buf (Elt Ideal) ℓ) : Prop :=
  True

def Pre_RetRefIdeal (m : (ℓ : Loc Cert.RetRefIdeal.nD Cert.RetRefIdeal.τ Cert.RetRefIdeal.sig) → Buf (Elt Ideal) ℓ) : Prop :=
  True

def Pre_RetP (m : (ℓ : Loc Cert.RetP.nD Cert.RetP.τ Cert.RetP.sig) → Buf (Elt Bits) ℓ) : Prop :=
  True

def Pre_RetPIdeal (m : (ℓ : Loc Cert.RetPIdeal.nD Cert.RetPIdeal.τ Cert.RetPIdeal.sig) → Buf (Elt Ideal) ℓ) : Prop :=
  True

def Pre_RetPRefIdeal (m : (ℓ : Loc Cert.RetPRefIdeal.nD Cert.RetPRefIdeal.τ Cert.RetPRefIdeal.sig) → Buf (Elt Ideal) ℓ) : Prop :=
  True

def Pre_MmIn (m : (ℓ : Loc Cert.MmIn.nD Cert.MmIn.τ Cert.MmIn.sig) → Buf (Elt Bits) ℓ) : Prop :=
  True

def Pre_MmInIdeal (m : (ℓ : Loc Cert.MmInIdeal.nD Cert.MmInIdeal.τ Cert.MmInIdeal.sig) → Buf (Elt Ideal) ℓ) : Prop :=
  True

def Pre_MmInRefIdeal (m : (ℓ : Loc Cert.MmInRefIdeal.nD Cert.MmInRefIdeal.τ Cert.MmInRefIdeal.sig) → Buf (Elt Ideal) ℓ) : Prop :=
  True

def Pre_MmO (m : (ℓ : Loc Cert.MmO.nD Cert.MmO.τ Cert.MmO.sig) → Buf (Elt Bits) ℓ) : Prop :=
  True

def Pre_MmOIdeal (m : (ℓ : Loc Cert.MmOIdeal.nD Cert.MmOIdeal.τ Cert.MmOIdeal.sig) → Buf (Elt Ideal) ℓ) : Prop :=
  True

def Pre_MmORefIdeal (m : (ℓ : Loc Cert.MmORefIdeal.nD Cert.MmORefIdeal.τ Cert.MmORefIdeal.sig) → Buf (Elt Ideal) ℓ) : Prop :=
  True

def Pre_MmUp (m : (ℓ : Loc Cert.MmUp.nD Cert.MmUp.τ Cert.MmUp.sig) → Buf (Elt Bits) ℓ) : Prop :=
  True

def Pre_MmUpIdeal (m : (ℓ : Loc Cert.MmUpIdeal.nD Cert.MmUpIdeal.τ Cert.MmUpIdeal.sig) → Buf (Elt Ideal) ℓ) : Prop :=
  True

def Pre_MmUpRefIdeal (m : (ℓ : Loc Cert.MmUpRefIdeal.nD Cert.MmUpRefIdeal.τ Cert.MmUpRefIdeal.sig) → Buf (Elt Ideal) ℓ) : Prop :=
  True

def Pre_MmDown (m : (ℓ : Loc Cert.MmDown.nD Cert.MmDown.τ Cert.MmDown.sig) → Buf (Elt Bits) ℓ) : Prop :=
  True

def Pre_MmDownIdeal (m : (ℓ : Loc Cert.MmDownIdeal.nD Cert.MmDownIdeal.τ Cert.MmDownIdeal.sig) → Buf (Elt Ideal) ℓ) : Prop :=
  True

def Pre_MmDownRefIdeal (m : (ℓ : Loc Cert.MmDownRefIdeal.nD Cert.MmDownRefIdeal.τ Cert.MmDownRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_AddLn (m : (ℓ : Loc Cert.AddLn.nD Cert.AddLn.τ Cert.AddLn.sig) → Buf (Elt Bits) ℓ) : Prop :=
  True

def Pre_AddLnIdeal (m : (ℓ : Loc Cert.AddLnIdeal.nD Cert.AddLnIdeal.τ Cert.AddLnIdeal.sig) → Buf (Elt Ideal) ℓ) : Prop :=
  True

def Pre_AddLnRefIdeal (m : (ℓ : Loc Cert.AddLnRefIdeal.nD Cert.AddLnRefIdeal.τ Cert.AddLnRefIdeal.sig) → Buf (Elt Ideal) ℓ) : Prop :=
  True

def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def quiescent_Ret [hRet : Cert.Ret.Facts] : Prop :=
  ∀ (m : (ℓ : Loc Cert.Ret.nD Cert.Ret.τ Cert.Ret.sig) → Buf (Elt Bits) ℓ) (g : Dev Cert.Ret.nD → PrngReg), Pre_Ret m →
    θ_run (Cert.Ret.defs (F := Bits)) (onTc (τ := Cert.Ret.τ) (Cert.Ret.main (F := Bits))) ⟨m, fun _ => 0, g⟩ (fun r => (∀ c : Dev Cert.Ret.nD,
      r.2.mem ((c.tc : Thread Cert.Ret.nD Cert.Ret.τ).loc Cert.Ret.main_arg0) = m ((c.tc : Thread Cert.Ret.nD Cert.Ret.τ).loc Cert.Ret.main_arg0)
      ∧ r.2.mem ((c.tc : Thread Cert.Ret.nD Cert.Ret.τ).loc Cert.Ret.main_arg1) = m ((c.tc : Thread Cert.Ret.nD Cert.Ret.τ).loc Cert.Ret.main_arg1))
      ∧ r.2.sem = fun _ => 0)

def quiescent_RetIdeal [hRetIdeal : Cert.RetIdeal.Facts] : Prop :=
  ∀ (m : (ℓ : Loc Cert.RetIdeal.nD Cert.RetIdeal.τ Cert.RetIdeal.sig) → Buf (Elt Ideal) ℓ) (g : Dev Cert.RetIdeal.nD → PrngReg), Pre_RetIdeal m →
    θ_run (Cert.RetIdeal.defs (F := Ideal)) (onTc (τ := Cert.RetIdeal.τ) (Cert.RetIdeal.main (F := Ideal))) ⟨m, fun _ => 0, g⟩ (fun r => (∀ c : Dev Cert.RetIdeal.nD,
      r.2.mem ((c.tc : Thread Cert.RetIdeal.nD Cert.RetIdeal.τ).loc Cert.RetIdeal.main_arg0) = m ((c.tc : Thread Cert.RetIdeal.nD Cert.RetIdeal.τ).loc Cert.RetIdeal.main_arg0)
      ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ r.2.sem = fun _ => 0)

def quiescent_RetRefIdeal [hRetRefIdeal : Cert.RetRefIdeal.Facts] : Prop :=
  ∀ (m : (ℓ : Loc Cert.RetRefIdeal.nD Cert.RetRefIdeal.τ Cert.RetRefIdeal.sig) → Buf (Elt Ideal) ℓ) (g : Dev Cert.RetRefIdeal.nD → PrngReg), Pre_RetRefIdeal m →
    θ_run (Cert.RetRefIdeal.defs (F := Ideal)) (onTc (τ := Cert.RetRefIdeal.τ) (Cert.RetRefIdeal.main (F := Ideal))) ⟨m, fun _ => 0, g⟩ (fun r => (∀ c : Dev Cert.RetRefIdeal.nD,
      r.2.mem ((c.tc : Thread Cert.RetRefIdeal.nD Cert.RetRefIdeal.τ).loc Cert.RetRefIdeal.main_arg0) = m ((c.tc : Thread Cert.RetRefIdeal.nD Cert.RetRefIdeal.τ).loc Cert.RetRefIdeal.main_arg0)
      ∧ r.2.mem ((c.tc : Thread Cert.RetRefIdeal.nD Cert.RetRefIdeal.τ).loc Cert.RetRefIdeal.main_arg1) = m ((c.tc : Thread Cert.RetRefIdeal.nD Cert.RetRefIdeal.τ).loc Cert.RetRefIdeal.main_arg1))
      ∧ r.2.sem = fun _ => 0)

def quiescent_RetP [hRetP : Cert.RetP.Facts] : Prop :=
  ∀ (m : (ℓ : Loc Cert.RetP.nD Cert.RetP.τ Cert.RetP.sig) → Buf (Elt Bits) ℓ) (g : Dev Cert.RetP.nD → PrngReg), Pre_RetP m →
    θ_run (Cert.RetP.defs (F := Bits)) (onTc (τ := Cert.RetP.τ) (Cert.RetP.main (F := Bits))) ⟨m, fun _ => 0, g⟩ (fun r => (∀ c : Dev Cert.RetP.nD,
      r.2.mem ((c.tc : Thread Cert.RetP.nD Cert.RetP.τ).loc Cert.RetP.main_arg0) = m ((c.tc : Thread Cert.RetP.nD Cert.RetP.τ).loc Cert.RetP.main_arg0))
      ∧ r.2.sem = fun _ => 0)

def quiescent_RetPIdeal [hRetPIdeal : Cert.RetPIdeal.Facts] : Prop :=
  ∀ (m : (ℓ : Loc Cert.RetPIdeal.nD Cert.RetPIdeal.τ Cert.RetPIdeal.sig) → Buf (Elt Ideal) ℓ) (g : Dev Cert.RetPIdeal.nD → PrngReg), Pre_RetPIdeal m →
    θ_run (Cert.RetPIdeal.defs (F := Ideal)) (onTc (τ := Cert.RetPIdeal.τ) (Cert.RetPIdeal.main (F := Ideal))) ⟨m, fun _ => 0, g⟩ (fun r => (∀ c : Dev Cert.RetPIdeal.nD,
      r.2.mem ((c.tc : Thread Cert.RetPIdeal.nD Cert.RetPIdeal.τ).loc Cert.RetPIdeal.main_arg0) = m ((c.tc : Thread Cert.RetPIdeal.nD Cert.RetPIdeal.τ).loc Cert.RetPIdeal.main_arg0))
      ∧ r.2.sem = fun _ => 0)

def quiescent_RetPRefIdeal [hRetPRefIdeal : Cert.RetPRefIdeal.Facts] : Prop :=
  ∀ (m : (ℓ : Loc Cert.RetPRefIdeal.nD Cert.RetPRefIdeal.τ Cert.RetPRefIdeal.sig) → Buf (Elt Ideal) ℓ) (g : Dev Cert.RetPRefIdeal.nD → PrngReg), Pre_RetPRefIdeal m →
    θ_run (Cert.RetPRefIdeal.defs (F := Ideal)) (onTc (τ := Cert.RetPRefIdeal.τ) (Cert.RetPRefIdeal.main (F := Ideal))) ⟨m, fun _ => 0, g⟩ (fun r => (∀ c : Dev Cert.RetPRefIdeal.nD,
      r.2.mem ((c.tc : Thread Cert.RetPRefIdeal.nD Cert.RetPRefIdeal.τ).loc Cert.RetPRefIdeal.main_arg0) = m ((c.tc : Thread Cert.RetPRefIdeal.nD Cert.RetPRefIdeal.τ).loc Cert.RetPRefIdeal.main_arg0))
      ∧ r.2.sem = fun _ => 0)

def quiescent_MmIn [hMmIn : Cert.MmIn.Facts] : Prop :=
  ∀ (m : (ℓ : Loc Cert.MmIn.nD Cert.MmIn.τ Cert.MmIn.sig) → Buf (Elt Bits) ℓ) (g : Dev Cert.MmIn.nD → PrngReg), Pre_MmIn m →
    θ_run (Cert.MmIn.defs (F := Bits)) (onTc (τ := Cert.MmIn.τ) (Cert.MmIn.main (F := Bits))) ⟨m, fun _ => 0, g⟩ (fun r => (∀ c : Dev Cert.MmIn.nD,
      r.2.mem ((c.tc : Thread Cert.MmIn.nD Cert.MmIn.τ).loc Cert.MmIn.main_arg0) = m ((c.tc : Thread Cert.MmIn.nD Cert.MmIn.τ).loc Cert.MmIn.main_arg0)
      ∧ r.2.mem ((c.tc : Thread Cert.MmIn.nD Cert.MmIn.τ).loc Cert.MmIn.main_arg1) = m ((c.tc : Thread Cert.MmIn.nD Cert.MmIn.τ).loc Cert.MmIn.main_arg1))
      ∧ r.2.sem = fun _ => 0)

def quiescent_MmInIdeal [hMmInIdeal : Cert.MmInIdeal.Facts] : Prop :=
  ∀ (m : (ℓ : Loc Cert.MmInIdeal.nD Cert.MmInIdeal.τ Cert.MmInIdeal.sig) → Buf (Elt Ideal) ℓ) (g : Dev Cert.MmInIdeal.nD → PrngReg), Pre_MmInIdeal m →
    θ_run (Cert.MmInIdeal.defs (F := Ideal)) (onTc (τ := Cert.MmInIdeal.τ) (Cert.MmInIdeal.main (F := Ideal))) ⟨m, fun _ => 0, g⟩ (fun r => (∀ c : Dev Cert.MmInIdeal.nD,
      r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
      ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ r.2.sem = fun _ => 0)

def quiescent_MmInRefIdeal [hMmInRefIdeal : Cert.MmInRefIdeal.Facts] : Prop :=
  ∀ (m : (ℓ : Loc Cert.MmInRefIdeal.nD Cert.MmInRefIdeal.τ Cert.MmInRefIdeal.sig) → Buf (Elt Ideal) ℓ) (g : Dev Cert.MmInRefIdeal.nD → PrngReg), Pre_MmInRefIdeal m →
    θ_run (Cert.MmInRefIdeal.defs (F := Ideal)) (onTc (τ := Cert.MmInRefIdeal.τ) (Cert.MmInRefIdeal.main (F := Ideal))) ⟨m, fun _ => 0, g⟩ (fun r => (∀ c : Dev Cert.MmInRefIdeal.nD,
      r.2.mem ((c.tc : Thread Cert.MmInRefIdeal.nD Cert.MmInRefIdeal.τ).loc Cert.MmInRefIdeal.main_arg0) = m ((c.tc : Thread Cert.MmInRefIdeal.nD Cert.MmInRefIdeal.τ).loc Cert.MmInRefIdeal.main_arg0)
      ∧ r.2.mem ((c.tc : Thread Cert.MmInRefIdeal.nD Cert.MmInRefIdeal.τ).loc Cert.MmInRefIdeal.main_arg1) = m ((c.tc : Thread Cert.MmInRefIdeal.nD Cert.MmInRefIdeal.τ).loc Cert.MmInRefIdeal.main_arg1))
      ∧ r.2.sem = fun _ => 0)

def quiescent_MmO [hMmO : Cert.MmO.Facts] : Prop :=
  ∀ (m : (ℓ : Loc Cert.MmO.nD Cert.MmO.τ Cert.MmO.sig) → Buf (Elt Bits) ℓ) (g : Dev Cert.MmO.nD → PrngReg), Pre_MmO m →
    θ_run (Cert.MmO.defs (F := Bits)) (onTc (τ := Cert.MmO.τ) (Cert.MmO.main (F := Bits))) ⟨m, fun _ => 0, g⟩ (fun r => (∀ c : Dev Cert.MmO.nD,
      r.2.mem ((c.tc : Thread Cert.MmO.nD Cert.MmO.τ).loc Cert.MmO.main_arg0) = m ((c.tc : Thread Cert.MmO.nD Cert.MmO.τ).loc Cert.MmO.main_arg0)
      ∧ r.2.mem ((c.tc : Thread Cert.MmO.nD Cert.MmO.τ).loc Cert.MmO.main_arg1) = m ((c.tc : Thread Cert.MmO.nD Cert.MmO.τ).loc Cert.MmO.main_arg1))
      ∧ r.2.sem = fun _ => 0)

def quiescent_MmOIdeal [hMmOIdeal : Cert.MmOIdeal.Facts] : Prop :=
  ∀ (m : (ℓ : Loc Cert.MmOIdeal.nD Cert.MmOIdeal.τ Cert.MmOIdeal.sig) → Buf (Elt Ideal) ℓ) (g : Dev Cert.MmOIdeal.nD → PrngReg), Pre_MmOIdeal m →
    θ_run (Cert.MmOIdeal.defs (F := Ideal)) (onTc (τ := Cert.MmOIdeal.τ) (Cert.MmOIdeal.main (F := Ideal))) ⟨m, fun _ => 0, g⟩ (fun r => (∀ c : Dev Cert.MmOIdeal.nD,
      r.2.mem ((c.tc : Thread Cert.MmOIdeal.nD Cert.MmOIdeal.τ).loc Cert.MmOIdeal.main_arg0) = m ((c.tc : Thread Cert.MmOIdeal.nD Cert.MmOIdeal.τ).loc Cert.MmOIdeal.main_arg0)
      ∧ r.2.mem ((c.tc : Thread Cert.MmOIdeal.nD Cert.MmOIdeal.τ).loc Cert.MmOIdeal.main_arg1) = m ((c.tc : Thread Cert.MmOIdeal.nD Cert.MmOIdeal.τ).loc Cert.MmOIdeal.main_arg1))
      ∧ r.2.sem = fun _ => 0)

def quiescent_MmORefIdeal [hMmORefIdeal : Cert.MmORefIdeal.Facts] : Prop :=
  ∀ (m : (ℓ : Loc Cert.MmORefIdeal.nD Cert.MmORefIdeal.τ Cert.MmORefIdeal.sig) → Buf (Elt Ideal) ℓ) (g : Dev Cert.MmORefIdeal.nD → PrngReg), Pre_MmORefIdeal m →
    θ_run (Cert.MmORefIdeal.defs (F := Ideal)) (onTc (τ := Cert.MmORefIdeal.τ) (Cert.MmORefIdeal.main (F := Ideal))) ⟨m, fun _ => 0, g⟩ (fun r => (∀ c : Dev Cert.MmORefIdeal.nD,
      r.2.mem ((c.tc : Thread Cert.MmORefIdeal.nD Cert.MmORefIdeal.τ).loc Cert.MmORefIdeal.main_arg0) = m ((c.tc : Thread Cert.MmORefIdeal.nD Cert.MmORefIdeal.τ).loc Cert.MmORefIdeal.main_arg0)
      ∧ r.2.mem ((c.tc : Thread Cert.MmORefIdeal.nD Cert.MmORefIdeal.τ).loc Cert.MmORefIdeal.main_arg1) = m ((c.tc : Thread Cert.MmORefIdeal.nD Cert.MmORefIdeal.τ).loc Cert.MmORefIdeal.main_arg1))
      ∧ r.2.sem = fun _ => 0)

def quiescent_MmUp [hMmUp : Cert.MmUp.Facts] : Prop :=
  ∀ (m : (ℓ : Loc Cert.MmUp.nD Cert.MmUp.τ Cert.MmUp.sig) → Buf (Elt Bits) ℓ) (g : Dev Cert.MmUp.nD → PrngReg), Pre_MmUp m →
    θ_run (Cert.MmUp.defs (F := Bits)) (onTc (τ := Cert.MmUp.τ) (Cert.MmUp.main (F := Bits))) ⟨m, fun _ => 0, g⟩ (fun r => (∀ c : Dev Cert.MmUp.nD,
      r.2.mem ((c.tc : Thread Cert.MmUp.nD Cert.MmUp.τ).loc Cert.MmUp.main_arg0) = m ((c.tc : Thread Cert.MmUp.nD Cert.MmUp.τ).loc Cert.MmUp.main_arg0)
      ∧ r.2.mem ((c.tc : Thread Cert.MmUp.nD Cert.MmUp.τ).loc Cert.MmUp.main_arg1) = m ((c.tc : Thread Cert.MmUp.nD Cert.MmUp.τ).loc Cert.MmUp.main_arg1)
      ∧ r.2.mem ((c.tc : Thread Cert.MmUp.nD Cert.MmUp.τ).loc Cert.MmUp.main_arg2) = m ((c.tc : Thread Cert.MmUp.nD Cert.MmUp.τ).loc Cert.MmUp.main_arg2))
      ∧ r.2.sem = fun _ => 0)

def quiescent_MmUpIdeal [hMmUpIdeal : Cert.MmUpIdeal.Facts] : Prop :=
  ∀ (m : (ℓ : Loc Cert.MmUpIdeal.nD Cert.MmUpIdeal.τ Cert.MmUpIdeal.sig) → Buf (Elt Ideal) ℓ) (g : Dev Cert.MmUpIdeal.nD → PrngReg), Pre_MmUpIdeal m →
    θ_run (Cert.MmUpIdeal.defs (F := Ideal)) (onTc (τ := Cert.MmUpIdeal.τ) (Cert.MmUpIdeal.main (F := Ideal))) ⟨m, fun _ => 0, g⟩ (fun r => (∀ c : Dev Cert.MmUpIdeal.nD,
      r.2.mem ((c.tc : Thread Cert.MmUpIdeal.nD Cert.MmUpIdeal.τ).loc Cert.MmUpIdeal.main_arg0) = m ((c.tc : Thread Cert.MmUpIdeal.nD Cert.MmUpIdeal.τ).loc Cert.MmUpIdeal.main_arg0)
      ∧ r.2.mem ((c.tc : Thread Cert.MmUpIdeal.nD Cert.MmUpIdeal.τ).loc Cert.MmUpIdeal.main_arg1) = m ((c.tc : Thread Cert.MmUpIdeal.nD Cert.MmUpIdeal.τ).loc Cert.MmUpIdeal.main_arg1)
      ∧ r.2.mem ((c.tc : Thread Cert.MmUpIdeal.nD Cert.MmUpIdeal.τ).loc Cert.MmUpIdeal.main_arg2) = m ((c.tc : Thread Cert.MmUpIdeal.nD Cert.MmUpIdeal.τ).loc Cert.MmUpIdeal.main_arg2))
      ∧ r.2.sem = fun _ => 0)

def quiescent_MmUpRefIdeal [hMmUpRefIdeal : Cert.MmUpRefIdeal.Facts] : Prop :=
  ∀ (m : (ℓ : Loc Cert.MmUpRefIdeal.nD Cert.MmUpRefIdeal.τ Cert.MmUpRefIdeal.sig) → Buf (Elt Ideal) ℓ) (g : Dev Cert.MmUpRefIdeal.nD → PrngReg), Pre_MmUpRefIdeal m →
    θ_run (Cert.MmUpRefIdeal.defs (F := Ideal)) (onTc (τ := Cert.MmUpRefIdeal.τ) (Cert.MmUpRefIdeal.main (F := Ideal))) ⟨m, fun _ => 0, g⟩ (fun r => (∀ c : Dev Cert.MmUpRefIdeal.nD,
      r.2.mem ((c.tc : Thread Cert.MmUpRefIdeal.nD Cert.MmUpRefIdeal.τ).loc Cert.MmUpRefIdeal.main_arg0) = m ((c.tc : Thread Cert.MmUpRefIdeal.nD Cert.MmUpRefIdeal.τ).loc Cert.MmUpRefIdeal.main_arg0)
      ∧ r.2.mem ((c.tc : Thread Cert.MmUpRefIdeal.nD Cert.MmUpRefIdeal.τ).loc Cert.MmUpRefIdeal.main_arg1) = m ((c.tc : Thread Cert.MmUpRefIdeal.nD Cert.MmUpRefIdeal.τ).loc Cert.MmUpRefIdeal.main_arg1)
      ∧ r.2.mem ((c.tc : Thread Cert.MmUpRefIdeal.nD Cert.MmUpRefIdeal.τ).loc Cert.MmUpRefIdeal.main_arg2) = m ((c.tc : Thread Cert.MmUpRefIdeal.nD Cert.MmUpRefIdeal.τ).loc Cert.MmUpRefIdeal.main_arg2))
      ∧ r.2.sem = fun _ => 0)

def quiescent_MmDown [hMmDown : Cert.MmDown.Facts] : Prop :=
  ∀ (m : (ℓ : Loc Cert.MmDown.nD Cert.MmDown.τ Cert.MmDown.sig) → Buf (Elt Bits) ℓ) (g : Dev Cert.MmDown.nD → PrngReg), Pre_MmDown m →
    θ_run (Cert.MmDown.defs (F := Bits)) (onTc (τ := Cert.MmDown.τ) (Cert.MmDown.main (F := Bits))) ⟨m, fun _ => 0, g⟩ (fun r => (∀ c : Dev Cert.MmDown.nD,
      r.2.mem ((c.tc : Thread Cert.MmDown.nD Cert.MmDown.τ).loc Cert.MmDown.main_arg0) = m ((c.tc : Thread Cert.MmDown.nD Cert.MmDown.τ).loc Cert.MmDown.main_arg0)
      ∧ r.2.mem ((c.tc : Thread Cert.MmDown.nD Cert.MmDown.τ).loc Cert.MmDown.main_arg1) = m ((c.tc : Thread Cert.MmDown.nD Cert.MmDown.τ).loc Cert.MmDown.main_arg1))
      ∧ r.2.sem = fun _ => 0)

def quiescent_MmDownIdeal [hMmDownIdeal : Cert.MmDownIdeal.Facts] : Prop :=
  ∀ (m : (ℓ : Loc Cert.MmDownIdeal.nD Cert.MmDownIdeal.τ Cert.MmDownIdeal.sig) → Buf (Elt Ideal) ℓ) (g : Dev Cert.MmDownIdeal.nD → PrngReg), Pre_MmDownIdeal m →
    θ_run (Cert.MmDownIdeal.defs (F := Ideal)) (onTc (τ := Cert.MmDownIdeal.τ) (Cert.MmDownIdeal.main (F := Ideal))) ⟨m, fun _ => 0, g⟩ (fun r => (∀ c : Dev Cert.MmDownIdeal.nD,
      r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
      ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1))
      ∧ r.2.sem = fun _ => 0)

def quiescent_MmDownRefIdeal [hMmDownRefIdeal : Cert.MmDownRefIdeal.Facts] : Prop :=
  ∀ (m : (ℓ : Loc Cert.MmDownRefIdeal.nD Cert.MmDownRefIdeal.τ Cert.MmDownRefIdeal.sig) → Buf (Elt Ideal) ℓ) (g : Dev Cert.MmDownRefIdeal.nD → PrngReg), Pre_MmDownRefIdeal m →
    θ_run (Cert.MmDownRefIdeal.defs (F := Ideal)) (onTc (τ := Cert.MmDownRefIdeal.τ) (Cert.MmDownRefIdeal.main (F := Ideal))) ⟨m, fun _ => 0, g⟩ (fun r => (∀ c : Dev Cert.MmDownRefIdeal.nD,
      r.2.mem ((c.tc : Thread Cert.MmDownRefIdeal.nD Cert.MmDownRefIdeal.τ).loc Cert.MmDownRefIdeal.main_arg0) = m ((c.tc : Thread Cert.MmDownRefIdeal.nD Cert.MmDownRefIdeal.τ).loc Cert.MmDownRefIdeal.main_arg0)
      ∧ r.2.mem ((c.tc : Thread Cert.MmDownRefIdeal.nD Cert.MmDownRefIdeal.τ).loc Cert.MmDownRefIdeal.main_arg1) = m ((c.tc : Thread Cert.MmDownRefIdeal.nD Cert.MmDownRefIdeal.τ).loc Cert.MmDownRefIdeal.main_arg1))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_AddLn [hAddLn : Cert.AddLn.Facts] : Prop :=
  ∀ (m : (ℓ : Loc Cert.AddLn.nD Cert.AddLn.τ Cert.AddLn.sig) → Buf (Elt Bits) ℓ) (g : Dev Cert.AddLn.nD → PrngReg), Pre_AddLn m →
    θ_run (Cert.AddLn.defs (F := Bits)) (onTc (τ := Cert.AddLn.τ) (Cert.AddLn.main (F := Bits))) ⟨m, fun _ => 0, g⟩ (fun r => (∀ c : Dev Cert.AddLn.nD,
      r.2.mem ((c.tc : Thread Cert.AddLn.nD Cert.AddLn.τ).loc Cert.AddLn.main_arg0) = m ((c.tc : Thread Cert.AddLn.nD Cert.AddLn.τ).loc Cert.AddLn.main_arg0)
      ∧ r.2.mem ((c.tc : Thread Cert.AddLn.nD Cert.AddLn.τ).loc Cert.AddLn.main_arg1) = m ((c.tc : Thread Cert.AddLn.nD Cert.AddLn.τ).loc Cert.AddLn.main_arg1)
      ∧ r.2.mem ((c.tc : Thread Cert.AddLn.nD Cert.AddLn.τ).loc Cert.AddLn.main_arg2) = m ((c.tc : Thread Cert.AddLn.nD Cert.AddLn.τ).loc Cert.AddLn.main_arg2)
      ∧ r.2.mem ((c.tc : Thread Cert.AddLn.nD Cert.AddLn.τ).loc Cert.AddLn.main_arg3) = m ((c.tc : Thread Cert.AddLn.nD Cert.AddLn.τ).loc Cert.AddLn.main_arg3))
      ∧ r.2.sem = fun _ => 0)

def quiescent_AddLnIdeal [hAddLnIdeal : Cert.AddLnIdeal.Facts] : Prop :=
  ∀ (m : (ℓ : Loc Cert.AddLnIdeal.nD Cert.AddLnIdeal.τ Cert.AddLnIdeal.sig) → Buf (Elt Ideal) ℓ) (g : Dev Cert.AddLnIdeal.nD → PrngReg), Pre_AddLnIdeal m →
    θ_run (Cert.AddLnIdeal.defs (F := Ideal)) (onTc (τ := Cert.AddLnIdeal.τ) (Cert.AddLnIdeal.main (F := Ideal))) ⟨m, fun _ => 0, g⟩ (fun r => (∀ c : Dev Cert.AddLnIdeal.nD,
      r.2.mem ((c.tc : Thread Cert.AddLnIdeal.nD Cert.AddLnIdeal.τ).loc Cert.AddLnIdeal.main_arg0) = m ((c.tc : Thread Cert.AddLnIdeal.nD Cert.AddLnIdeal.τ).loc Cert.AddLnIdeal.main_arg0)
      ∧ r.2.mem ((c.tc : Thread Cert.AddLnIdeal.nD Cert.AddLnIdeal.τ).loc Cert.AddLnIdeal.main_arg1) = m ((c.tc : Thread Cert.AddLnIdeal.nD Cert.AddLnIdeal.τ).loc Cert.AddLnIdeal.main_arg1)
      ∧ r.2.mem ((c.tc : Thread Cert.AddLnIdeal.nD Cert.AddLnIdeal.τ).loc Cert.AddLnIdeal.main_arg2) = m ((c.tc : Thread Cert.AddLnIdeal.nD Cert.AddLnIdeal.τ).loc Cert.AddLnIdeal.main_arg2)
      ∧ r.2.mem ((c.tc : Thread Cert.AddLnIdeal.nD Cert.AddLnIdeal.τ).loc Cert.AddLnIdeal.main_arg3) = m ((c.tc : Thread Cert.AddLnIdeal.nD Cert.AddLnIdeal.τ).loc Cert.AddLnIdeal.main_arg3))
      ∧ r.2.sem = fun _ => 0)

def quiescent_AddLnRefIdeal [hAddLnRefIdeal : Cert.AddLnRefIdeal.Facts] : Prop :=
  ∀ (m : (ℓ : Loc Cert.AddLnRefIdeal.nD Cert.AddLnRefIdeal.τ Cert.AddLnRefIdeal.sig) → Buf (Elt Ideal) ℓ) (g : Dev Cert.AddLnRefIdeal.nD → PrngReg), Pre_AddLnRefIdeal m →
    θ_run (Cert.AddLnRefIdeal.defs (F := Ideal)) (onTc (τ := Cert.AddLnRefIdeal.τ) (Cert.AddLnRefIdeal.main (F := Ideal))) ⟨m, fun _ => 0, g⟩ (fun r => (∀ c : Dev Cert.AddLnRefIdeal.nD,
      r.2.mem ((c.tc : Thread Cert.AddLnRefIdeal.nD Cert.AddLnRefIdeal.τ).loc Cert.AddLnRefIdeal.main_arg0) = m ((c.tc : Thread Cert.AddLnRefIdeal.nD Cert.AddLnRefIdeal.τ).loc Cert.AddLnRefIdeal.main_arg0)
      ∧ r.2.mem ((c.tc : Thread Cert.AddLnRefIdeal.nD Cert.AddLnRefIdeal.τ).loc Cert.AddLnRefIdeal.main_arg1) = m ((c.tc : Thread Cert.AddLnRefIdeal.nD Cert.AddLnRefIdeal.τ).loc Cert.AddLnRefIdeal.main_arg1)
      ∧ r.2.mem ((c.tc : Thread Cert.AddLnRefIdeal.nD Cert.AddLnRefIdeal.τ).loc Cert.AddLnRefIdeal.main_arg2) = m ((c.tc : Thread Cert.AddLnRefIdeal.nD Cert.AddLnRefIdeal.τ).loc Cert.AddLnRefIdeal.main_arg2)
      ∧ r.2.mem ((c.tc : Thread Cert.AddLnRefIdeal.nD Cert.AddLnRefIdeal.τ).loc Cert.AddLnRefIdeal.main_arg3) = m ((c.tc : Thread Cert.AddLnRefIdeal.nD Cert.AddLnRefIdeal.τ).loc Cert.AddLnRefIdeal.main_arg3))
      ∧ r.2.sem = fun _ => 0)

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def preserves_Ret_RetIdeal : Prop :=
  True

def algebraic_RetIdeal_RetRefIdeal [hRetIdeal : Cert.RetIdeal.Facts] [hRetRefIdeal : Cert.RetRefIdeal.Facts] : Prop :=
  ∀ (m : (ℓ : Loc Cert.RetIdeal.nD Cert.RetIdeal.τ Cert.RetIdeal.sig) → Buf (Elt Ideal) ℓ) (g : Dev Cert.RetIdeal.nD → PrngReg)
    (m' : (ℓ : Loc Cert.RetRefIdeal.nD Cert.RetRefIdeal.τ Cert.RetRefIdeal.sig) → Buf (Elt Ideal) ℓ) (g' : Dev Cert.RetRefIdeal.nD → PrngReg), Pre_RetIdeal m →
    (∀ c : Dev Cert.RetIdeal.nD,
      m' ((c.tc : Thread Cert.RetRefIdeal.nD Cert.RetRefIdeal.τ).loc Cert.RetRefIdeal.main_arg0) = m ((c.tc : Thread Cert.RetIdeal.nD Cert.RetIdeal.τ).loc Cert.RetIdeal.main_arg0)
      ∧ m' ((c.tc : Thread Cert.RetRefIdeal.nD Cert.RetRefIdeal.τ).loc Cert.RetRefIdeal.main_arg1) = m ((c.tc : Thread Cert.RetIdeal.nD Cert.RetIdeal.τ).loc Cert.RetIdeal.main_arg1)) →
    ∃ (v0 : (c : Dev Cert.RetIdeal.nD) → Buf (Elt Ideal) ((c.tc : Thread Cert.RetIdeal.nD Cert.RetIdeal.τ).loc Cert.RetIdeal.main_v26_0)) (v1 : (c : Dev Cert.RetIdeal.nD) → Buf (Elt Ideal) ((c.tc : Thread Cert.RetIdeal.nD Cert.RetIdeal.τ).loc Cert.RetIdeal.main_v26_1)),
      θ_run (Cert.RetIdeal.defs (F := Ideal)) (onTc (τ := Cert.RetIdeal.τ) (Cert.RetIdeal.main (F := Ideal))) ⟨m, fun _ => 0, g⟩ (fun r => ∀ c : Dev Cert.RetIdeal.nD,
          r.2.mem ((c.tc : Thread Cert.RetIdeal.nD Cert.RetIdeal.τ).loc Cert.RetIdeal.main_v26_0) = v0 c
          ∧ r.2.mem ((c.tc : Thread Cert.RetIdeal.nD Cert.RetIdeal.τ).loc Cert.RetIdeal.main_v26_1) = v1 c
          ∧ r.2.mem ((c.tc : Thread Cert.RetIdeal.nD Cert.RetIdeal.τ).loc Cert.RetIdeal.main_arg0) = m ((c.tc : Thread Cert.RetIdeal.nD Cert.RetIdeal.τ).loc Cert.RetIdeal.main_arg0)
          ∧ r.2.mem ((c.tc : Thread Cert.RetIdeal.nD Cert.RetIdeal.τ).loc Cert.RetIdeal.main_arg1) = m ((c.tc : Thread Cert.RetIdeal.nD Cert.RetIdeal.τ).loc Cert.RetIdeal.main_arg1))
      ∧ θ_run (Cert.RetRefIdeal.defs (F := Ideal)) (onTc (τ := Cert.RetRefIdeal.τ) (Cert.RetRefIdeal.main (F := Ideal))) ⟨m', fun _ => 0, g'⟩ (fun r => ∀ c : Dev Cert.RetRefIdeal.nD,
          r.2.mem ((c.tc : Thread Cert.RetRefIdeal.nD Cert.RetRefIdeal.τ).loc Cert.RetRefIdeal.main_v159) = v0 c
          ∧ r.2.mem ((c.tc : Thread Cert.RetRefIdeal.nD Cert.RetRefIdeal.τ).loc Cert.RetRefIdeal.main_v135) = v1 c
          ∧ r.2.mem ((c.tc : Thread Cert.RetRefIdeal.nD Cert.RetRefIdeal.τ).loc Cert.RetRefIdeal.main_arg0) = m' ((c.tc : Thread Cert.RetRefIdeal.nD Cert.RetRefIdeal.τ).loc Cert.RetRefIdeal.main_arg0)
          ∧ r.2.mem ((c.tc : Thread Cert.RetRefIdeal.nD Cert.RetRefIdeal.τ).loc Cert.RetRefIdeal.main_arg1) = m' ((c.tc : Thread Cert.RetRefIdeal.nD Cert.RetRefIdeal.τ).loc Cert.RetRefIdeal.main_arg1))

def preserves_RetP_RetPIdeal : Prop :=
  True

def algebraic_RetPIdeal_RetPRefIdeal [hRetPIdeal : Cert.RetPIdeal.Facts] [hRetPRefIdeal : Cert.RetPRefIdeal.Facts] : Prop :=
  ∀ (m : (ℓ : Loc Cert.RetPIdeal.nD Cert.RetPIdeal.τ Cert.RetPIdeal.sig) → Buf (Elt Ideal) ℓ) (g : Dev Cert.RetPIdeal.nD → PrngReg)
    (m' : (ℓ : Loc Cert.RetPRefIdeal.nD Cert.RetPRefIdeal.τ Cert.RetPRefIdeal.sig) → Buf (Elt Ideal) ℓ) (g' : Dev Cert.RetPRefIdeal.nD → PrngReg), Pre_RetPIdeal m →
    (∀ c : Dev Cert.RetPIdeal.nD,
      m' ((c.tc : Thread Cert.RetPRefIdeal.nD Cert.RetPRefIdeal.τ).loc Cert.RetPRefIdeal.main_arg0) = m ((c.tc : Thread Cert.RetPIdeal.nD Cert.RetPIdeal.τ).loc Cert.RetPIdeal.main_arg0)) →
    ∃ (v0 : (c : Dev Cert.RetPIdeal.nD) → Buf (Elt Ideal) ((c.tc : Thread Cert.RetPIdeal.nD Cert.RetPIdeal.τ).loc Cert.RetPIdeal.main_v27_1)),
      θ_run (Cert.RetPIdeal.defs (F := Ideal)) (onTc (τ := Cert.RetPIdeal.τ) (Cert.RetPIdeal.main (F := Ideal))) ⟨m, fun _ => 0, g⟩ (fun r => ∀ c : Dev Cert.RetPIdeal.nD,
          r.2.mem ((c.tc : Thread Cert.RetPIdeal.nD Cert.RetPIdeal.τ).loc Cert.RetPIdeal.main_v27_1) = v0 c
          ∧ r.2.mem ((c.tc : Thread Cert.RetPIdeal.nD Cert.RetPIdeal.τ).loc Cert.RetPIdeal.main_arg0) = m ((c.tc : Thread Cert.RetPIdeal.nD Cert.RetPIdeal.τ).loc Cert.RetPIdeal.main_arg0))
      ∧ θ_run (Cert.RetPRefIdeal.defs (F := Ideal)) (onTc (τ := Cert.RetPRefIdeal.τ) (Cert.RetPRefIdeal.main (F := Ideal))) ⟨m', fun _ => 0, g'⟩ (fun r => ∀ c : Dev Cert.RetPRefIdeal.nD,
          r.2.mem ((c.tc : Thread Cert.RetPRefIdeal.nD Cert.RetPRefIdeal.τ).loc Cert.RetPRefIdeal.main_v66_5) = v0 c
          ∧ r.2.mem ((c.tc : Thread Cert.RetPRefIdeal.nD Cert.RetPRefIdeal.τ).loc Cert.RetPRefIdeal.main_arg0) = m' ((c.tc : Thread Cert.RetPRefIdeal.nD Cert.RetPRefIdeal.τ).loc Cert.RetPRefIdeal.main_arg0))

def preserves_MmIn_MmInIdeal : Prop :=
  True

def algebraic_MmInIdeal_MmInRefIdeal [hMmInIdeal : Cert.MmInIdeal.Facts] [hMmInRefIdeal : Cert.MmInRefIdeal.Facts] : Prop :=
  ∀ (m : (ℓ : Loc Cert.MmInIdeal.nD Cert.MmInIdeal.τ Cert.MmInIdeal.sig) → Buf (Elt Ideal) ℓ) (g : Dev Cert.MmInIdeal.nD → PrngReg)
    (m' : (ℓ : Loc Cert.MmInRefIdeal.nD Cert.MmInRefIdeal.τ Cert.MmInRefIdeal.sig) → Buf (Elt Ideal) ℓ) (g' : Dev Cert.MmInRefIdeal.nD → PrngReg), Pre_MmInIdeal m →
    (∀ c : Dev Cert.MmInIdeal.nD,
      m' ((c.tc : Thread Cert.MmInRefIdeal.nD Cert.MmInRefIdeal.τ).loc Cert.MmInRefIdeal.main_arg0) = m ((c.tc : Thread Cert.MmInIdeal.nD Cert.MmInIdeal.τ).loc Cert.MmInIdeal.main_arg0)
      ∧ m' ((c.tc : Thread Cert.MmInRefIdeal.nD Cert.MmInRefIdeal.τ).loc Cert.MmInRefIdeal.main_arg1) = m ((c.tc : Thread Cert.MmInIdeal.nD Cert.MmInIdeal.τ).loc Cert.MmInIdeal.main_arg1)) →
    ∃ (v0 : (c : Dev Cert.MmInIdeal.nD) → Buf (Elt Ideal) ((c.tc : Thread Cert.MmInIdeal.nD Cert.MmInIdeal.τ).loc Cert.MmInIdeal.main_v0)),
      θ_run (Cert.MmInIdeal.defs (F := Ideal)) (onTc (τ := Cert.MmInIdeal.τ) (Cert.MmInIdeal.main (F := Ideal))) ⟨m, fun _ => 0, g⟩ (fun r => ∀ c : Dev Cert.MmInIdeal.nD,
          r.2.mem ((c.tc : Thread Cert.MmInIdeal.nD Cert.MmInIdeal.τ).loc Cert.MmInIdeal.main_v0) = v0 c
          ∧ r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
          ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ θ_run (Cert.MmInRefIdeal.defs (F := Ideal)) (onTc (τ := Cert.MmInRefIdeal.τ) (Cert.MmInRefIdeal.main (F := Ideal))) ⟨m', fun _ => 0, g'⟩ (fun r => ∀ c : Dev Cert.MmInRefIdeal.nD,
          r.2.mem ((c.tc : Thread Cert.MmInRefIdeal.nD Cert.MmInRefIdeal.τ).loc Cert.MmInRefIdeal.main_v3) = v0 c
          ∧ r.2.mem ((c.tc : Thread Cert.MmInRefIdeal.nD Cert.MmInRefIdeal.τ).loc Cert.MmInRefIdeal.main_arg0) = m' ((c.tc : Thread Cert.MmInRefIdeal.nD Cert.MmInRefIdeal.τ).loc Cert.MmInRefIdeal.main_arg0)
          ∧ r.2.mem ((c.tc : Thread Cert.MmInRefIdeal.nD Cert.MmInRefIdeal.τ).loc Cert.MmInRefIdeal.main_arg1) = m' ((c.tc : Thread Cert.MmInRefIdeal.nD Cert.MmInRefIdeal.τ).loc Cert.MmInRefIdeal.main_arg1))

def preserves_MmO_MmOIdeal : Prop :=
  True

def algebraic_MmOIdeal_MmORefIdeal [hMmOIdeal : Cert.MmOIdeal.Facts] [hMmORefIdeal : Cert.MmORefIdeal.Facts] : Prop :=
  ∀ (m : (ℓ : Loc Cert.MmOIdeal.nD Cert.MmOIdeal.τ Cert.MmOIdeal.sig) → Buf (Elt Ideal) ℓ) (g : Dev Cert.MmOIdeal.nD → PrngReg)
    (m' : (ℓ : Loc Cert.MmORefIdeal.nD Cert.MmORefIdeal.τ Cert.MmORefIdeal.sig) → Buf (Elt Ideal) ℓ) (g' : Dev Cert.MmORefIdeal.nD → PrngReg), Pre_MmOIdeal m →
    (∀ c : Dev Cert.MmOIdeal.nD,
      m' ((c.tc : Thread Cert.MmORefIdeal.nD Cert.MmORefIdeal.τ).loc Cert.MmORefIdeal.main_arg0) = m ((c.tc : Thread Cert.MmOIdeal.nD Cert.MmOIdeal.τ).loc Cert.MmOIdeal.main_arg0)
      ∧ m' ((c.tc : Thread Cert.MmORefIdeal.nD Cert.MmORefIdeal.τ).loc Cert.MmORefIdeal.main_arg1) = m ((c.tc : Thread Cert.MmOIdeal.nD Cert.MmOIdeal.τ).loc Cert.MmOIdeal.main_arg1)) →
    ∃ (v0 : (c : Dev Cert.MmOIdeal.nD) → Buf (Elt Ideal) ((c.tc : Thread Cert.MmOIdeal.nD Cert.MmOIdeal.τ).loc Cert.MmOIdeal.main_v0)),
      θ_run (Cert.MmOIdeal.defs (F := Ideal)) (onTc (τ := Cert.MmOIdeal.τ) (Cert.MmOIdeal.main (F := Ideal))) ⟨m, fun _ => 0, g⟩ (fun r => ∀ c : Dev Cert.MmOIdeal.nD,
          r.2.mem ((c.tc : Thread Cert.MmOIdeal.nD Cert.MmOIdeal.τ).loc Cert.MmOIdeal.main_v0) = v0 c
          ∧ r.2.mem ((c.tc : Thread Cert.MmOIdeal.nD Cert.MmOIdeal.τ).loc Cert.MmOIdeal.main_arg0) = m ((c.tc : Thread Cert.MmOIdeal.nD Cert.MmOIdeal.τ).loc Cert.MmOIdeal.main_arg0)
          ∧ r.2.mem ((c.tc : Thread Cert.MmOIdeal.nD Cert.MmOIdeal.τ).loc Cert.MmOIdeal.main_arg1) = m ((c.tc : Thread Cert.MmOIdeal.nD Cert.MmOIdeal.τ).loc Cert.MmOIdeal.main_arg1))
      ∧ θ_run (Cert.MmORefIdeal.defs (F := Ideal)) (onTc (τ := Cert.MmORefIdeal.τ) (Cert.MmORefIdeal.main (F := Ideal))) ⟨m', fun _ => 0, g'⟩ (fun r => ∀ c : Dev Cert.MmORefIdeal.nD,
          r.2.mem ((c.tc : Thread Cert.MmORefIdeal.nD Cert.MmORefIdeal.τ).loc Cert.MmORefIdeal.main_v3) = v0 c
          ∧ r.2.mem ((c.tc : Thread Cert.MmORefIdeal.nD Cert.MmORefIdeal.τ).loc Cert.MmORefIdeal.main_arg0) = m' ((c.tc : Thread Cert.MmORefIdeal.nD Cert.MmORefIdeal.τ).loc Cert.MmORefIdeal.main_arg0)
          ∧ r.2.mem ((c.tc : Thread Cert.MmORefIdeal.nD Cert.MmORefIdeal.τ).loc Cert.MmORefIdeal.main_arg1) = m' ((c.tc : Thread Cert.MmORefIdeal.nD Cert.MmORefIdeal.τ).loc Cert.MmORefIdeal.main_arg1))

def preserves_MmUp_MmUpIdeal : Prop :=
  True

def algebraic_MmUpIdeal_MmUpRefIdeal [hMmUpIdeal : Cert.MmUpIdeal.Facts] [hMmUpRefIdeal : Cert.MmUpRefIdeal.Facts] : Prop :=
  ∀ (m : (ℓ : Loc Cert.MmUpIdeal.nD Cert.MmUpIdeal.τ Cert.MmUpIdeal.sig) → Buf (Elt Ideal) ℓ) (g : Dev Cert.MmUpIdeal.nD → PrngReg)
    (m' : (ℓ : Loc Cert.MmUpRefIdeal.nD Cert.MmUpRefIdeal.τ Cert.MmUpRefIdeal.sig) → Buf (Elt Ideal) ℓ) (g' : Dev Cert.MmUpRefIdeal.nD → PrngReg), Pre_MmUpIdeal m →
    (∀ c : Dev Cert.MmUpIdeal.nD,
      m' ((c.tc : Thread Cert.MmUpRefIdeal.nD Cert.MmUpRefIdeal.τ).loc Cert.MmUpRefIdeal.main_arg0) = m ((c.tc : Thread Cert.MmUpIdeal.nD Cert.MmUpIdeal.τ).loc Cert.MmUpIdeal.main_arg0)
      ∧ m' ((c.tc : Thread Cert.MmUpRefIdeal.nD Cert.MmUpRefIdeal.τ).loc Cert.MmUpRefIdeal.main_arg1) = m ((c.tc : Thread Cert.MmUpIdeal.nD Cert.MmUpIdeal.τ).loc Cert.MmUpIdeal.main_arg1)
      ∧ m' ((c.tc : Thread Cert.MmUpRefIdeal.nD Cert.MmUpRefIdeal.τ).loc Cert.MmUpRefIdeal.main_arg2) = m ((c.tc : Thread Cert.MmUpIdeal.nD Cert.MmUpIdeal.τ).loc Cert.MmUpIdeal.main_arg2)) →
    ∃ (v0 : (c : Dev Cert.MmUpIdeal.nD) → Buf (Elt Ideal) ((c.tc : Thread Cert.MmUpIdeal.nD Cert.MmUpIdeal.τ).loc Cert.MmUpIdeal.main_v0)) (v1 : (c : Dev Cert.MmUpIdeal.nD) → Buf (Elt Ideal) ((c.tc : Thread Cert.MmUpIdeal.nD Cert.MmUpIdeal.τ).loc Cert.MmUpIdeal.main_v3)) (v2 : (c : Dev Cert.MmUpIdeal.nD) → Buf (Elt Ideal) ((c.tc : Thread Cert.MmUpIdeal.nD Cert.MmUpIdeal.τ).loc Cert.MmUpIdeal.main_v6)),
      θ_run (Cert.MmUpIdeal.defs (F := Ideal)) (onTc (τ := Cert.MmUpIdeal.τ) (Cert.MmUpIdeal.main (F := Ideal))) ⟨m, fun _ => 0, g⟩ (fun r => ∀ c : Dev Cert.MmUpIdeal.nD,
          r.2.mem ((c.tc : Thread Cert.MmUpIdeal.nD Cert.MmUpIdeal.τ).loc Cert.MmUpIdeal.main_v0) = v0 c
          ∧ r.2.mem ((c.tc : Thread Cert.MmUpIdeal.nD Cert.MmUpIdeal.τ).loc Cert.MmUpIdeal.main_v3) = v1 c
          ∧ r.2.mem ((c.tc : Thread Cert.MmUpIdeal.nD Cert.MmUpIdeal.τ).loc Cert.MmUpIdeal.main_v6) = v2 c
          ∧ r.2.mem ((c.tc : Thread Cert.MmUpIdeal.nD Cert.MmUpIdeal.τ).loc Cert.MmUpIdeal.main_arg0) = m ((c.tc : Thread Cert.MmUpIdeal.nD Cert.MmUpIdeal.τ).loc Cert.MmUpIdeal.main_arg0)
          ∧ r.2.mem ((c.tc : Thread Cert.MmUpIdeal.nD Cert.MmUpIdeal.τ).loc Cert.MmUpIdeal.main_arg1) = m ((c.tc : Thread Cert.MmUpIdeal.nD Cert.MmUpIdeal.τ).loc Cert.MmUpIdeal.main_arg1)
          ∧ r.2.mem ((c.tc : Thread Cert.MmUpIdeal.nD Cert.MmUpIdeal.τ).loc Cert.MmUpIdeal.main_arg2) = m ((c.tc : Thread Cert.MmUpIdeal.nD Cert.MmUpIdeal.τ).loc Cert.MmUpIdeal.main_arg2))
      ∧ θ_run (Cert.MmUpRefIdeal.defs (F := Ideal)) (onTc (τ := Cert.MmUpRefIdeal.τ) (Cert.MmUpRefIdeal.main (F := Ideal))) ⟨m', fun _ => 0, g'⟩ (fun r => ∀ c : Dev Cert.MmUpRefIdeal.nD,
          r.2.mem ((c.tc : Thread Cert.MmUpRefIdeal.nD Cert.MmUpRefIdeal.τ).loc Cert.MmUpRefIdeal.main_v3) = v0 c
          ∧ r.2.mem ((c.tc : Thread Cert.MmUpRefIdeal.nD Cert.MmUpRefIdeal.τ).loc Cert.MmUpRefIdeal.main_v17) = v1 c
          ∧ r.2.mem ((c.tc : Thread Cert.MmUpRefIdeal.nD Cert.MmUpRefIdeal.τ).loc Cert.MmUpRefIdeal.main_v18) = v2 c
          ∧ r.2.mem ((c.tc : Thread Cert.MmUpRefIdeal.nD Cert.MmUpRefIdeal.τ).loc Cert.MmUpRefIdeal.main_arg0) = m' ((c.tc : Thread Cert.MmUpRefIdeal.nD Cert.MmUpRefIdeal.τ).loc Cert.MmUpRefIdeal.main_arg0)
          ∧ r.2.mem ((c.tc : Thread Cert.MmUpRefIdeal.nD Cert.MmUpRefIdeal.τ).loc Cert.MmUpRefIdeal.main_arg1) = m' ((c.tc : Thread Cert.MmUpRefIdeal.nD Cert.MmUpRefIdeal.τ).loc Cert.MmUpRefIdeal.main_arg1)
          ∧ r.2.mem ((c.tc : Thread Cert.MmUpRefIdeal.nD Cert.MmUpRefIdeal.τ).loc Cert.MmUpRefIdeal.main_arg2) = m' ((c.tc : Thread Cert.MmUpRefIdeal.nD Cert.MmUpRefIdeal.τ).loc Cert.MmUpRefIdeal.main_arg2))

def preserves_MmDown_MmDownIdeal : Prop :=
  True

def algebraic_MmDownIdeal_MmDownRefIdeal [hMmDownIdeal : Cert.MmDownIdeal.Facts] [hMmDownRefIdeal : Cert.MmDownRefIdeal.Facts] : Prop :=
  ∀ (m : (ℓ : Loc Cert.MmDownIdeal.nD Cert.MmDownIdeal.τ Cert.MmDownIdeal.sig) → Buf (Elt Ideal) ℓ) (g : Dev Cert.MmDownIdeal.nD → PrngReg)
    (m' : (ℓ : Loc Cert.MmDownRefIdeal.nD Cert.MmDownRefIdeal.τ Cert.MmDownRefIdeal.sig) → Buf (Elt Ideal) ℓ) (g' : Dev Cert.MmDownRefIdeal.nD → PrngReg), Pre_MmDownIdeal m →
    (∀ c : Dev Cert.MmDownIdeal.nD,
      m' ((c.tc : Thread Cert.MmDownRefIdeal.nD Cert.MmDownRefIdeal.τ).loc Cert.MmDownRefIdeal.main_arg0) = m ((c.tc : Thread Cert.MmDownIdeal.nD Cert.MmDownIdeal.τ).loc Cert.MmDownIdeal.main_arg0)
      ∧ m' ((c.tc : Thread Cert.MmDownRefIdeal.nD Cert.MmDownRefIdeal.τ).loc Cert.MmDownRefIdeal.main_arg1) = m ((c.tc : Thread Cert.MmDownIdeal.nD Cert.MmDownIdeal.τ).loc Cert.MmDownIdeal.main_arg1)) →
    ∃ (v0 : (c : Dev Cert.MmDownIdeal.nD) → Buf (Elt Ideal) ((c.tc : Thread Cert.MmDownIdeal.nD Cert.MmDownIdeal.τ).loc Cert.MmDownIdeal.main_v0)),
      θ_run (Cert.MmDownIdeal.defs (F := Ideal)) (onTc (τ := Cert.MmDownIdeal.τ) (Cert.MmDownIdeal.main (F := Ideal))) ⟨m, fun _ => 0, g⟩ (fun r => ∀ c : Dev Cert.MmDownIdeal.nD,
          r.2.mem ((c.tc : Thread Cert.MmDownIdeal.nD Cert.MmDownIdeal.τ).loc Cert.MmDownIdeal.main_v0) = v0 c
          ∧ r.2.mem ((c.tc : Thread Cert.MmDownIdeal.nD Cert.MmDownIdeal.τ).loc Cert.MmDownIdeal.main_arg0) = m ((c.tc : Thread Cert.MmDownIdeal.nD Cert.MmDownIdeal.τ).loc Cert.MmDownIdeal.main_arg0)
          ∧ r.2.mem ((c.tc : Thread Cert.MmDownIdeal.nD Cert.MmDownIdeal.τ).loc Cert.MmDownIdeal.main_arg1) = m ((c.tc : Thread Cert.MmDownIdeal.nD Cert.MmDownIdeal.τ).loc Cert.MmDownIdeal.main_arg1))
      ∧ θ_run (Cert.MmDownRefIdeal.defs (F := Ideal)) (onTc (τ := Cert.MmDownRefIdeal.τ) (Cert.MmDownRefIdeal.main (F := Ideal))) ⟨m', fun _ => 0, g'⟩ (fun r => ∀ c : Dev Cert.MmDownRefIdeal.nD,
          r.2.mem ((c.tc : Thread Cert.MmDownRefIdeal.nD Cert.MmDownRefIdeal.τ).loc Cert.MmDownRefIdeal.main_v3) = v0 c
          ∧ r.2.mem ((c.tc : Thread Cert.MmDownRefIdeal.nD Cert.MmDownRefIdeal.τ).loc Cert.MmDownRefIdeal.main_arg0) = m' ((c.tc : Thread Cert.MmDownRefIdeal.nD Cert.MmDownRefIdeal.τ).loc Cert.MmDownRefIdeal.main_arg0)
          ∧ r.2.mem ((c.tc : Thread Cert.MmDownRefIdeal.nD Cert.MmDownRefIdeal.τ).loc Cert.MmDownRefIdeal.main_arg1) = m' ((c.tc : Thread Cert.MmDownRefIdeal.nD Cert.MmDownRefIdeal.τ).loc Cert.MmDownRefIdeal.main_arg1))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v25) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_AddLn_AddLnIdeal : Prop :=
  True

def algebraic_AddLnIdeal_AddLnRefIdeal [hAddLnIdeal : Cert.AddLnIdeal.Facts] [hAddLnRefIdeal : Cert.AddLnRefIdeal.Facts] : Prop :=
  ∀ (m : (ℓ : Loc Cert.AddLnIdeal.nD Cert.AddLnIdeal.τ Cert.AddLnIdeal.sig) → Buf (Elt Ideal) ℓ) (g : Dev Cert.AddLnIdeal.nD → PrngReg)
    (m' : (ℓ : Loc Cert.AddLnRefIdeal.nD Cert.AddLnRefIdeal.τ Cert.AddLnRefIdeal.sig) → Buf (Elt Ideal) ℓ) (g' : Dev Cert.AddLnRefIdeal.nD → PrngReg), Pre_AddLnIdeal m →
    (∀ c : Dev Cert.AddLnIdeal.nD,
      m' ((c.tc : Thread Cert.AddLnRefIdeal.nD Cert.AddLnRefIdeal.τ).loc Cert.AddLnRefIdeal.main_arg0) = m ((c.tc : Thread Cert.AddLnIdeal.nD Cert.AddLnIdeal.τ).loc Cert.AddLnIdeal.main_arg0)
      ∧ m' ((c.tc : Thread Cert.AddLnRefIdeal.nD Cert.AddLnRefIdeal.τ).loc Cert.AddLnRefIdeal.main_arg1) = m ((c.tc : Thread Cert.AddLnIdeal.nD Cert.AddLnIdeal.τ).loc Cert.AddLnIdeal.main_arg1)
      ∧ m' ((c.tc : Thread Cert.AddLnRefIdeal.nD Cert.AddLnRefIdeal.τ).loc Cert.AddLnRefIdeal.main_arg2) = m ((c.tc : Thread Cert.AddLnIdeal.nD Cert.AddLnIdeal.τ).loc Cert.AddLnIdeal.main_arg2)
      ∧ m' ((c.tc : Thread Cert.AddLnRefIdeal.nD Cert.AddLnRefIdeal.τ).loc Cert.AddLnRefIdeal.main_arg3) = m ((c.tc : Thread Cert.AddLnIdeal.nD Cert.AddLnIdeal.τ).loc Cert.AddLnIdeal.main_arg3)) →
    ∃ (v0 : (c : Dev Cert.AddLnIdeal.nD) → Buf (Elt Ideal) ((c.tc : Thread Cert.AddLnIdeal.nD Cert.AddLnIdeal.τ).loc Cert.AddLnIdeal.main_v6_0)) (v1 : (c : Dev Cert.AddLnIdeal.nD) → Buf (Elt Ideal) ((c.tc : Thread Cert.AddLnIdeal.nD Cert.AddLnIdeal.τ).loc Cert.AddLnIdeal.main_v6_1)),
      θ_run (Cert.AddLnIdeal.defs (F := Ideal)) (onTc (τ := Cert.AddLnIdeal.τ) (Cert.AddLnIdeal.main (F := Ideal))) ⟨m, fun _ => 0, g⟩ (fun r => ∀ c : Dev Cert.AddLnIdeal.nD,
          r.2.mem ((c.tc : Thread Cert.AddLnIdeal.nD Cert.AddLnIdeal.τ).loc Cert.AddLnIdeal.main_v6_0) = v0 c
          ∧ r.2.mem ((c.tc : Thread Cert.AddLnIdeal.nD Cert.AddLnIdeal.τ).loc Cert.AddLnIdeal.main_v6_1) = v1 c
          ∧ r.2.mem ((c.tc : Thread Cert.AddLnIdeal.nD Cert.AddLnIdeal.τ).loc Cert.AddLnIdeal.main_arg0) = m ((c.tc : Thread Cert.AddLnIdeal.nD Cert.AddLnIdeal.τ).loc Cert.AddLnIdeal.main_arg0)
          ∧ r.2.mem ((c.tc : Thread Cert.AddLnIdeal.nD Cert.AddLnIdeal.τ).loc Cert.AddLnIdeal.main_arg1) = m ((c.tc : Thread Cert.AddLnIdeal.nD Cert.AddLnIdeal.τ).loc Cert.AddLnIdeal.main_arg1)
          ∧ r.2.mem ((c.tc : Thread Cert.AddLnIdeal.nD Cert.AddLnIdeal.τ).loc Cert.AddLnIdeal.main_arg2) = m ((c.tc : Thread Cert.AddLnIdeal.nD Cert.AddLnIdeal.τ).loc Cert.AddLnIdeal.main_arg2)
          ∧ r.2.mem ((c.tc : Thread Cert.AddLnIdeal.nD Cert.AddLnIdeal.τ).loc Cert.AddLnIdeal.main_arg3) = m ((c.tc : Thread Cert.AddLnIdeal.nD Cert.AddLnIdeal.τ).loc Cert.AddLnIdeal.main_arg3))
      ∧ θ_run (Cert.AddLnRefIdeal.defs (F := Ideal)) (onTc (τ := Cert.AddLnRefIdeal.τ) (Cert.AddLnRefIdeal.main (F := Ideal))) ⟨m', fun _ => 0, g'⟩ (fun r => ∀ c : Dev Cert.AddLnRefIdeal.nD,
          r.2.mem ((c.tc : Thread Cert.AddLnRefIdeal.nD Cert.AddLnRefIdeal.τ).loc Cert.AddLnRefIdeal.main_v30) = v0 c
          ∧ r.2.mem ((c.tc : Thread Cert.AddLnRefIdeal.nD Cert.AddLnRefIdeal.τ).loc Cert.AddLnRefIdeal.main_v31) = v1 c
          ∧ r.2.mem ((c.tc : Thread Cert.AddLnRefIdeal.nD Cert.AddLnRefIdeal.τ).loc Cert.AddLnRefIdeal.main_arg0) = m' ((c.tc : Thread Cert.AddLnRefIdeal.nD Cert.AddLnRefIdeal.τ).loc Cert.AddLnRefIdeal.main_arg0)
          ∧ r.2.mem ((c.tc : Thread Cert.AddLnRefIdeal.nD Cert.AddLnRefIdeal.τ).loc Cert.AddLnRefIdeal.main_arg1) = m' ((c.tc : Thread Cert.AddLnRefIdeal.nD Cert.AddLnRefIdeal.τ).loc Cert.AddLnRefIdeal.main_arg1)
          ∧ r.2.mem ((c.tc : Thread Cert.AddLnRefIdeal.nD Cert.AddLnRefIdeal.τ).loc Cert.AddLnRefIdeal.main_arg2) = m' ((c.tc : Thread Cert.AddLnRefIdeal.nD Cert.AddLnRefIdeal.τ).loc Cert.AddLnRefIdeal.main_arg2)
          ∧ r.2.mem ((c.tc : Thread Cert.AddLnRefIdeal.nD Cert.AddLnRefIdeal.τ).loc Cert.AddLnRefIdeal.main_arg3) = m' ((c.tc : Thread Cert.AddLnRefIdeal.nD Cert.AddLnRefIdeal.τ).loc Cert.AddLnRefIdeal.main_arg3))

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)) →
    ∃ (v0 : (c : Dev Cert.SguIdeal.nD) → Buf (Elt Ideal) ((c.tc : Thread Cert.SguIdeal.nD Cert.SguIdeal.τ).loc Cert.SguIdeal.main_v21_0)) (v1 : (c : Dev Cert.SguIdeal.nD) → Buf (Elt Ideal) ((c.tc : Thread Cert.SguIdeal.nD Cert.SguIdeal.τ).loc Cert.SguIdeal.main_v21_1)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v21_0) = v0 c
          ∧ r.2.mem ((c.tc : Thread Cert.SguIdeal.nD Cert.SguIdeal.τ).loc Cert.SguIdeal.main_v21_1) = v1 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v78) = v0 c
          ∧ r.2.mem ((c.tc : Thread Cert.SguRefIdeal.nD Cert.SguRefIdeal.τ).loc Cert.SguRefIdeal.main_v79) = v1 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)) →
    ∃ (v0 : (c : Dev Cert.ConvIdeal.nD) → Buf (Elt Ideal) ((c.tc : Thread Cert.ConvIdeal.nD Cert.ConvIdeal.τ).loc Cert.ConvIdeal.main_v7)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v7) = v0 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v47) = v0 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def Claim : Prop :=
  ∃ (hRet : Cert.Ret.Facts) (hRetIdeal : Cert.RetIdeal.Facts) (hRetRefIdeal : Cert.RetRefIdeal.Facts) (hRetP : Cert.RetP.Facts) (hRetPIdeal : Cert.RetPIdeal.Facts) (hRetPRefIdeal : Cert.RetPRefIdeal.Facts) (hMmIn : Cert.MmIn.Facts) (hMmInIdeal : Cert.MmInIdeal.Facts) (hMmInRefIdeal : Cert.MmInRefIdeal.Facts) (hMmO : Cert.MmO.Facts) (hMmOIdeal : Cert.MmOIdeal.Facts) (hMmORefIdeal : Cert.MmORefIdeal.Facts) (hMmUp : Cert.MmUp.Facts) (hMmUpIdeal : Cert.MmUpIdeal.Facts) (hMmUpRefIdeal : Cert.MmUpRefIdeal.Facts) (hMmDown : Cert.MmDown.Facts) (hMmDownIdeal : Cert.MmDownIdeal.Facts) (hMmDownRefIdeal : Cert.MmDownRefIdeal.Facts) (hMerge : Cert.Merge.Facts) (hMergeIdeal : Cert.MergeIdeal.Facts) (hMergeRefIdeal : Cert.MergeRefIdeal.Facts) (hAddLn : Cert.AddLn.Facts) (hAddLnIdeal : Cert.AddLnIdeal.Facts) (hAddLnRefIdeal : Cert.AddLnRefIdeal.Facts) (hSgu : Cert.Sgu.Facts) (hSguIdeal : Cert.SguIdeal.Facts) (hSguRefIdeal : Cert.SguRefIdeal.Facts) (hConv : Cert.Conv.Facts) (hConvIdeal : Cert.ConvIdeal.Facts) (hConvRefIdeal : Cert.ConvRefIdeal.Facts),
    quiescent_Ret (hRet := hRet)
    ∧ quiescent_RetIdeal (hRetIdeal := hRetIdeal)
    ∧ quiescent_RetRefIdeal (hRetRefIdeal := hRetRefIdeal)
    ∧ quiescent_RetP (hRetP := hRetP)
    ∧ quiescent_RetPIdeal (hRetPIdeal := hRetPIdeal)
    ∧ quiescent_RetPRefIdeal (hRetPRefIdeal := hRetPRefIdeal)
    ∧ quiescent_MmIn (hMmIn := hMmIn)
    ∧ quiescent_MmInIdeal (hMmInIdeal := hMmInIdeal)
    ∧ quiescent_MmInRefIdeal (hMmInRefIdeal := hMmInRefIdeal)
    ∧ quiescent_MmO (hMmO := hMmO)
    ∧ quiescent_MmOIdeal (hMmOIdeal := hMmOIdeal)
    ∧ quiescent_MmORefIdeal (hMmORefIdeal := hMmORefIdeal)
    ∧ quiescent_MmUp (hMmUp := hMmUp)
    ∧ quiescent_MmUpIdeal (hMmUpIdeal := hMmUpIdeal)
    ∧ quiescent_MmUpRefIdeal (hMmUpRefIdeal := hMmUpRefIdeal)
    ∧ quiescent_MmDown (hMmDown := hMmDown)
    ∧ quiescent_MmDownIdeal (hMmDownIdeal := hMmDownIdeal)
    ∧ quiescent_MmDownRefIdeal (hMmDownRefIdeal := hMmDownRefIdeal)
    ∧ quiescent_Merge (hMerge := hMerge)
    ∧ quiescent_MergeIdeal (hMergeIdeal := hMergeIdeal)
    ∧ quiescent_MergeRefIdeal (hMergeRefIdeal := hMergeRefIdeal)
    ∧ quiescent_AddLn (hAddLn := hAddLn)
    ∧ quiescent_AddLnIdeal (hAddLnIdeal := hAddLnIdeal)
    ∧ quiescent_AddLnRefIdeal (hAddLnRefIdeal := hAddLnRefIdeal)
    ∧ quiescent_Sgu (hSgu := hSgu)
    ∧ quiescent_SguIdeal (hSguIdeal := hSguIdeal)
    ∧ quiescent_SguRefIdeal (hSguRefIdeal := hSguRefIdeal)
    ∧ quiescent_Conv (hConv := hConv)
    ∧ quiescent_ConvIdeal (hConvIdeal := hConvIdeal)
    ∧ quiescent_ConvRefIdeal (hConvRefIdeal := hConvRefIdeal)
    ∧ preserves_Ret_RetIdeal
    ∧ algebraic_RetIdeal_RetRefIdeal (hRetIdeal := hRetIdeal) (hRetRefIdeal := hRetRefIdeal)
    ∧ preserves_RetP_RetPIdeal
    ∧ algebraic_RetPIdeal_RetPRefIdeal (hRetPIdeal := hRetPIdeal) (hRetPRefIdeal := hRetPRefIdeal)
    ∧ preserves_MmIn_MmInIdeal
    ∧ algebraic_MmInIdeal_MmInRefIdeal (hMmInIdeal := hMmInIdeal) (hMmInRefIdeal := hMmInRefIdeal)
    ∧ preserves_MmO_MmOIdeal
    ∧ algebraic_MmOIdeal_MmORefIdeal (hMmOIdeal := hMmOIdeal) (hMmORefIdeal := hMmORefIdeal)
    ∧ preserves_MmUp_MmUpIdeal
    ∧ algebraic_MmUpIdeal_MmUpRefIdeal (hMmUpIdeal := hMmUpIdeal) (hMmUpRefIdeal := hMmUpRefIdeal)
    ∧ preserves_MmDown_MmDownIdeal
    ∧ algebraic_MmDownIdeal_MmDownRefIdeal (hMmDownIdeal := hMmDownIdeal) (hMmDownRefIdeal := hMmDownRefIdeal)
    ∧ preserves_Merge_MergeIdeal
    ∧ algebraic_MergeIdeal_MergeRefIdeal (hMergeIdeal := hMergeIdeal) (hMergeRefIdeal := hMergeRefIdeal)
    ∧ preserves_AddLn_AddLnIdeal
    ∧ algebraic_AddLnIdeal_AddLnRefIdeal (hAddLnIdeal := hAddLnIdeal) (hAddLnRefIdeal := hAddLnRefIdeal)
    ∧ preserves_Sgu_SguIdeal
    ∧ algebraic_SguIdeal_SguRefIdeal (hSguIdeal := hSguIdeal) (hSguRefIdeal := hSguRefIdeal)
    ∧ preserves_Conv_ConvIdeal
    ∧ algebraic_ConvIdeal_ConvRefIdeal (hConvIdeal := hConvIdeal) (hConvRefIdeal := hConvRefIdeal)
-- ==== Ret.lean ====
abbrev S8704x20480 : Shape := ⟨2, ![8704, 20480]⟩
abbrev S32x8x256x256 : Shape := ⟨4, ![32, 8, 256, 256]⟩
abbrev S16 : Shape := ⟨1, ![16]⟩
abbrev S_ : Shape := ⟨0, ![]⟩
abbrev S128 : Shape := ⟨1, ![128]⟩
abbrev S16x1 : Shape := ⟨2, ![16, 1]⟩
abbrev S1x128 : Shape := ⟨2, ![1, 128]⟩
abbrev S16x128 : Shape := ⟨2, ![16, 128]⟩
abbrev S8 : Shape := ⟨1, ![8]⟩
abbrev S8x1x1 : Shape := ⟨3, ![8, 1, 1]⟩
abbrev S8x1x256 : Shape := ⟨3, ![8, 1, 256]⟩
abbrev S512x2048 : Shape := ⟨2, ![512, 2048]⟩
abbrev S16x256 : Shape := ⟨2, ![16, 256]⟩
abbrev S1x1x256 : Shape := ⟨3, ![1, 1, 256]⟩
abbrev S1x1x256x256 : Shape := ⟨4, ![1, 1, 256, 256]⟩
abbrev S256x256 : Shape := ⟨2, ![256, 256]⟩
abbrev S16x16 : Shape := ⟨2, ![16, 16]⟩
abbrev S1x256 : Shape := ⟨2, ![1, 256]⟩
abbrev S1x16 : Shape := ⟨2, ![1, 16]⟩

abbrev nBuf : Space → Nat
  | .hbm => 36
  | .vmem => 22
  | .smem => 0
  | _ => 0

abbrev bufTy : (tb : Table) → Fin (tcTables nBuf tb) → BufTy
  | .hbm, ⟨0, _⟩ => ⟨S8704x20480, .f32⟩
  | .hbm, ⟨1, _⟩ => ⟨S32x8x256x256, .f32⟩
  | .hbm, ⟨2, _⟩ => ⟨S16, .f32⟩
  | .hbm, ⟨3, _⟩ => ⟨S_, .f32⟩
  | .hbm, ⟨4, _⟩ => ⟨S16, .f32⟩
  | .hbm, ⟨5, _⟩ => ⟨S16, .f32⟩
  | .hbm, ⟨6, _⟩ => ⟨S128, .f32⟩
  | .hbm, ⟨7, _⟩ => ⟨S128, .f32⟩
  | .hbm, ⟨8, _⟩ => ⟨S_, .f32⟩
  | .hbm, ⟨9, _⟩ => ⟨S128, .f32⟩
  | .hbm, ⟨10, _⟩ => ⟨S128, .f32⟩
  | .hbm, ⟨11, _⟩ => ⟨S_, .f32⟩
  | .hbm, ⟨12, _⟩ => ⟨S128, .f32⟩
  | .hbm, ⟨13, _⟩ => ⟨S128, .f32⟩
  | .hbm, ⟨14, _⟩ => ⟨S16x1, .f32⟩
  | .hbm, ⟨15, _⟩ => ⟨S1x128, .f32⟩
  | .hbm, ⟨16, _⟩ => ⟨S16x128, .f32⟩
  | .hbm, ⟨17, _⟩ => ⟨S16x128, .f32⟩
  | .hbm, ⟨18, _⟩ => ⟨S16x128, .f32⟩
  | .hbm, ⟨19, _⟩ => ⟨S16x128, .f32⟩
  | .hbm, ⟨20, _⟩ => ⟨S16x128, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S8, .f32⟩
  | .hbm, ⟨32, _⟩ => ⟨S8x1x1, .f32⟩
  | .hbm, ⟨33, _⟩ => ⟨S8x1x256, .f32⟩
  | .hbm, ⟨34, _⟩ => ⟨S512x2048, .bf16⟩
  | .hbm, ⟨35, _⟩ => ⟨S32x8x256x256, .f32⟩
  | .local _ .vmem, ⟨0, _⟩ => ⟨S16x256, .f32⟩
  | .local _ .vmem, ⟨1, _⟩ => ⟨S16x256, .f32⟩
  | .local _ .vmem, ⟨2, _⟩ => ⟨S16x256, .f32⟩
  | .local _ .vmem, ⟨3, _⟩ => ⟨S16x256, .f32⟩
  | .local _ .vmem, ⟨4, _⟩ => ⟨S16x256, .f32⟩
  | .local _ .vmem, ⟨5, _⟩ => ⟨S16x256, .f32⟩
  | .local _ .vmem, ⟨6, _⟩ => ⟨S16x256, .f32⟩
  | .local _ .vmem, ⟨7, _⟩ => ⟨S16x256, .f32⟩
  | .local _ .vmem, ⟨8, _⟩ => ⟨S16x128, .f32⟩
  | .local _ .vmem, ⟨9, _⟩ => ⟨S16x128, .f32⟩
  | .local _ .vmem, ⟨10, _⟩ => ⟨S1x1x256, .f32⟩
  | .local _ .vmem, ⟨11, _⟩ => ⟨S1x1x256, .f32⟩
  | .local _ .vmem, ⟨12, _⟩ => ⟨S1x1x256x256, .f32⟩
  | .local _ .vmem, ⟨13, _⟩ => ⟨S1x1x256x256, .f32⟩
  | .local _ .vmem, ⟨14, _⟩ => ⟨S16x256, .bf16⟩
  | .local _ .vmem, ⟨15, _⟩ => ⟨S16x256, .bf16⟩
  | .local _ .vmem, ⟨16, _⟩ => ⟨S1x1x256x256, .f32⟩
  | .local _ .vmem, ⟨17, _⟩ => ⟨S1x1x256x256, .f32⟩
  | .local _ .vmem, ⟨18, _⟩ => ⟨S256x256, .f32⟩
  | .local _ .vmem, ⟨19, _⟩ => ⟨S16x16, .f32⟩
  | .local _ .vmem, ⟨20, _⟩ => ⟨S16x256, .f32⟩
  | .local _ .vmem, ⟨21, _⟩ => ⟨S16x256, .f32⟩
  | _, _ => ⟨S8704x20480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26_0 : Ref sig .tc := ⟨.hbm, 34, rfl⟩
abbrev main_v26_1 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![8, 32, 1], ![false, false, false]⟩

def k0_cond3 (i : grid0.Coords) : BitVec 1 :=
  let arg2 : BitVec 32 := BitVec.ofNat 32 (i 2).val
  let c0_i32_40 : BitVec 32 := 0#32
  let v87 : BitVec 1 := Scalar.cmpi .eq arg2 c0_i32_40
  let v88 : BitVec 32 := Scalar.extui v87
  let c0_i32_41 : BitVec 32 := 0#32
  let v89 : BitVec 1 := Scalar.cmpi .ne v88 c0_i32_41
  v89

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c512_i32 : BitVec 32 := 512#32
  let v1 : BitVec 32 := Scalar.addi c512_i32 v0
  let v2 : BitVec 32 := Scalar.addi v1 arg2
  let c0_i32 : BitVec 32 := 0#32
  let v3 : BitVec 32 := Scalar.addi c0_i32 arg0
  let c0_i32_0 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c512_i32 : BitVec 32 := 512#32
  let v1 : BitVec 32 := Scalar.addi c512_i32 v0
  let v2 : BitVec 32 := Scalar.addi v1 arg2
  let c8_i32 : BitVec 32 := 8#32
  let v3 : BitVec 32 := Scalar.addi c8_i32 arg0
  let c0_i32 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c512_i32 : BitVec 32 := 512#32
  let v1 : BitVec 32 := Scalar.addi c512_i32 v0
  let v2 : BitVec 32 := Scalar.addi v1 arg2
  let c16_i32 : BitVec 32 := 16#32
  let v3 : BitVec 32 := Scalar.addi c16_i32 arg0
  let c0_i32 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let c512_i32 : BitVec 32 := 512#32
  let v1 : BitVec 32 := Scalar.addi c512_i32 v0
  let v2 : BitVec 32 := Scalar.addi v1 arg2
  let c24_i32 : BitVec 32 := 24#32
  let v3 : BitVec 32 := Scalar.addi c24_i32 arg0
  let c0_i32 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg1 c1_i32
  let v1 : BitVec 32 := Scalar.addi v0 arg2
  let c0_i32 : BitVec 32 := 0#32
  ![v1.toNat, arg0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S16x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S16x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S16x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, true]

abbrev stage0_5 : Fin 1 → Memref sig .tc .vmem S16x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S16x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== RetRefIdeal.lean ====
abbrev S8704x20480 : Shape := ⟨2, ![8704, 20480]⟩
abbrev S32x8x256x256 : Shape := ⟨4, ![32, 8, 256, 256]⟩
abbrev S512x20480 : Shape := ⟨2, ![512, 20480]⟩
abbrev S32x16x20480 : Shape := ⟨3, ![32, 16, 20480]⟩
abbrev S32x16x2048 : Shape := ⟨3, ![32, 16, 2048]⟩
abbrev S8 : Shape := ⟨1, ![8]⟩
abbrev S_ : Shape := ⟨0, ![]⟩
abbrev S16 : Shape := ⟨1, ![16]⟩
abbrev S32x16x8x256 : Shape := ⟨4, ![32, 16, 8, 256]⟩
abbrev S128 : Shape := ⟨1, ![128]⟩
abbrev S16x1 : Shape := ⟨2, ![16, 1]⟩
abbrev S1x128 : Shape := ⟨2, ![1, 128]⟩
abbrev S16x128 : Shape := ⟨2, ![16, 128]⟩
abbrev S1x16x1x128 : Shape := ⟨4, ![1, 16, 1, 128]⟩
abbrev S32x16x8x128 : Shape := ⟨4, ![32, 16, 8, 128]⟩
abbrev S1x16 : Shape := ⟨2, ![1, 16]⟩
abbrev S16x16 : Shape := ⟨2, ![16, 16]⟩
abbrev S1x16x16 : Shape := ⟨3, ![1, 16, 16]⟩
abbrev S8x1x1 : Shape := ⟨3, ![8, 1, 1]⟩
abbrev S8x16x16 : Shape := ⟨3, ![8, 16, 16]⟩
abbrev S8x1 : Shape := ⟨2, ![8, 1]⟩
abbrev S8x16 : Shape := ⟨2, ![8, 16]⟩
abbrev S32x8x16x256 : Shape := ⟨4, ![32, 8, 16, 256]⟩
abbrev S32x8x16x16 : Shape := ⟨4, ![32, 8, 16, 16]⟩
abbrev S1x8x16x16 : Shape := ⟨4, ![1, 8, 16, 16]⟩
abbrev S1x8x16x1 : Shape := ⟨4, ![1, 8, 16, 1]⟩
abbrev S1x8x1x1 : Shape := ⟨4, ![1, 8, 1, 1]⟩
abbrev S32x16x8 : Shape := ⟨3, ![32, 16, 8]⟩
abbrev S32x16x8x1 : Shape := ⟨4, ![32, 16, 8, 1]⟩
abbrev S512x2048 : Shape := ⟨2, ![512, 2048]⟩

abbrev nBuf : Space → Nat
  | .hbm => 193
  | .vmem => 0
  | .smem => 0
  | _ => 0

abbrev hbmTy0_0 (i : Nat) : BufTy := match i % 128 with
  | 0 => ⟨S8704x20480, .f32⟩
  | 1 => ⟨S32x8x256x256, .f32⟩
  | 2 => ⟨S512x20480, .f32⟩
  | 3 => ⟨S32x16x20480, .f32⟩
  | 4 => ⟨S32x16x2048, .f32⟩
  | 5 => ⟨S32x16x2048, .f32⟩
  | 6 => ⟨S32x16x2048, .f32⟩
  | 7 => ⟨S32x16x2048, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S_, .f32⟩
  | 16 => ⟨S8, .f32⟩
  | 17 => ⟨S8, .f32⟩
  | 18 => ⟨S8, .f32⟩
  | 19 => ⟨S16, .f32⟩
  | 20 => ⟨S_, .f32⟩
  | 21 => ⟨S16, .f32⟩
  | 22 => ⟨S16, .f32⟩
  | 23 => ⟨S32x16x8x256, .f32⟩
  | 24 => ⟨S128, .f32⟩
  | 25 => ⟨S128, .f32⟩
  | 26 => ⟨S_, .f32⟩
  | 27 => ⟨S128, .f32⟩
  | 28 => ⟨S128, .f32⟩
  | 29 => ⟨S_, .f32⟩
  | 30 => ⟨S128, .f32⟩
  | 31 => ⟨S128, .f32⟩
  | 32 => ⟨S16x1, .f32⟩
  | 33 => ⟨S1x128, .f32⟩
  | 34 => ⟨S16x128, .f32⟩
  | 35 => ⟨S16x128, .f32⟩
  | 36 => ⟨S16x128, .f32⟩
  | 37 => ⟨S16x128, .f32⟩
  | 38 => ⟨S1x16x1x128, .f32⟩
  | 39 => ⟨S16x128, .f32⟩
  | 40 => ⟨S1x16x1x128, .f32⟩
  | 41 => ⟨S32x16x8x128, .f32⟩
  | 42 => ⟨S32x16x8x128, .f32⟩
  | 43 => ⟨S32x16x8x128, .f32⟩
  | 44 => ⟨S32x16x8x128, .f32⟩
  | 45 => ⟨S32x16x8x128, .f32⟩
  | 46 => ⟨S32x16x8x128, .f32⟩
  | 47 => ⟨S32x16x8x128, .f32⟩
  | 48 => ⟨S32x16x8x128, .f32⟩
  | 49 => ⟨S32x16x8x128, .f32⟩
  | 50 => ⟨S32x16x8x128, .f32⟩
  | 51 => ⟨S32x16x8x128, .f32⟩
  | 52 => ⟨S32x16x8x128, .f32⟩
  | 53 => ⟨S32x16x8x256, .f32⟩
  | 54 => ⟨S32x16x8x256, .f32⟩
  | 55 => ⟨S128, .f32⟩
  | 56 => ⟨S128, .f32⟩
  | 57 => ⟨S_, .f32⟩
  | 58 => ⟨S128, .f32⟩
  | 59 => ⟨S128, .f32⟩
  | 60 => ⟨S_, .f32⟩
  | 61 => ⟨S128, .f32⟩
  | 62 => ⟨S128, .f32⟩
  | 63 => ⟨S16x1, .f32⟩
  | 64 => ⟨S1x128, .f32⟩
  | 65 => ⟨S16x128, .f32⟩
  | 66 => ⟨S16x128, .f32⟩
  | 67 => ⟨S16x128, .f32⟩
  | 68 => ⟨S16x128, .f32⟩
  | 69 => ⟨S1x16x1x128, .f32⟩
  | 70 => ⟨S16x128, .f32⟩
  | 71 => ⟨S1x16x1x128, .f32⟩
  | 72 => ⟨S32x16x8x128, .f32⟩
  | 73 => ⟨S32x16x8x128, .f32⟩
  | 74 => ⟨S32x16x8x128, .f32⟩
  | 75 => ⟨S32x16x8x128, .f32⟩
  | 76 => ⟨S32x16x8x128, .f32⟩
  | 77 => ⟨S32x16x8x128, .f32⟩
  | 78 => ⟨S32x16x8x128, .f32⟩
  | 79 => ⟨S32x16x8x128, .f32⟩
  | 80 => ⟨S32x16x8x128, .f32⟩
  | 81 => ⟨S32x16x8x128, .f32⟩
  | 82 => ⟨S32x16x8x128, .f32⟩
  | 83 => ⟨S32x16x8x128, .f32⟩
  | 84 => ⟨S32x16x8x256, .f32⟩
  | 85 => ⟨S_, .f32⟩
  | 86 => ⟨S32x16x8x256, .f32⟩
  | 87 => ⟨S32x16x8x256, .f32⟩
  | 88 => ⟨S32x16x8x256, .f32⟩
  | 89 => ⟨S16, .f32⟩
  | 90 => ⟨S16x1, .f32⟩
  | 91 => ⟨S1x16, .f32⟩
  | 92 => ⟨S16x16, .f32⟩
  | 93 => ⟨S16x16, .f32⟩
  | 94 => ⟨S16x16, .f32⟩
  | 95 => ⟨S_, .f32⟩
  | 96 => ⟨S16x16, .f32⟩
  | 97 => ⟨S16x16, .i1⟩
  | 98 => ⟨S1x16x16, .i1⟩
  | 99 => ⟨S_, .f32⟩
  | 100 => ⟨S16x16, .f32⟩
  | 101 => ⟨S16x16, .f32⟩
  | 102 => ⟨S1x16x16, .f32⟩
  | 103 => ⟨S8x1x1, .f32⟩
  | 104 => ⟨S8x16x16, .f32⟩
  | 105 => ⟨S8x16x16, .f32⟩
  | 106 => ⟨S8x16x16, .f32⟩
  | 107 => ⟨S8x16x16, .f32⟩
  | 108 => ⟨S_, .f32⟩
  | 109 => ⟨S_, .f32⟩
  | 110 => ⟨S8x16x16, .i1⟩
  | 111 => ⟨S8x16x16, .f32⟩
  | 112 => ⟨S8x16x16, .f32⟩
  | 113 => ⟨S1x16, .f32⟩
  | 114 => ⟨S_, .f32⟩
  | 115 => ⟨S1x16, .f32⟩
  | 116 => ⟨S1x16, .f32⟩
  | 117 => ⟨S8x1, .f32⟩
  | 118 => ⟨S8x16, .f32⟩
  | 119 => ⟨S8x16, .f32⟩
  | 120 => ⟨S8x16, .f32⟩
  | 121 => ⟨S8x16, .f32⟩
  | 122 => ⟨S1x16, .f32⟩
  | 123 => ⟨S_, .f32⟩
  | 124 => ⟨S1x16, .f32⟩
  | 125 => ⟨S1x16, .f32⟩
  | 126 => ⟨S8x1, .f32⟩
  | 127 => ⟨S8x16, .f32⟩
  | _ => ⟨S8704x20480, .f32⟩

abbrev hbmTy0_1 (i : Nat) : BufTy := match i % 128 with
  | 0 => ⟨S8x16, .f32⟩
  | 1 => ⟨S8x16, .f32⟩
  | 2 => ⟨S8x16, .f32⟩
  | 3 => ⟨S_, .f32⟩
  | 4 => ⟨S8, .f32⟩
  | 5 => ⟨S8, .f32⟩
  | 6 => ⟨S8, .f32⟩
  | 7 => ⟨S32x8x16x256, .f32⟩
  | 8 => ⟨S32x8x16x256, .f32⟩
  | 9 => ⟨S32x8x16x256, .f32⟩
  | 10 => ⟨S32x8x16x16, .f32⟩
  | 11 => ⟨S1x8x16x16, .f32⟩
  | 12 => ⟨S32x8x16x16, .f32⟩
  | 13 => ⟨S32x8x16x16, .f32⟩
  | 14 => ⟨S32x8x16x256, .f32⟩
  | 15 => ⟨S1x8x16x1, .f32⟩
  | 16 => ⟨S32x8x16x256, .f32⟩
  | 17 => ⟨S32x8x16x256, .f32⟩
  | 18 => ⟨S32x8x16x256, .f32⟩
  | 19 => ⟨S32x8x16x256, .f32⟩
  | 20 => ⟨S1x8x1x1, .f32⟩
  | 21 => ⟨S32x8x256x256, .f32⟩
  | 22 => ⟨S32x8x256x256, .f32⟩
  | 23 => ⟨S1x8x16x1, .f32⟩
  | 24 => ⟨S32x8x16x256, .f32⟩
  | 25 => ⟨S32x8x16x256, .f32⟩
  | 26 => ⟨S32x8x256x256, .f32⟩
  | 27 => ⟨S32x8x256x256, .f32⟩
  | 28 => ⟨S32x16x8x256, .f32⟩
  | 29 => ⟨S_, .f32⟩
  | 30 => ⟨S32x16x8, .f32⟩
  | 31 => ⟨S32x16x8x1, .f32⟩
  | 32 => ⟨S_, .f32⟩
  | 33 => ⟨S32x16x8x1, .f32⟩
  | 34 => ⟨S32x16x8x1, .f32⟩
  | 35 => ⟨S32x16x8x256, .f32⟩
  | 36 => ⟨S32x16x8x256, .f32⟩
  | 37 => ⟨S32x16x8x256, .f32⟩
  | 38 => ⟨S_, .f32⟩
  | 39 => ⟨S32x16x8, .f32⟩
  | 40 => ⟨S32x16x8x1, .f32⟩
  | 41 => ⟨S_, .f32⟩
  | 42 => ⟨S32x16x8x1, .f32⟩
  | 43 => ⟨S32x16x8x1, .f32⟩
  | 44 => ⟨S32x16x8x256, .f32⟩
  | 45 => ⟨S32x16x8x256, .f32⟩
  | 46 => ⟨S_, .f32⟩
  | 47 => ⟨S32x16x8x1, .f32⟩
  | 48 => ⟨S32x16x8x1, .f32⟩
  | 49 => ⟨S32x16x8x1, .f32⟩
  | 50 => ⟨S32x16x8x256, .f32⟩
  | 51 => ⟨S32x16x8x256, .f32⟩
  | 52 => ⟨S32x16x2048, .f32⟩
  | 53 => ⟨S32x16x2048, .f32⟩
  | 54 => ⟨S32x16x2048, .f32⟩
  | 55 => ⟨S_, .f32⟩
  | 56 => ⟨S32x16x2048, .f32⟩
  | 57 => ⟨S32x16x2048, .f32⟩
  | 58 => ⟨S_, .f32⟩
  | 59 => ⟨S32x16x2048, .f32⟩
  | 60 => ⟨S32x16x2048, .f32⟩
  | 61 => ⟨S32x16x2048, .f32⟩
  | 62 => ⟨S32x16x2048, .f32⟩
  | 63 => ⟨S512x2048, .f32⟩
  | 64 => ⟨S512x2048, .bf16⟩
  | _ => ⟨S8704x20480, .f32⟩

abbrev hbmTy (i : Nat) : BufTy := match i / 128 with
  | 0 => hbmTy0_0 i
  | 1 => hbmTy0_1 i
  | _ => ⟨S8704x20480, .f32⟩

abbrev bufTy : (tb : Table) → Fin (tcTables nBuf tb) → BufTy
  | .hbm, ⟨i, _⟩ => hbmTy i
  | _, _ => ⟨S8704x20480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_cst_5 : Ref sig .tc := ⟨.hbm, 57, rfl⟩
abbrev main_v49 : Ref sig .tc := ⟨.hbm, 58, rfl⟩
abbrev main_v50 : Ref sig .tc := ⟨.hbm, 59, rfl⟩
abbrev main_cst_6 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_cst_7 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_cst_8 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_cst_9 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_cst_10 : Ref sig .tc := ⟨.hbm, 108, rfl⟩
abbrev main_call0_v0 : Ref sig .tc := ⟨.hbm, 109, rfl⟩
abbrev main_call0_v1 : Ref sig .tc := ⟨.hbm, 110, rfl⟩
abbrev main_call0_v2 : Ref sig .tc := ⟨.hbm, 111, rfl⟩
abbrev main_v95 : Ref sig .tc := ⟨.hbm, 112, rfl⟩
abbrev main_v96 : Ref sig .tc := ⟨.hbm, 113, rfl⟩
abbrev main_cst_11 : Ref sig .tc := ⟨.hbm, 114, rfl⟩
abbrev main_v97 : Ref sig .tc := ⟨.hbm, 115, rfl⟩
abbrev main_v98 : Ref sig .tc := ⟨.hbm, 116, rfl⟩
abbrev main_v99 : Ref sig .tc := ⟨.hbm, 117, rfl⟩
abbrev main_v100 : Ref sig .tc := ⟨.hbm, 118, rfl⟩
abbrev main_v101 : Ref sig .tc := ⟨.hbm, 119, rfl⟩
abbrev main_v102 : Ref sig .tc := ⟨.hbm, 120, rfl⟩
abbrev main_v103 : Ref sig .tc := ⟨.hbm, 121, rfl⟩
abbrev main_v104 : Ref sig .tc := ⟨.hbm, 122, rfl⟩
abbrev main_cst_12 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_cst_13 : Ref sig .tc := ⟨.hbm, 131, rfl⟩
abbrev main_v112 : Ref sig .tc := ⟨.hbm, 132, rfl⟩
abbrev main_v113 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_v126 : Ref sig .tc := ⟨.hbm, 146, rfl⟩
abbrev main_v127 : Ref sig .tc := ⟨.hbm, 147, rfl⟩
abbrev main_v128 : Ref sig .tc := ⟨.hbm, 148, rfl⟩
abbrev main_v129 : Ref sig .tc := ⟨.hbm, 149, rfl⟩
abbrev main_v130 : Ref sig .tc := ⟨.hbm, 150, rfl⟩
abbrev main_v131 : Ref sig .tc := ⟨.hbm, 151, rfl⟩
abbrev main_v132 : Ref sig .tc := ⟨.hbm, 152, rfl⟩
abbrev main_v133 : Ref sig .tc := ⟨.hbm, 153, rfl⟩
abbrev main_v134 : Ref sig .tc := ⟨.hbm, 154, rfl⟩
abbrev main_v135 : Ref sig .tc := ⟨.hbm, 155, rfl⟩
abbrev main_v136 : Ref sig .tc := ⟨.hbm, 156, rfl⟩
abbrev main_cst_14 : Ref sig .tc := ⟨.hbm, 157, rfl⟩
abbrev main_v137 : Ref sig .tc := ⟨.hbm, 158, rfl⟩
abbrev main_v138 : Ref sig .tc := ⟨.hbm, 159, rfl⟩
abbrev main_cst_15 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_cst_16 : Ref sig .tc := ⟨.hbm, 166, rfl⟩
abbrev main_v144 : Ref sig .tc := ⟨.hbm, 167, rfl⟩
abbrev main_v145 : Ref sig .tc := ⟨.hbm, 168, rfl⟩
abbrev main_cst_17 : Ref sig .tc := ⟨.hbm, 169, rfl⟩
abbrev main_v146 : Ref sig .tc := ⟨.hbm, 170, rfl⟩
abbrev main_v147 : Ref sig .tc := ⟨.hbm, 171, rfl⟩
abbrev main_v148 : Ref sig .tc := ⟨.hbm, 172, rfl⟩
abbrev main_v149 : Ref sig .tc := ⟨.hbm, 173, rfl⟩
abbrev main_cst_18 : Ref sig .tc := ⟨.hbm, 174, rfl⟩
abbrev main_v150 : Ref sig .tc := ⟨.hbm, 175, rfl⟩
abbrev main_v151 : Ref sig .tc := ⟨.hbm, 176, rfl⟩
abbrev main_v152 : Ref sig .tc := ⟨.hbm, 177, rfl⟩
abbrev main_v153 : Ref sig .tc := ⟨.hbm, 178, rfl⟩
abbrev main_v154 : Ref sig .tc := ⟨.hbm, 179, rfl⟩
abbrev main_v155 : Ref sig .tc := ⟨.hbm, 180, rfl⟩
abbrev main_call1_v0 : Ref sig .tc := ⟨.hbm, 181, rfl⟩
abbrev main_call1_v1 : Ref sig .tc := ⟨.hbm, 182, rfl⟩
abbrev main_call1_cst : Ref sig .tc := ⟨.hbm, 183, rfl⟩
abbrev main_call1_v2 : Ref sig .tc := ⟨.hbm, 184, rfl⟩
abbrev main_call1_v3 : Ref sig .tc := ⟨.hbm, 185, rfl⟩
abbrev main_call1_cst_0 : Ref sig .tc := ⟨.hbm, 186, rfl⟩
abbrev main_call1_v4 : Ref sig .tc := ⟨.hbm, 187, rfl⟩
abbrev main_call1_v5 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩

abbrev nD : Nat := 1
abbrev τ : Topo := Topo.v7x

variable {F : FTy → Type} [FloatOps F]
-- ==== RetP.lean ====
abbrev S8704x20480 : Shape := ⟨2, ![8704, 20480]⟩
abbrev S_ : Shape := ⟨0, ![]⟩
abbrev S4x8x256x256 : Shape := ⟨4, ![4, 8, 256, 256]⟩
abbrev S2048 : Shape := ⟨1, ![2048]⟩
abbrev S128 : Shape := ⟨1, ![128]⟩
abbrev S2048x1 : Shape := ⟨2, ![2048, 1]⟩
abbrev S1x128 : Shape := ⟨2, ![1, 128]⟩
abbrev S2048x128 : Shape := ⟨2, ![2048, 128]⟩
abbrev S8 : Shape := ⟨1, ![8]⟩
abbrev S8x1x1 : Shape := ⟨3, ![8, 1, 1]⟩
abbrev S8x1x256 : Shape := ⟨3, ![8, 1, 256]⟩
abbrev S8192x2048 : Shape := ⟨2, ![8192, 2048]⟩
abbrev S256x256 : Shape := ⟨2, ![256, 256]⟩
abbrev S256x128 : Shape := ⟨2, ![256, 128]⟩
abbrev S1x1x256 : Shape := ⟨3, ![1, 1, 256]⟩
abbrev S1x1x256x256 : Shape := ⟨4, ![1, 1, 256, 256]⟩
abbrev S1x256 : Shape := ⟨2, ![1, 256]⟩
abbrev S256 : Shape := ⟨1, ![256]⟩
abbrev S256x1 : Shape := ⟨2, ![256, 1]⟩

abbrev nBuf : Space → Nat
  | .hbm => 37
  | .vmem => 24
  | .smem => 0
  | _ => 0

abbrev bufTy : (tb : Table) → Fin (tcTables nBuf tb) → BufTy
  | .hbm, ⟨0, _⟩ => ⟨S8704x20480, .f32⟩
  | .hbm, ⟨1, _⟩ => ⟨S_, .f32⟩
  | .hbm, ⟨2, _⟩ => ⟨S4x8x256x256, .f32⟩
  | .hbm, ⟨3, _⟩ => ⟨S2048, .f32⟩
  | .hbm, ⟨4, _⟩ => ⟨S_, .f32⟩
  | .hbm, ⟨5, _⟩ => ⟨S2048, .f32⟩
  | .hbm, ⟨6, _⟩ => ⟨S2048, .f32⟩
  | .hbm, ⟨7, _⟩ => ⟨S128, .f32⟩
  | .hbm, ⟨8, _⟩ => ⟨S128, .f32⟩
  | .hbm, ⟨9, _⟩ => ⟨S_, .f32⟩
  | .hbm, ⟨10, _⟩ => ⟨S128, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S2048x1, .f32⟩
  | .hbm, ⟨16, _⟩ => ⟨S1x128, .f32⟩
  | .hbm, ⟨17, _⟩ => ⟨S2048x128, .f32⟩
  | .hbm, ⟨18, _⟩ => ⟨S2048x128, .f32⟩
  | .hbm, ⟨19, _⟩ => ⟨S2048x128, .f32⟩
  | .hbm, ⟨20, _⟩ => ⟨S2048x128, .f32⟩
  | .hbm, ⟨21, _⟩ => ⟨S2048x128, .f32⟩
  | .hbm, ⟨22, _⟩ => ⟨S8, .f32⟩
  | .hbm, ⟨23, _⟩ => ⟨S_, .f32⟩
  | .hbm, ⟨24, _⟩ => ⟨S8, .f32⟩
  | .hbm, ⟨25, _⟩ => ⟨S8, .f32⟩
  | .hbm, ⟨26, _⟩ => ⟨S_, .f32⟩
  | .hbm, ⟨27, _⟩ => ⟨S8, .f32⟩
  | .hbm, ⟨28, _⟩ => ⟨S8, .f32⟩
  | .hbm, ⟨29, _⟩ => ⟨S_, .f32⟩
  | .hbm, ⟨30, _⟩ => ⟨S8, .f32⟩
  | .hbm, ⟨31, _⟩ => ⟨S8, .f32⟩
  | .hbm, ⟨32, _⟩ => ⟨S8, .f32⟩
  | .hbm, ⟨33, _⟩ => ⟨S8x1x1, .f32⟩
  | .hbm, ⟨34, _⟩ => ⟨S8x1x256, .f32⟩
  | .hbm, ⟨35, _⟩ => ⟨S8192x2048, .bf16⟩
  | .hbm, ⟨36, _⟩ => ⟨S4x8x256x256, .f32⟩
  | .local _ .vmem, ⟨0, _⟩ => ⟨S256x256, .f32⟩
  | .local _ .vmem, ⟨1, _⟩ => ⟨S256x256, .f32⟩
  | .local _ .vmem, ⟨2, _⟩ => ⟨S256x256, .f32⟩
  | .local _ .vmem, ⟨3, _⟩ => ⟨S256x256, .f32⟩
  | .local _ .vmem, ⟨4, _⟩ => ⟨S256x256, .f32⟩
  | .local _ .vmem, ⟨5, _⟩ => ⟨S256x256, .f32⟩
  | .local _ .vmem, ⟨6, _⟩ => ⟨S256x256, .f32⟩
  | .local _ .vmem, ⟨7, _⟩ => ⟨S256x256, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S1x1x256, .f32⟩
  | .local _ .vmem, ⟨13, _⟩ => ⟨S1x1x256, .f32⟩
  | .local _ .vmem, ⟨14, _⟩ => ⟨S1x1x256x256, .f32⟩
  | .local _ .vmem, ⟨15, _⟩ => ⟨S1x1x256x256, .f32⟩
  | .local _ .vmem, ⟨16, _⟩ => ⟨S256x256, .bf16⟩
  | .local _ .vmem, ⟨17, _⟩ => ⟨S256x256, .bf16⟩
  | .local _ .vmem, ⟨18, _⟩ => ⟨S1x1x256x256, .f32⟩
  | .local _ .vmem, ⟨19, _⟩ => ⟨S1x1x256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | _, _ => ⟨S8704x20480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_3 : Ref sig .tc := ⟨.hbm, 23, rfl⟩
abbrev main_v18 : Ref sig .tc := ⟨.hbm, 24, rfl⟩
abbrev main_v19 : Ref sig .tc := ⟨.hbm, 25, rfl⟩
abbrev main_cst_4 : Ref sig .tc := ⟨.hbm, 26, rfl⟩
abbrev main_v20 : Ref sig .tc := ⟨.hbm, 27, rfl⟩
abbrev main_v21 : Ref sig .tc := ⟨.hbm, 28, rfl⟩
abbrev main_cst_5 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27_0 : Ref sig .tc := ⟨.hbm, 35, rfl⟩
abbrev main_v27_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨3, ![8, 4, 8], ![false, false, false]⟩

def k0_cond3 (i : grid0.Coords) : BitVec 1 :=
  let arg2 : BitVec 32 := BitVec.ofNat 32 (i 2).val
  let c7_i32 : BitVec 32 := 7#32
  let v87 : BitVec 1 := Scalar.cmpi .eq arg2 c7_i32
  let v88 : BitVec 32 := Scalar.extui v87
  let c0_i32_40 : BitVec 32 := 0#32
  let v89 : BitVec 1 := Scalar.cmpi .ne v88 c0_i32_40
  v89

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let c0_i32 : BitVec 32 := 0#32
  let v1 : BitVec 32 := Scalar.addi c0_i32 v0
  let v2 : BitVec 32 := Scalar.addi v1 arg2
  let c0_i32_0 : BitVec 32 := 0#32
  let v3 : BitVec 32 := Scalar.addi c0_i32_0 arg0
  let c0_i32_1 : BitVec 32 := 0#32
  ![v2.toNat, v3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let c0_i32 : BitVec 32 := 0#32
  let v1 : BitVec 32 := Scalar.addi c0_i32 v0
  let v2 : BitVec 32 := Scalar.addi v1 arg2
  let c8_i32_0 : BitVec 32 := 8#32
  let v3 : BitVec 32 := Scalar.addi c8_i32_0 arg0
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let c0_i32 : BitVec 32 := 0#32
  let v1 : BitVec 32 := Scalar.addi c0_i32 v0
  let v2 : BitVec 32 := Scalar.addi v1 arg2
  let c16_i32 : BitVec 32 := 16#32
  let v3 : BitVec 32 := Scalar.addi c16_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let c0_i32 : BitVec 32 := 0#32
  let v1 : BitVec 32 := Scalar.addi c0_i32 v0
  let v2 : BitVec 32 := Scalar.addi v1 arg2
  let c24_i32 : BitVec 32 := 24#32
  let v3 : BitVec 32 := Scalar.addi c24_i32 arg0
  let c0_i32_0 : BitVec 32 := 0#32
  ![v2.toNat, v3.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg1 c8_i32
  let v1 : BitVec 32 := Scalar.addi v0 arg2
  let c0_i32 : BitVec 32 := 0#32
  ![v1.toNat, arg0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1x1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== RetPRefIdeal.lean ====
abbrev S8704x20480 : Shape := ⟨2, ![8704, 20480]⟩
abbrev S8192x20480 : Shape := ⟨2, ![8192, 20480]⟩
abbrev S4x2048x20480 : Shape := ⟨3, ![4, 2048, 20480]⟩
abbrev S4x2048x2048 : Shape := ⟨3, ![4, 2048, 2048]⟩
abbrev S8 : Shape := ⟨1, ![8]⟩
abbrev S_ : Shape := ⟨0, ![]⟩
abbrev S2048 : Shape := ⟨1, ![2048]⟩
abbrev S4x2048x8x256 : Shape := ⟨4, ![4, 2048, 8, 256]⟩
abbrev S128 : Shape := ⟨1, ![128]⟩
abbrev S2048x1 : Shape := ⟨2, ![2048, 1]⟩
abbrev S1x128 : Shape := ⟨2, ![1, 128]⟩
abbrev S2048x128 : Shape := ⟨2, ![2048, 128]⟩
abbrev S1x2048x1x128 : Shape := ⟨4, ![1, 2048, 1, 128]⟩
abbrev S4x2048x8x128 : Shape := ⟨4, ![4, 2048, 8, 128]⟩
abbrev S64 : Shape := ⟨1, ![64]⟩
abbrev S1x64 : Shape := ⟨2, ![1, 64]⟩
abbrev S8x1 : Shape := ⟨2, ![8, 1]⟩
abbrev S8x64 : Shape := ⟨2, ![8, 64]⟩
abbrev S4x8x256x256 : Shape := ⟨4, ![4, 8, 256, 256]⟩
abbrev S4x32x64x8x256 : Shape := ⟨5, ![4, 32, 64, 8, 256]⟩
abbrev S32x4x8x64x256 : Shape := ⟨5, ![32, 4, 8, 64, 256]⟩
abbrev S1x4x8x64x256 : Shape := ⟨5, ![1, 4, 8, 64, 256]⟩
abbrev S4x8x64x256 : Shape := ⟨4, ![4, 8, 64, 256]⟩
abbrev S1x8x1x1 : Shape := ⟨4, ![1, 8, 1, 1]⟩
abbrev S1x8x64x1 : Shape := ⟨4, ![1, 8, 64, 1]⟩

abbrev nBuf : Space → Nat
  | .hbm => 108
  | .vmem => 0
  | .smem => 0
  | _ => 0

abbrev bufTy : (tb : Table) → Fin (tcTables nBuf tb) → BufTy
  | .hbm, ⟨0, _⟩ => ⟨S8704x20480, .f32⟩
  | .hbm, ⟨1, _⟩ => ⟨S8192x20480, .f32⟩
  | .hbm, ⟨2, _⟩ => ⟨S4x2048x20480, .f32⟩
  | .hbm, ⟨3, _⟩ => ⟨S4x2048x2048, .f32⟩
  | .hbm, ⟨4, _⟩ => ⟨S4x2048x2048, .f32⟩
  | .hbm, ⟨5, _⟩ => ⟨S4x2048x2048, .f32⟩
  | .hbm, ⟨6, _⟩ => ⟨S4x2048x2048, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S8, .f32⟩
  | .hbm, ⟨18, _⟩ => ⟨S2048, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S4x2048x8x256, .f32⟩
  | .hbm, ⟨23, _⟩ => ⟨S128, .f32⟩
  | .hbm, ⟨24, _⟩ => ⟨S128, .f32⟩
  | .hbm, ⟨25, _⟩ => ⟨S_, .f32⟩
  | .hbm, ⟨26, _⟩ => ⟨S128, .f32⟩
  | .hbm, ⟨27, _⟩ => ⟨S128, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S2048x1, .f32⟩
  | .hbm, ⟨32, _⟩ => ⟨S1x128, .f32⟩
  | .hbm, ⟨33, _⟩ => ⟨S2048x128, .f32⟩
  | .hbm, ⟨34, _⟩ => ⟨S2048x128, .f32⟩
  | .hbm, ⟨35, _⟩ => ⟨S2048x128, .f32⟩
  | .hbm, ⟨36, _⟩ => ⟨S2048x128, .f32⟩
  | .hbm, ⟨37, _⟩ => ⟨S1x2048x1x128, .f32⟩
  | .hbm, ⟨38, _⟩ => ⟨S2048x128, .f32⟩
  | .hbm, ⟨39, _⟩ => ⟨S1x2048x1x128, .f32⟩
  | .hbm, ⟨40, _⟩ => ⟨S4x2048x8x128, .f32⟩
  | .hbm, ⟨41, _⟩ => ⟨S4x2048x8x128, .f32⟩
  | .hbm, ⟨42, _⟩ => ⟨S4x2048x8x128, .f32⟩
  | .hbm, ⟨43, _⟩ => ⟨S4x2048x8x128, .f32⟩
  | .hbm, ⟨44, _⟩ => ⟨S4x2048x8x128, .f32⟩
  | .hbm, ⟨45, _⟩ => ⟨S4x2048x8x128, .f32⟩
  | .hbm, ⟨46, _⟩ => ⟨S4x2048x8x128, .f32⟩
  | .hbm, ⟨47, _⟩ => ⟨S4x2048x8x128, .f32⟩
  | .hbm, ⟨48, _⟩ => ⟨S4x2048x8x128, .f32⟩
  | .hbm, ⟨49, _⟩ => ⟨S4x2048x8x128, .f32⟩
  | .hbm, ⟨50, _⟩ => ⟨S4x2048x8x128, .f32⟩
  | .hbm, ⟨51, _⟩ => ⟨S4x2048x8x128, .f32⟩
  | .hbm, ⟨52, _⟩ => ⟨S4x2048x8x256, .f32⟩
  | .hbm, ⟨53, _⟩ => ⟨S_, .f32⟩
  | .hbm, ⟨54, _⟩ => ⟨S4x2048x8x256, .f32⟩
  | .hbm, ⟨55, _⟩ => ⟨S4x2048x8x256, .f32⟩
  | .hbm, ⟨56, _⟩ => ⟨S4x2048x8x256, .f32⟩
  | .hbm, ⟨57, _⟩ => ⟨S64, .f32⟩
  | .hbm, ⟨58, _⟩ => ⟨S1x64, .f32⟩
  | .hbm, ⟨59, _⟩ => ⟨S_, .f32⟩
  | .hbm, ⟨60, _⟩ => ⟨S1x64, .f32⟩
  | .hbm, ⟨61, _⟩ => ⟨S1x64, .f32⟩
  | .hbm, ⟨62, _⟩ => ⟨S8x1, .f32⟩
  | .hbm, ⟨63, _⟩ => ⟨S8x64, .f32⟩
  | .hbm, ⟨64, _⟩ => ⟨S8x64, .f32⟩
  | .hbm, ⟨65, _⟩ => ⟨S8x64, .f32⟩
  | .hbm, ⟨66, _⟩ => ⟨S8x64, .f32⟩
  | .hbm, ⟨67, _⟩ => ⟨S_, .f32⟩
  | .hbm, ⟨68, _⟩ => ⟨S8, .f32⟩
  | .hbm, ⟨69, _⟩ => ⟨S8, .f32⟩
  | .hbm, ⟨70, _⟩ => ⟨S8, .f32⟩
  | .hbm, ⟨71, _⟩ => ⟨S_, .f32⟩
  | .hbm, ⟨72, _⟩ => ⟨S4x8x256x256, .f32⟩
  | .hbm, ⟨73, _⟩ => ⟨S4x32x64x8x256, .f32⟩
  | .hbm, ⟨74, _⟩ => ⟨S32x4x8x64x256, .f32⟩
  | .hbm, ⟨75, _⟩ => ⟨S4x32x64x8x256, .f32⟩
  | .hbm, ⟨76, _⟩ => ⟨S32x4x8x64x256, .f32⟩
  | .hbm, ⟨77, _⟩ => ⟨S_, .i32⟩
  | .hbm, ⟨78, _⟩ => ⟨S32x4x8x64x256, .f32⟩
  | .hbm, ⟨79, _⟩ => ⟨S32x4x8x64x256, .f32⟩
  | .hbm, ⟨80, _⟩ => ⟨S8, .f32⟩
  | .hbm, ⟨81, _⟩ => ⟨S8x64, .f32⟩
  | .hbm, ⟨82, _⟩ => ⟨S_, .i32⟩
  | .hbm, ⟨83, _⟩ => ⟨S4x8x256x256, .f32⟩
  | .hbm, ⟨84, _⟩ => ⟨S_, .i32⟩
  | .hbm, ⟨85, _⟩ => ⟨S_, .i1⟩
  | .hbm, ⟨86, _⟩ => ⟨S_, .i32⟩
  | .hbm, ⟨87, _⟩ => ⟨S_, .i32⟩
  | .hbm, ⟨88, _⟩ => ⟨S_, .i32⟩
  | .hbm, ⟨89, _⟩ => ⟨S_, .i32⟩
  | .hbm, ⟨90, _⟩ => ⟨S1x4x8x64x256, .f32⟩
  | .hbm, ⟨91, _⟩ => ⟨S4x8x64x256, .f32⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S1x4x8x64x256, .f32⟩
  | .hbm, ⟨97, _⟩ => ⟨S4x8x64x256, .f32⟩
  | .hbm, ⟨98, _⟩ => ⟨S1x8x1x1, .f32⟩
  | .hbm, ⟨99, _⟩ => ⟨S4x8x256x256, .f32⟩
  | .hbm, ⟨100, _⟩ => ⟨S4x8x256x256, .f32⟩
  | .hbm, ⟨101, _⟩ => ⟨S1x8x64x1, .f32⟩
  | .hbm, ⟨102, _⟩ => ⟨S4x8x64x256, .f32⟩
  | .hbm, ⟨103, _⟩ => ⟨S4x8x64x256, .f32⟩
  | .hbm, ⟨104, _⟩ => ⟨S4x8x256x256, .f32⟩
  | .hbm, ⟨105, _⟩ => ⟨S4x8x256x256, .f32⟩
  | .hbm, ⟨106, _⟩ => ⟨S_, .i32⟩
  | .hbm, ⟨107, _⟩ => ⟨S_, .i32⟩
  | _, _ => ⟨S8704x20480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_cst_0 : Ref sig .tc := ⟨.hbm, 11, rfl⟩
abbrev main_v9 : Ref sig .tc := ⟨.hbm, 12, rfl⟩
abbrev main_v10 : Ref sig .tc := ⟨.hbm, 13, rfl⟩
abbrev main_cst_1 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_cst_2 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_3 : Ref sig .tc := ⟨.hbm, 25, rfl⟩
abbrev main_v20 : Ref sig .tc := ⟨.hbm, 26, rfl⟩
abbrev main_v21 : Ref sig .tc := ⟨.hbm, 27, rfl⟩
abbrev main_cst_4 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_5 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst_6 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_cst_7 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_cst_8 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_c : Ref sig .tc := ⟨.hbm, 77, rfl⟩
abbrev main_v66_0 : Ref sig .tc := ⟨.hbm, 78, rfl⟩
abbrev main_v66_1 : Ref sig .tc := ⟨.hbm, 79, rfl⟩
abbrev main_v66_2 : Ref sig .tc := ⟨.hbm, 80, rfl⟩
abbrev main_v66_3 : Ref sig .tc := ⟨.hbm, 81, rfl⟩
abbrev main_v66_4 : Ref sig .tc := ⟨.hbm, 82, rfl⟩
abbrev main_v66_5 : Ref sig .tc := ⟨.hbm, 83, rfl⟩
abbrev main_while0c_c_14 : Ref sig .tc := ⟨.hbm, 84, rfl⟩
abbrev main_while0c_v67 : Ref sig .tc := ⟨.hbm, 85, rfl⟩
abbrev main_while0b_call0_c : Ref sig .tc := ⟨.hbm, 86, rfl⟩
abbrev main_while0b_call0_c_0 : Ref sig .tc := ⟨.hbm, 87, rfl⟩
abbrev main_while0b_call0_c_1 : Ref sig .tc := ⟨.hbm, 88, rfl⟩
abbrev main_while0b_call0_c_2 : Ref sig .tc := ⟨.hbm, 89, rfl⟩
abbrev main_while0b_call0_v0 : Ref sig .tc := ⟨.hbm, 90, rfl⟩
abbrev main_while0b_v67 : Ref sig .tc := ⟨.hbm, 91, rfl⟩
abbrev main_while0b_call1_c : Ref sig .tc := ⟨.hbm, 92, rfl⟩
abbrev main_while0b_call1_c_0 : Ref sig .tc := ⟨.hbm, 93, rfl⟩
abbrev main_while0b_call1_c_1 : Ref sig .tc := ⟨.hbm, 94, rfl⟩
abbrev main_while0b_call1_c_2 : Ref sig .tc := ⟨.hbm, 95, rfl⟩
abbrev main_while0b_call1_v0 : Ref sig .tc := ⟨.hbm, 96, rfl⟩
abbrev main_while0b_v68 : Ref sig .tc := ⟨.hbm, 97, rfl⟩
abbrev main_while0b_v69 : Ref sig .tc := ⟨.hbm, 98, rfl⟩
abbrev main_while0b_v70 : Ref sig .tc := ⟨.hbm, 99, rfl⟩
abbrev main_while0b_v71 : Ref sig .tc := ⟨.hbm, 100, rfl⟩
abbrev main_while0b_v72 : Ref sig .tc := ⟨.hbm, 101, rfl⟩
abbrev main_while0b_v73 : Ref sig .tc := ⟨.hbm, 102, rfl⟩
abbrev main_while0b_v74 : Ref sig .tc := ⟨.hbm, 103, rfl⟩
abbrev main_while0b_v75 : Ref sig .tc := ⟨.hbm, 104, rfl⟩
abbrev main_while0b_v76 : Ref sig .tc := ⟨.hbm, 105, rfl⟩
abbrev main_while0b_c_14 : Ref sig .tc := ⟨.hbm, 106, rfl⟩
abbrev main_while0b_v77 : Ref sig .tc := ⟨.hbm, 107, rfl⟩

abbrev nD : Nat := 1
abbrev τ : Topo := Topo.v7x

variable {F : FTy → Type} [FloatOps F]

abbrev main_while0_count : Scf.Loop 32 := ⟨0#32, 32#32, 1#32⟩
-- ==== MmIn.lean ====
abbrev S8704x4096 : Shape := ⟨2, ![8704, 4096]⟩
abbrev S2x4096x20480 : Shape := ⟨3, ![2, 4096, 20480]⟩
abbrev S8704x20480 : Shape := ⟨2, ![8704, 20480]⟩
abbrev S1088x4096 : Shape := ⟨2, ![1088, 4096]⟩
abbrev S1x4096x512 : Shape := ⟨3, ![1, 4096, 512]⟩
abbrev S1088x512 : Shape := ⟨2, ![1088, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8704x4096, .bf16⟩
  | .hbm, ⟨1, _⟩ => ⟨S2x4096x20480, .f32⟩
  | .hbm, ⟨2, _⟩ => ⟨S8704x20480, .f32⟩
  | .local _ .vmem, ⟨0, _⟩ => ⟨S1088x4096, .bf16⟩
  | .local _ .vmem, ⟨1, _⟩ => ⟨S1088x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1088x512, .f32⟩
  | .local _ .vmem, ⟨5, _⟩ => ⟨S1088x512, .f32⟩
  | .local _ .vmem, ⟨6, _⟩ => ⟨S4096x512, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![40, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmInRefIdeal.lean ====
abbrev S8704x4096 : Shape := ⟨2, ![8704, 4096]⟩
abbrev S2x4096x20480 : Shape := ⟨3, ![2, 4096, 20480]⟩
abbrev S1x4096x20480 : Shape := ⟨3, ![1, 4096, 20480]⟩
abbrev S4096x20480 : Shape := ⟨2, ![4096, 20480]⟩
abbrev S8704x20480 : Shape := ⟨2, ![8704, 20480]⟩

abbrev nBuf : Space → Nat
  | .hbm => 6
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S2x4096x20480, .f32⟩
  | .hbm, ⟨2, _⟩ => ⟨S8704x4096, .f32⟩
  | .hbm, ⟨3, _⟩ => ⟨S1x4096x20480, .f32⟩
  | .hbm, ⟨4, _⟩ => ⟨S4096x20480, .f32⟩
  | .hbm, ⟨5, _⟩ => ⟨S8704x20480, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmO.lean ====
abbrev S8704x4096 : Shape := ⟨2, ![8704, 4096]⟩
abbrev S2x4096x4096 : Shape := ⟨3, ![2, 4096, 4096]⟩
abbrev S1088x4096 : Shape := ⟨2, ![1088, 4096]⟩
abbrev S1x4096x512 : Shape := ⟨3, ![1, 4096, 512]⟩
abbrev S1088x512 : Shape := ⟨2, ![1088, 512]⟩
abbrev S4096x512 : Shape := ⟨2, ![4096, 512]⟩

abbrev nBuf : Space → Nat
  | .hbm => 3
  | .vmem => 7
  | .smem => 0
  | _ => 0

abbrev bufTy : (tb : Table) → Fin (tcTables nBuf tb) → BufTy
  | .hbm, ⟨0, _⟩ => ⟨S8704x4096, .bf16⟩
  | .hbm, ⟨1, _⟩ => ⟨S2x4096x4096, .f32⟩
  | .hbm, ⟨2, _⟩ => ⟨S8704x4096, .f32⟩
  | .local _ .vmem, ⟨0, _⟩ => ⟨S1088x4096, .bf16⟩
  | .local _ .vmem, ⟨1, _⟩ => ⟨S1088x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1088x512, .f32⟩
  | .local _ .vmem, ⟨5, _⟩ => ⟨S1088x512, .f32⟩
  | .local _ .vmem, ⟨6, _⟩ => ⟨S4096x512, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmORefIdeal.lean ====
abbrev S8704x4096 : Shape := ⟨2, ![8704, 4096]⟩
abbrev S2x4096x4096 : Shape := ⟨3, ![2, 4096, 4096]⟩
abbrev S1x4096x4096 : Shape := ⟨3, ![1, 4096, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S2x4096x4096, .f32⟩
  | .hbm, ⟨2, _⟩ => ⟨S8704x4096, .f32⟩
  | .hbm, ⟨3, _⟩ => ⟨S1x4096x4096, .f32⟩
  | .hbm, ⟨4, _⟩ => ⟨S4096x4096, .f32⟩
  | .hbm, ⟨5, _⟩ => ⟨S8704x4096, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== MmUp.lean ====
abbrev S8704x4096 : Shape := ⟨2, ![8704, 4096]⟩
abbrev S2x4096x22016 : Shape := ⟨3, ![2, 4096, 22016]⟩
abbrev S2x32x2x11008 : Shape := ⟨4, ![2, 32, 2, 11008]⟩
abbrev S8704x22016 : Shape := ⟨2, ![8704, 22016]⟩
abbrev S1088x4096 : Shape := ⟨2, ![1088, 4096]⟩
abbrev S1x4096x512 : Shape := ⟨3, ![1, 4096, 512]⟩
abbrev S1088x512 : Shape := ⟨2, ![1088, 512]⟩
abbrev S4096x512 : Shape := ⟨2, ![4096, 512]⟩
abbrev S8192x22016 : Shape := ⟨2, ![8192, 22016]⟩
abbrev S4x2048x22016 : Shape := ⟨3, ![4, 2048, 22016]⟩
abbrev S4x2x11008 : Shape := ⟨3, ![4, 2, 11008]⟩
abbrev S512x22016 : Shape := ⟨2, ![512, 22016]⟩
abbrev S32x16x22016 : Shape := ⟨3, ![32, 16, 22016]⟩
abbrev S32x2x11008 : Shape := ⟨3, ![32, 2, 11008]⟩

abbrev nBuf : Space → Nat
  | .hbm => 10
  | .vmem => 7
  | .smem => 0
  | _ => 0

abbrev bufTy : (tb : Table) → Fin (tcTables nBuf tb) → BufTy
  | .hbm, ⟨0, _⟩ => ⟨S8704x4096, .bf16⟩
  | .hbm, ⟨1, _⟩ => ⟨S2x4096x22016, .f32⟩
  | .hbm, ⟨2, _⟩ => ⟨S2x32x2x11008, .f32⟩
  | .hbm, ⟨3, _⟩ => ⟨S8704x22016, .f32⟩
  | .hbm, ⟨4, _⟩ => ⟨S8192x22016, .f32⟩
  | .hbm, ⟨5, _⟩ => ⟨S4x2048x22016, .f32⟩
  | .hbm, ⟨6, _⟩ => ⟨S4x2x11008, .f32⟩
  | .hbm, ⟨7, _⟩ => ⟨S512x22016, .f32⟩
  | .hbm, ⟨8, _⟩ => ⟨S32x16x22016, .f32⟩
  | .hbm, ⟨9, _⟩ => ⟨S32x2x11008, .f32⟩
  | .local _ .vmem, ⟨0, _⟩ => ⟨S1088x4096, .bf16⟩
  | .local _ .vmem, ⟨1, _⟩ => ⟨S1088x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1088x512, .f32⟩
  | .local _ .vmem, ⟨5, _⟩ => ⟨S1088x512, .f32⟩
  | .local _ .vmem, ⟨6, _⟩ => ⟨S4096x512, .bf16⟩
  | _, _ => ⟨S8704x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![43, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1088x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmUpRefIdeal.lean ====
abbrev S8704x4096 : Shape := ⟨2, ![8704, 4096]⟩
abbrev S2x4096x22016 : Shape := ⟨3, ![2, 4096, 22016]⟩
abbrev S2x32x2x11008 : Shape := ⟨4, ![2, 32, 2, 11008]⟩
abbrev S1x4096x22016 : Shape := ⟨3, ![1, 4096, 22016]⟩
abbrev S4096x22016 : Shape := ⟨2, ![4096, 22016]⟩
abbrev S8704x22016 : Shape := ⟨2, ![8704, 22016]⟩
abbrev S_ : Shape := ⟨0, ![]⟩
abbrev S4x2x11008 : Shape := ⟨3, ![4, 2, 11008]⟩
abbrev S8192x22016 : Shape := ⟨2, ![8192, 22016]⟩
abbrev S4x2048x22016 : Shape := ⟨3, ![4, 2048, 22016]⟩
abbrev S4x2048x11008 : Shape := ⟨3, ![4, 2048, 11008]⟩
abbrev S4x2050x11008 : Shape := ⟨3, ![4, 2050, 11008]⟩
abbrev S1x32x2x11008 : Shape := ⟨4, ![1, 32, 2, 11008]⟩
abbrev S32x2x11008 : Shape := ⟨3, ![32, 2, 11008]⟩
abbrev S512x22016 : Shape := ⟨2, ![512, 22016]⟩
abbrev S32x16x22016 : Shape := ⟨3, ![32, 16, 22016]⟩
abbrev S32x16x11008 : Shape := ⟨3, ![32, 16, 11008]⟩
abbrev S32x18x11008 : Shape := ⟨3, ![32, 18, 11008]⟩

abbrev nBuf : Space → Nat
  | .hbm => 23
  | .vmem => 0
  | .smem => 0
  | _ => 0

abbrev bufTy : (tb : Table) → Fin (tcTables nBuf tb) → BufTy
  | .hbm, ⟨0, _⟩ => ⟨S8704x4096, .bf16⟩
  | .hbm, ⟨1, _⟩ => ⟨S2x4096x22016, .f32⟩
  | .hbm, ⟨2, _⟩ => ⟨S2x32x2x11008, .f32⟩
  | .hbm, ⟨3, _⟩ => ⟨S8704x4096, .f32⟩
  | .hbm, ⟨4, _⟩ => ⟨S1x4096x22016, .f32⟩
  | .hbm, ⟨5, _⟩ => ⟨S4096x22016, .f32⟩
  | .hbm, ⟨6, _⟩ => ⟨S8704x22016, .f32⟩
  | .hbm, ⟨7, _⟩ => ⟨S_, .f32⟩
  | .hbm, ⟨8, _⟩ => ⟨S4x2x11008, .f32⟩
  | .hbm, ⟨9, _⟩ => ⟨S8192x22016, .f32⟩
  | .hbm, ⟨10, _⟩ => ⟨S4x2048x22016, .f32⟩
  | .hbm, ⟨11, _⟩ => ⟨S4x2048x11008, .f32⟩
  | .hbm, ⟨12, _⟩ => ⟨S4x2048x11008, .f32⟩
  | .hbm, ⟨13, _⟩ => ⟨S4x2050x11008, .f32⟩
  | .hbm, ⟨14, _⟩ => ⟨S1x32x2x11008, .f32⟩
  | .hbm, ⟨15, _⟩ => ⟨S32x2x11008, .f32⟩
  | .hbm, ⟨16, _⟩ => ⟨S512x22016, .f32⟩
  | .hbm, ⟨17, _⟩ => ⟨S32x16x22016, .f32⟩
  | .hbm, ⟨18, _⟩ => ⟨S32x16x11008, .f32⟩
  | .hbm, ⟨19, _⟩ => ⟨S32x16x11008, .f32⟩
  | .hbm, ⟨20, _⟩ => ⟨S32x18x11008, .f32⟩
  | .hbm, ⟨21, _⟩ => ⟨S4x2x11008, .f32⟩
  | .hbm, ⟨22, _⟩ => ⟨S32x2x11008, .f32⟩
  | _, _ => ⟨S8704x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩

abbrev nD : Nat := 1
abbrev τ : Topo := Topo.v7x

variable {F : FTy → Type} [FloatOps F]
-- ==== MmDown.lean ====
abbrev S8704x11008 : Shape := ⟨2, ![8704, 11008]⟩
abbrev S2x11008x4096 : Shape := ⟨3, ![2, 11008, 4096]⟩
abbrev S8704x4096 : Shape := ⟨2, ![8704, 4096]⟩
abbrev S272x11008 : Shape := ⟨2, ![272, 11008]⟩
abbrev S1x11008x256 : Shape := ⟨3, ![1, 11008, 256]⟩
abbrev S272x256 : Shape := ⟨2, ![272, 256]⟩
abbrev S11008x256 : Shape := ⟨2, ![11008, 256]⟩

abbrev nBuf : Space → Nat
  | .hbm => 3
  | .vmem => 7
  | .smem => 0
  | _ => 0

abbrev bufTy : (tb : Table) → Fin (tcTables nBuf tb) → BufTy
  | .hbm, ⟨0, _⟩ => ⟨S8704x11008, .bf16⟩
  | .hbm, ⟨1, _⟩ => ⟨S2x11008x4096, .f32⟩
  | .hbm, ⟨2, _⟩ => ⟨S8704x4096, .f32⟩
  | .local _ .vmem, ⟨0, _⟩ => ⟨S272x11008, .bf16⟩
  | .local _ .vmem, ⟨1, _⟩ => ⟨S272x11008, .bf16⟩
  | .local _ .vmem, ⟨2, _⟩ => ⟨S1x11008x256, .f32⟩
  | .local _ .vmem, ⟨3, _⟩ => ⟨S1x11008x256, .f32⟩
  | .local _ .vmem, ⟨4, _⟩ => ⟨S272x256, .f32⟩
  | .local _ .vmem, ⟨5, _⟩ => ⟨S272x256, .f32⟩
  | .local _ .vmem, ⟨6, _⟩ => ⟨S11008x256, .bf16⟩
  | _, _ => ⟨S8704x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S272x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x11008x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S272x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== MmDownRefIdeal.lean ====
abbrev S8704x11008 : Shape := ⟨2, ![8704, 11008]⟩
abbrev S2x11008x4096 : Shape := ⟨3, ![2, 11008, 4096]⟩
abbrev S1x11008x4096 : Shape := ⟨3, ![1, 11008, 4096]⟩
abbrev S11008x4096 : Shape := ⟨2, ![11008, 4096]⟩
abbrev S8704x4096 : Shape := ⟨2, ![8704, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8704x11008, .bf16⟩
  | .hbm, ⟨1, _⟩ => ⟨S2x11008x4096, .f32⟩
  | .hbm, ⟨2, _⟩ => ⟨S8704x11008, .f32⟩
  | .hbm, ⟨3, _⟩ => ⟨S1x11008x4096, .f32⟩
  | .hbm, ⟨4, _⟩ => ⟨S11008x4096, .f32⟩
  | .hbm, ⟨5, _⟩ => ⟨S8704x4096, .f32⟩
  | _, _ => ⟨S8704x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Merge.lean ====
abbrev S8704x2048 : Shape := ⟨2, ![8704, 2048]⟩
abbrev S8704x20480 : Shape := ⟨2, ![8704, 20480]⟩
abbrev S2x2048x4096 : Shape := ⟨3, ![2, 2048, 4096]⟩
abbrev S8704x4096 : Shape := ⟨2, ![8704, 4096]⟩
abbrev S544x2048 : Shape := ⟨2, ![544, 2048]⟩
abbrev S544x512 : Shape := ⟨2, ![544, 512]⟩
abbrev S1x2048x512 : Shape := ⟨3, ![1, 2048, 512]⟩
abbrev S2048x512 : Shape := ⟨2, ![2048, 512]⟩

abbrev nBuf : Space → Nat
  | .hbm => 6
  | .vmem => 16
  | .smem => 0
  | _ => 0

abbrev bufTy : (tb : Table) → Fin (tcTables nBuf tb) → BufTy
  | .hbm, ⟨0, _⟩ => ⟨S8704x2048, .bf16⟩
  | .hbm, ⟨1, _⟩ => ⟨S8704x2048, .bf16⟩
  | .hbm, ⟨2, _⟩ => ⟨S8704x20480, .f32⟩
  | .hbm, ⟨3, _⟩ => ⟨S2x2048x4096, .f32⟩
  | .hbm, ⟨4, _⟩ => ⟨S2x2048x4096, .f32⟩
  | .hbm, ⟨5, _⟩ => ⟨S8704x4096, .bf16⟩
  | .local _ .vmem, ⟨0, _⟩ => ⟨S544x2048, .bf16⟩
  | .local _ .vmem, ⟨1, _⟩ => ⟨S544x2048, .bf16⟩
  | .local _ .vmem, ⟨2, _⟩ => ⟨S544x2048, .bf16⟩
  | .local _ .vmem, ⟨3, _⟩ => ⟨S544x2048, .bf16⟩
  | .local _ .vmem, ⟨4, _⟩ => ⟨S544x512, .f32⟩
  | .local _ .vmem, ⟨5, _⟩ => ⟨S544x512, .f32⟩
  | .local _ .vmem, ⟨6, _⟩ => ⟨S544x512, .f32⟩
  | .local _ .vmem, ⟨7, _⟩ => ⟨S544x512, .f32⟩
  | .local _ .vmem, ⟨8, _⟩ => ⟨S1x2048x512, .f32⟩
  | .local _ .vmem, ⟨9, _⟩ => ⟨S1x2048x512, .f32⟩
  | .local _ .vmem, ⟨10, _⟩ => ⟨S1x2048x512, .f32⟩
  | .local _ .vmem, ⟨11, _⟩ => ⟨S1x2048x512, .f32⟩
  | .local _ .vmem, ⟨12, _⟩ => ⟨S544x512, .bf16⟩
  | .local _ .vmem, ⟨13, _⟩ => ⟨S544x512, .bf16⟩
  | .local _ .vmem, ⟨14, _⟩ => ⟨S2048x512, .bf16⟩
  | .local _ .vmem, ⟨15, _⟩ => ⟨S2048x512, .bf16⟩
  | _, _ => ⟨S8704x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![arg1.toNat, v0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S544x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S544x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S544x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S544x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S8704x2048 : Shape := ⟨2, ![8704, 2048]⟩
abbrev S8704x20480 : Shape := ⟨2, ![8704, 20480]⟩
abbrev S2x2048x4096 : Shape := ⟨3, ![2, 2048, 4096]⟩
abbrev S8704x4096 : Shape := ⟨2, ![8704, 4096]⟩
abbrev S1x2048x4096 : Shape := ⟨3, ![1, 2048, 4096]⟩
abbrev S2048x4096 : Shape := ⟨2, ![2048, 4096]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8704x2048, .bf16⟩
  | .hbm, ⟨1, _⟩ => ⟨S8704x2048, .bf16⟩
  | .hbm, ⟨2, _⟩ => ⟨S8704x20480, .f32⟩
  | .hbm, ⟨3, _⟩ => ⟨S2x2048x4096, .f32⟩
  | .hbm, ⟨4, _⟩ => ⟨S2x2048x4096, .f32⟩
  | .hbm, ⟨5, _⟩ => ⟨S8704x4096, .f32⟩
  | .hbm, ⟨6, _⟩ => ⟨S8704x4096, .f32⟩
  | .hbm, ⟨7, _⟩ => ⟨S8704x2048, .f32⟩
  | .hbm, ⟨8, _⟩ => ⟨S1x2048x4096, .f32⟩
  | .hbm, ⟨9, _⟩ => ⟨S2048x4096, .f32⟩
  | .hbm, ⟨10, _⟩ => ⟨S8704x4096, .f32⟩
  | .hbm, ⟨11, _⟩ => ⟨S8704x2048, .f32⟩
  | .hbm, ⟨12, _⟩ => ⟨S1x2048x4096, .f32⟩
  | .hbm, ⟨13, _⟩ => ⟨S2048x4096, .f32⟩
  | .hbm, ⟨14, _⟩ => ⟨S8704x4096, .f32⟩
  | .hbm, ⟨15, _⟩ => ⟨S8704x4096, .f32⟩
  | .hbm, ⟨16, _⟩ => ⟨S8704x4096, .f32⟩
  | .hbm, ⟨17, _⟩ => ⟨S_, .f32⟩
  | .hbm, ⟨18, _⟩ => ⟨S8704x4096, .f32⟩
  | .hbm, ⟨19, _⟩ => ⟨S8704x4096, .f32⟩
  | .hbm, ⟨20, _⟩ => ⟨S_, .f32⟩
  | .hbm, ⟨21, _⟩ => ⟨S8704x4096, .f32⟩
  | .hbm, ⟨22, _⟩ => ⟨S8704x4096, .f32⟩
  | .hbm, ⟨23, _⟩ => ⟨S8704x4096, .f32⟩
  | .hbm, ⟨24, _⟩ => ⟨S8704x4096, .f32⟩
  | .hbm, ⟨25, _⟩ => ⟨S8704x4096, .f32⟩
  | .hbm, ⟨26, _⟩ => ⟨S_, .f32⟩
  | .hbm, ⟨27, _⟩ => ⟨S8704x4096, .f32⟩
  | .hbm, ⟨28, _⟩ => ⟨S8704x4096, .f32⟩
  | .hbm, ⟨29, _⟩ => ⟨S_, .f32⟩
  | .hbm, ⟨30, _⟩ => ⟨S8704x4096, .f32⟩
  | .hbm, ⟨31, _⟩ => ⟨S8704x4096, .f32⟩
  | .hbm, ⟨32, _⟩ => ⟨S8704x4096, .f32⟩
  | .hbm, ⟨33, _⟩ => ⟨S8704x4096, .f32⟩
  | .hbm, ⟨34, _⟩ => ⟨S8704x4096, .bf16⟩
  | _, _ => ⟨S8704x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== AddLn.lean ====
abbrev S8704x4096 : Shape := ⟨2, ![8704, 4096]⟩
abbrev S2x4096 : Shape := ⟨2, ![2, 4096]⟩
abbrev S1x4096 : Shape := ⟨2, ![1, 4096]⟩
abbrev S4096 : Shape := ⟨1, ![4096]⟩
abbrev S256x4096 : Shape := ⟨2, ![256, 4096]⟩
abbrev S256 : Shape := ⟨1, ![256]⟩
abbrev S256x1 : Shape := ⟨2, ![256, 1]⟩

abbrev nBuf : Space → Nat
  | .hbm => 12
  | .vmem => 10
  | .smem => 0
  | _ => 0

abbrev bufTy : (tb : Table) → Fin (tcTables nBuf tb) → BufTy
  | .hbm, ⟨0, _⟩ => ⟨S8704x4096, .f32⟩
  | .hbm, ⟨1, _⟩ => ⟨S8704x4096, .f32⟩
  | .hbm, ⟨2, _⟩ => ⟨S2x4096, .f32⟩
  | .hbm, ⟨3, _⟩ => ⟨S2x4096, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S4096, .f32⟩
  | .hbm, ⟨8, _⟩ => ⟨S1x4096, .f32⟩
  | .hbm, ⟨9, _⟩ => ⟨S1x4096, .f32⟩
  | .hbm, ⟨10, _⟩ => ⟨S8704x4096, .f32⟩
  | .hbm, ⟨11, _⟩ => ⟨S8704x4096, .bf16⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | _, _ => ⟨S8704x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== AddLnRefIdeal.lean ====
abbrev S8704x4096 : Shape := ⟨2, ![8704, 4096]⟩
abbrev S2x4096 : Shape := ⟨2, ![2, 4096]⟩
abbrev S_ : Shape := ⟨0, ![]⟩
abbrev S1x4096 : Shape := ⟨2, ![1, 4096]⟩
abbrev S4096 : Shape := ⟨1, ![4096]⟩
abbrev S8704 : Shape := ⟨1, ![8704]⟩
abbrev S8704x1 : Shape := ⟨2, ![8704, 1]⟩

abbrev nBuf : Space → Nat
  | .hbm => 42
  | .vmem => 0
  | .smem => 0
  | _ => 0

abbrev bufTy : (tb : Table) → Fin (tcTables nBuf tb) → BufTy
  | .hbm, ⟨0, _⟩ => ⟨S8704x4096, .f32⟩
  | .hbm, ⟨1, _⟩ => ⟨S8704x4096, .f32⟩
  | .hbm, ⟨2, _⟩ => ⟨S2x4096, .f32⟩
  | .hbm, ⟨3, _⟩ => ⟨S2x4096, .f32⟩
  | .hbm, ⟨4, _⟩ => ⟨S_, .f32⟩
  | .hbm, ⟨5, _⟩ => ⟨S8704x4096, .f32⟩
  | .hbm, ⟨6, _⟩ => ⟨S8704x4096, .f32⟩
  | .hbm, ⟨7, _⟩ => ⟨S8704x4096, .f32⟩
  | .hbm, ⟨8, _⟩ => ⟨S1x4096, .f32⟩
  | .hbm, ⟨9, _⟩ => ⟨S4096, .f32⟩
  | .hbm, ⟨10, _⟩ => ⟨S1x4096, .f32⟩
  | .hbm, ⟨11, _⟩ => ⟨S4096, .f32⟩
  | .hbm, ⟨12, _⟩ => ⟨S_, .f32⟩
  | .hbm, ⟨13, _⟩ => ⟨S8704, .f32⟩
  | .hbm, ⟨14, _⟩ => ⟨S8704x1, .f32⟩
  | .hbm, ⟨15, _⟩ => ⟨S_, .f32⟩
  | .hbm, ⟨16, _⟩ => ⟨S8704x1, .f32⟩
  | .hbm, ⟨17, _⟩ => ⟨S8704x1, .f32⟩
  | .hbm, ⟨18, _⟩ => ⟨S8704x4096, .f32⟩
  | .hbm, ⟨19, _⟩ => ⟨S8704x4096, .f32⟩
  | .hbm, ⟨20, _⟩ => ⟨S8704x4096, .f32⟩
  | .hbm, ⟨21, _⟩ => ⟨S_, .f32⟩
  | .hbm, ⟨22, _⟩ => ⟨S8704, .f32⟩
  | .hbm, ⟨23, _⟩ => ⟨S8704x1, .f32⟩
  | .hbm, ⟨24, _⟩ => ⟨S_, .f32⟩
  | .hbm, ⟨25, _⟩ => ⟨S8704x1, .f32⟩
  | .hbm, ⟨26, _⟩ => ⟨S8704x1, .f32⟩
  | .hbm, ⟨27, _⟩ => ⟨S8704x4096, .f32⟩
  | .hbm, ⟨28, _⟩ => ⟨S8704x4096, .f32⟩
  | .hbm, ⟨29, _⟩ => ⟨S_, .f32⟩
  | .hbm, ⟨30, _⟩ => ⟨S8704x1, .f32⟩
  | .hbm, ⟨31, _⟩ => ⟨S8704x1, .f32⟩
  | .hbm, ⟨32, _⟩ => ⟨S8704x1, .f32⟩
  | .hbm, ⟨33, _⟩ => ⟨S8704x4096, .f32⟩
  | .hbm, ⟨34, _⟩ => ⟨S8704x4096, .f32⟩
  | .hbm, ⟨35, _⟩ => ⟨S1x4096, .f32⟩
  | .hbm, ⟨36, _⟩ => ⟨S8704x4096, .f32⟩
  | .hbm, ⟨37, _⟩ => ⟨S8704x4096, .f32⟩
  | .hbm, ⟨38, _⟩ => ⟨S1x4096, .f32⟩
  | .hbm, ⟨39, _⟩ => ⟨S8704x4096, .f32⟩
  | .hbm, ⟨40, _⟩ => ⟨S8704x4096, .f32⟩
  | .hbm, ⟨41, _⟩ => ⟨S8704x4096, .bf16⟩
  | _, _ => ⟨S8704x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩

abbrev nD : Nat := 1
abbrev τ : Topo := Topo.v7x

variable {F : FTy → Type} [FloatOps F]
-- ==== Sgu.lean ====
abbrev S8704x20480 : Shape := ⟨2, ![8704, 20480]⟩
abbrev S2x2048 : Shape := ⟨2, ![2, 2048]⟩
abbrev S2x8x128x128 : Shape := ⟨4, ![2, 8, 128, 128]⟩
abbrev S2x8x128 : Shape := ⟨3, ![2, 8, 128]⟩
abbrev S1x2048 : Shape := ⟨2, ![1, 2048]⟩
abbrev S2048 : Shape := ⟨1, ![2048]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S8x16x16 : Shape := ⟨3, ![8, 16, 16]⟩
abbrev S1x8x1x16x1x16 : Shape := ⟨6, ![1, 8, 1, 16, 1, 16]⟩
abbrev S1x8x8x16x8x16 : Shape := ⟨6, ![1, 8, 8, 16, 8, 16]⟩
abbrev S8x16 : Shape := ⟨2, ![8, 16]⟩
abbrev S1x8x1x16 : Shape := ⟨4, ![1, 8, 1, 16]⟩
abbrev S1x8x8x16 : Shape := ⟨4, ![1, 8, 8, 16]⟩
abbrev S128x8 : Shape := ⟨2, ![128, 8]⟩
abbrev S128x8x256 : Shape := ⟨3, ![128, 8, 256]⟩
abbrev S128x2048 : Shape := ⟨2, ![128, 2048]⟩
abbrev S512x2048 : Shape := ⟨2, ![512, 2048]⟩
abbrev S256x2048 : Shape := ⟨2, ![256, 2048]⟩
abbrev S256 : Shape := ⟨1, ![256]⟩
abbrev S256x1 : Shape := ⟨2, ![256, 1]⟩
abbrev S128x128 : Shape := ⟨2, ![128, 128]⟩
abbrev S1x128x128 : Shape := ⟨3, ![1, 128, 128]⟩
abbrev S128x256 : Shape := ⟨2, ![128, 256]⟩

abbrev nBuf : Space → Nat
  | .hbm => 28
  | .vmem => 12
  | .smem => 0
  | _ => 0

abbrev bufTy : (tb : Table) → Fin (tcTables nBuf tb) → BufTy
  | .hbm, ⟨0, _⟩ => ⟨S8704x20480, .f32⟩
  | .hbm, ⟨1, _⟩ => ⟨S2x2048, .f32⟩
  | .hbm, ⟨2, _⟩ => ⟨S2x2048, .f32⟩
  | .hbm, ⟨3, _⟩ => ⟨S2x8x128x128, .f32⟩
  | .hbm, ⟨4, _⟩ => ⟨S2x8x128, .f32⟩
  | .hbm, ⟨5, _⟩ => ⟨S1x2048, .f32⟩
  | .hbm, ⟨6, _⟩ => ⟨S2048, .f32⟩
  | .hbm, ⟨7, _⟩ => ⟨S1x2048, .f32⟩
  | .hbm, ⟨8, _⟩ => ⟨S2048, .f32⟩
  | .hbm, ⟨9, _⟩ => ⟨S1x8x128x128, .f32⟩
  | .hbm, ⟨10, _⟩ => ⟨S8x128x128, .f32⟩
  | .hbm, ⟨11, _⟩ => ⟨S1x8x128, .f32⟩
  | .hbm, ⟨12, _⟩ => ⟨S8x128, .f32⟩
  | .hbm, ⟨13, _⟩ => ⟨S8x16x16, .f32⟩
  | .hbm, ⟨14, _⟩ => ⟨S1x8x1x16x1x16, .f32⟩
  | .hbm, ⟨15, _⟩ => ⟨S1x8x8x16x8x16, .f32⟩
  | .hbm, ⟨16, _⟩ => ⟨S8x128x128, .f32⟩
  | .hbm, ⟨17, _⟩ => ⟨S8x16, .f32⟩
  | .hbm, ⟨18, _⟩ => ⟨S1x8x1x16, .f32⟩
  | .hbm, ⟨19, _⟩ => ⟨S1x8x8x16, .f32⟩
  | .hbm, ⟨20, _⟩ => ⟨S8x128, .f32⟩
  | .hbm, ⟨21, _⟩ => ⟨S128x8, .f32⟩
  | .hbm, ⟨22, _⟩ => ⟨S128x8x256, .f32⟩
  | .hbm, ⟨23, _⟩ => ⟨S128x2048, .f32⟩
  | .hbm, ⟨24, _⟩ => ⟨S1x2048, .f32⟩
  | .hbm, ⟨25, _⟩ => ⟨S1x2048, .f32⟩
  | .hbm, ⟨26, _⟩ => ⟨S512x2048, .bf16⟩
  | .hbm, ⟨27, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S8x128x128, .f32⟩
  | .local _ .vmem, ⟨7, _⟩ => ⟨S128x2048, .f32⟩
  | .local _ .vmem, ⟨8, _⟩ => ⟨S256x2048, .bf16⟩
  | .local _ .vmem, ⟨9, _⟩ => ⟨S256x2048, .bf16⟩
  | .local _ .vmem, ⟨10, _⟩ => ⟨S256x2048, .f32⟩
  | .local _ .vmem, ⟨11, _⟩ => ⟨S256x2048, .f32⟩
  | _, _ => ⟨S8704x20480, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21_0 : Ref sig .tc := ⟨.hbm, 26, rfl⟩
abbrev main_v21_1 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c4_i32 : BitVec 32 := 4#32
  let c0_i32 : BitVec 32 := 0#32
  ![v0.toNat, c4_i32.toNat]

def cc0_transform_1 (i : grid0.Coords) : Fin 2 → Nat :=
  let arg0 : BitVec 32 := BitVec.ofNat 32 (i 0).val
  let c32_i32 : BitVec 32 := 32#32
  let v0 : BitVec 32 := Scalar.addi c32_i32 arg0
  let c5_i32 : BitVec 32 := 5#32
  let c0_i32 : BitVec 32 := 0#32
  ![v0.toNat, c5_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SguRefIdeal.lean ====
abbrev S8704x20480 : Shape := ⟨2, ![8704, 20480]⟩
abbrev S2x2048 : Shape := ⟨2, ![2, 2048]⟩
abbrev S2x8x128x128 : Shape := ⟨4, ![2, 8, 128, 128]⟩
abbrev S2x8x128 : Shape := ⟨3, ![2, 8, 128]⟩
abbrev S512x20480 : Shape := ⟨2, ![512, 20480]⟩
abbrev S32x16x20480 : Shape := ⟨3, ![32, 16, 20480]⟩
abbrev S32x16x2048 : Shape := ⟨3, ![32, 16, 2048]⟩
abbrev S_ : Shape := ⟨0, ![]⟩
abbrev S1x2048 : Shape := ⟨2, ![1, 2048]⟩
abbrev S2048 : Shape := ⟨1, ![2048]⟩
abbrev S32x16 : Shape := ⟨2, ![32, 16]⟩
abbrev S32x16x1 : Shape := ⟨3, ![32, 16, 1]⟩
abbrev S1x1x2048 : Shape := ⟨3, ![1, 1, 2048]⟩
abbrev S1x8x128x128 : Shape := ⟨4, ![1, 8, 128, 128]⟩
abbrev S8x128x128 : Shape := ⟨3, ![8, 128, 128]⟩
abbrev S1x8x128 : Shape := ⟨3, ![1, 8, 128]⟩
abbrev S8x128 : Shape := ⟨2, ![8, 128]⟩
abbrev S16x16 : Shape := ⟨2, ![16, 16]⟩
abbrev S1x16x16 : Shape := ⟨3, ![1, 16, 16]⟩
abbrev S8x16x16 : Shape := ⟨3, ![8, 16, 16]⟩
abbrev S32x1x16x8x256 : Shape := ⟨5, ![32, 1, 16, 8, 256]⟩
abbrev S8x32x1x256x16 : Shape := ⟨5, ![8, 32, 1, 256, 16]⟩
abbrev S8x16 : Shape := ⟨2, ![8, 16]⟩
abbrev S16x8 : Shape := ⟨2, ![16, 8]⟩
abbrev S1x1x16x8x1 : Shape := ⟨5, ![1, 1, 16, 8, 1]⟩
abbrev S512x2048 : Shape := ⟨2, ![512, 2048]⟩

abbrev nBuf : Space → Nat
  | .hbm => 111
  | .vmem => 0
  | .smem => 0
  | _ => 0

abbrev bufTy : (tb : Table) → Fin (tcTables nBuf tb) → BufTy
  | .hbm, ⟨0, _⟩ => ⟨S8704x20480, .f32⟩
  | .hbm, ⟨1, _⟩ => ⟨S2x2048, .f32⟩
  | .hbm, ⟨2, _⟩ => ⟨S2x2048, .f32⟩
  | .hbm, ⟨3, _⟩ => ⟨S2x8x128x128, .f32⟩
  | .hbm, ⟨4, _⟩ => ⟨S2x8x128, .f32⟩
  | .hbm, ⟨5, _⟩ => ⟨S512x20480, .f32⟩
  | .hbm, ⟨6, _⟩ => ⟨S32x16x20480, .f32⟩
  | .hbm, ⟨7, _⟩ => ⟨S32x16x2048, .f32⟩
  | .hbm, ⟨8, _⟩ => ⟨S32x16x2048, .f32⟩
  | .hbm, ⟨9, _⟩ => ⟨S32x16x2048, .f32⟩
  | .hbm, ⟨10, _⟩ => ⟨S32x16x2048, .f32⟩
  | .hbm, ⟨11, _⟩ => ⟨S_, .f32⟩
  | .hbm, ⟨12, _⟩ => ⟨S32x16x2048, .f32⟩
  | .hbm, ⟨13, _⟩ => ⟨S32x16x2048, .f32⟩
  | .hbm, ⟨14, _⟩ => ⟨S32x16x2048, .f32⟩
  | .hbm, ⟨15, _⟩ => ⟨S_, .f32⟩
  | .hbm, ⟨16, _⟩ => ⟨S32x16x2048, .f32⟩
  | .hbm, ⟨17, _⟩ => ⟨S32x16x2048, .f32⟩
  | .hbm, ⟨18, _⟩ => ⟨S32x16x2048, .f32⟩
  | .hbm, ⟨19, _⟩ => ⟨S_, .f32⟩
  | .hbm, ⟨20, _⟩ => ⟨S32x16x2048, .f32⟩
  | .hbm, ⟨21, _⟩ => ⟨S32x16x2048, .f32⟩
  | .hbm, ⟨22, _⟩ => ⟨S_, .f32⟩
  | .hbm, ⟨23, _⟩ => ⟨S32x16x2048, .f32⟩
  | .hbm, ⟨24, _⟩ => ⟨S32x16x2048, .f32⟩
  | .hbm, ⟨25, _⟩ => ⟨S32x16x2048, .f32⟩
  | .hbm, ⟨26, _⟩ => ⟨S32x16x2048, .f32⟩
  | .hbm, ⟨27, _⟩ => ⟨S32x16x2048, .f32⟩
  | .hbm, ⟨28, _⟩ => ⟨S_, .f32⟩
  | .hbm, ⟨29, _⟩ => ⟨S32x16x2048, .f32⟩
  | .hbm, ⟨30, _⟩ => ⟨S32x16x2048, .f32⟩
  | .hbm, ⟨31, _⟩ => ⟨S32x16x2048, .f32⟩
  | .hbm, ⟨32, _⟩ => ⟨S_, .f32⟩
  | .hbm, ⟨33, _⟩ => ⟨S32x16x2048, .f32⟩
  | .hbm, ⟨34, _⟩ => ⟨S32x16x2048, .f32⟩
  | .hbm, ⟨35, _⟩ => ⟨S32x16x2048, .f32⟩
  | .hbm, ⟨36, _⟩ => ⟨S_, .f32⟩
  | .hbm, ⟨37, _⟩ => ⟨S32x16x2048, .f32⟩
  | .hbm, ⟨38, _⟩ => ⟨S32x16x2048, .f32⟩
  | .hbm, ⟨39, _⟩ => ⟨S_, .f32⟩
  | .hbm, ⟨40, _⟩ => ⟨S32x16x2048, .f32⟩
  | .hbm, ⟨41, _⟩ => ⟨S32x16x2048, .f32⟩
  | .hbm, ⟨42, _⟩ => ⟨S32x16x2048, .f32⟩
  | .hbm, ⟨43, _⟩ => ⟨S1x2048, .f32⟩
  | .hbm, ⟨44, _⟩ => ⟨S2048, .f32⟩
  | .hbm, ⟨45, _⟩ => ⟨S1x2048, .f32⟩
  | .hbm, ⟨46, _⟩ => ⟨S2048, .f32⟩
  | .hbm, ⟨47, _⟩ => ⟨S_, .f32⟩
  | .hbm, ⟨48, _⟩ => ⟨S32x16, .f32⟩
  | .hbm, ⟨49, _⟩ => ⟨S32x16x1, .f32⟩
  | .hbm, ⟨50, _⟩ => ⟨S_, .f32⟩
  | .hbm, ⟨51, _⟩ => ⟨S32x16x1, .f32⟩
  | .hbm, ⟨52, _⟩ => ⟨S32x16x1, .f32⟩
  | .hbm, ⟨53, _⟩ => ⟨S32x16x2048, .f32⟩
  | .hbm, ⟨54, _⟩ => ⟨S32x16x2048, .f32⟩
  | .hbm, ⟨55, _⟩ => ⟨S32x16x2048, .f32⟩
  | .hbm, ⟨56, _⟩ => ⟨S_, .f32⟩
  | .hbm, ⟨57, _⟩ => ⟨S32x16, .f32⟩
  | .hbm, ⟨58, _⟩ => ⟨S32x16x1, .f32⟩
  | .hbm, ⟨59, _⟩ => ⟨S_, .f32⟩
  | .hbm, ⟨60, _⟩ => ⟨S32x16x1, .f32⟩
  | .hbm, ⟨61, _⟩ => ⟨S32x16x1, .f32⟩
  | .hbm, ⟨62, _⟩ => ⟨S32x16x2048, .f32⟩
  | .hbm, ⟨63, _⟩ => ⟨S32x16x2048, .f32⟩
  | .hbm, ⟨64, _⟩ => ⟨S_, .f32⟩
  | .hbm, ⟨65, _⟩ => ⟨S32x16x1, .f32⟩
  | .hbm, ⟨66, _⟩ => ⟨S32x16x1, .f32⟩
  | .hbm, ⟨67, _⟩ => ⟨S32x16x1, .f32⟩
  | .hbm, ⟨68, _⟩ => ⟨S32x16x2048, .f32⟩
  | .hbm, ⟨69, _⟩ => ⟨S32x16x2048, .f32⟩
  | .hbm, ⟨70, _⟩ => ⟨S1x1x2048, .f32⟩
  | .hbm, ⟨71, _⟩ => ⟨S32x16x2048, .f32⟩
  | .hbm, ⟨72, _⟩ => ⟨S32x16x2048, .f32⟩
  | .hbm, ⟨73, _⟩ => ⟨S1x1x2048, .f32⟩
  | .hbm, ⟨74, _⟩ => ⟨S32x16x2048, .f32⟩
  | .hbm, ⟨75, _⟩ => ⟨S32x16x2048, .f32⟩
  | .hbm, ⟨76, _⟩ => ⟨S1x8x128x128, .f32⟩
  | .hbm, ⟨77, _⟩ => ⟨S8x128x128, .f32⟩
  | .hbm, ⟨78, _⟩ => ⟨S1x8x128, .f32⟩
  | .hbm, ⟨79, _⟩ => ⟨S8x128, .f32⟩
  | .hbm, ⟨80, _⟩ => ⟨S_, .i1⟩
  | .hbm, ⟨81, _⟩ => ⟨S16x16, .i1⟩
  | .hbm, ⟨82, _⟩ => ⟨S16x16, .i32⟩
  | .hbm, ⟨83, _⟩ => ⟨S_, .i32⟩
  | .hbm, ⟨84, _⟩ => ⟨S16x16, .i32⟩
  | .hbm, ⟨85, _⟩ => ⟨S16x16, .i32⟩
  | .hbm, ⟨86, _⟩ => ⟨S16x16, .i32⟩
  | .hbm, ⟨87, _⟩ => ⟨S16x16, .i1⟩
  | .hbm, ⟨88, _⟩ => ⟨S_, .i1⟩
  | .hbm, ⟨89, _⟩ => ⟨S16x16, .i1⟩
  | .hbm, ⟨90, _⟩ => ⟨S16x16, .i1⟩
  | .hbm, ⟨91, _⟩ => ⟨S1x16x16, .i1⟩
  | .hbm, ⟨92, _⟩ => ⟨S8x16x16, .f32⟩
  | .hbm, ⟨93, _⟩ => ⟨S_, .f32⟩
  | .hbm, ⟨94, _⟩ => ⟨S_, .f32⟩
  | .hbm, ⟨95, _⟩ => ⟨S8x16x16, .i1⟩
  | .hbm, ⟨96, _⟩ => ⟨S8x16x16, .f32⟩
  | .hbm, ⟨97, _⟩ => ⟨S8x16x16, .f32⟩
  | .hbm, ⟨98, _⟩ => ⟨S32x1x16x8x256, .f32⟩
  | .hbm, ⟨99, _⟩ => ⟨S8x32x1x256x16, .f32⟩
  | .hbm, ⟨100, _⟩ => ⟨S32x1x16x8x256, .f32⟩
  | .hbm, ⟨101, _⟩ => ⟨S8x16, .f32⟩
  | .hbm, ⟨102, _⟩ => ⟨S16x8, .f32⟩
  | .hbm, ⟨103, _⟩ => ⟨S1x1x16x8x1, .f32⟩
  | .hbm, ⟨104, _⟩ => ⟨S32x1x16x8x256, .f32⟩
  | .hbm, ⟨105, _⟩ => ⟨S32x1x16x8x256, .f32⟩
  | .hbm, ⟨106, _⟩ => ⟨S32x16x2048, .f32⟩
  | .hbm, ⟨107, _⟩ => ⟨S32x16x2048, .f32⟩
  | .hbm, ⟨108, _⟩ => ⟨S512x2048, .f32⟩
  | .hbm, ⟨109, _⟩ => ⟨S512x2048, .bf16⟩
  | .hbm, ⟨110, _⟩ => ⟨S512x2048, .f32⟩
  | _, _ => ⟨S8704x20480, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_11 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_c : Ref sig .tc := ⟨.hbm, 80, rfl⟩
abbrev main_v62 : Ref sig .tc := ⟨.hbm, 81, rfl⟩
abbrev main_call0_v0 : Ref sig .tc := ⟨.hbm, 82, rfl⟩
abbrev main_call0_c : Ref sig .tc := ⟨.hbm, 83, rfl⟩
abbrev main_call0_v1 : Ref sig .tc := ⟨.hbm, 84, rfl⟩
abbrev main_call0_v2 : Ref sig .tc := ⟨.hbm, 85, rfl⟩
abbrev main_call0_v3 : Ref sig .tc := ⟨.hbm, 86, rfl⟩
abbrev main_call0_v4 : Ref sig .tc := ⟨.hbm, 87, rfl⟩
abbrev main_call0_c_0 : Ref sig .tc := ⟨.hbm, 88, rfl⟩
abbrev main_call0_v5 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_12 : Ref sig .tc := ⟨.hbm, 93, rfl⟩
abbrev main_call1_v0 : Ref sig .tc := ⟨.hbm, 94, rfl⟩
abbrev main_call1_v1 : Ref sig .tc := ⟨.hbm, 95, rfl⟩
abbrev main_call1_v2 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩

abbrev nD : Nat := 1
abbrev τ : Topo := Topo.v7x

variable {F : FTy → Type} [FloatOps F]
-- ==== Conv.lean ====
abbrev S8704x22016 : Shape := ⟨2, ![8704, 22016]⟩
abbrev S2x32x2x11008 : Shape := ⟨4, ![2, 32, 2, 11008]⟩
abbrev S2x3x11008 : Shape := ⟨3, ![2, 3, 11008]⟩
abbrev S2x11008 : Shape := ⟨2, ![2, 11008]⟩
abbrev S1x32x2x11008 : Shape := ⟨4, ![1, 32, 2, 11008]⟩
abbrev S32x2x11008 : Shape := ⟨3, ![32, 2, 11008]⟩
abbrev S1x3x11008 : Shape := ⟨3, ![1, 3, 11008]⟩
abbrev S3x11008 : Shape := ⟨2, ![3, 11008]⟩
abbrev S1x11008 : Shape := ⟨2, ![1, 11008]⟩
abbrev S11008 : Shape := ⟨1, ![11008]⟩
abbrev S512x11008 : Shape := ⟨2, ![512, 11008]⟩
abbrev S16x5504 : Shape := ⟨2, ![16, 5504]⟩
abbrev S1x2x5504 : Shape := ⟨3, ![1, 2, 5504]⟩
abbrev S3x5504 : Shape := ⟨2, ![3, 5504]⟩
abbrev S1x5504 : Shape := ⟨2, ![1, 5504]⟩
abbrev S24x5504 : Shape := ⟨2, ![24, 5504]⟩
abbrev S2x5504 : Shape := ⟨2, ![2, 5504]⟩
abbrev S8x5504 : Shape := ⟨2, ![8, 5504]⟩

abbrev nBuf : Space → Nat
  | .hbm => 12
  | .vmem => 13
  | .smem => 0
  | _ => 0

abbrev bufTy : (tb : Table) → Fin (tcTables nBuf tb) → BufTy
  | .hbm, ⟨0, _⟩ => ⟨S8704x22016, .f32⟩
  | .hbm, ⟨1, _⟩ => ⟨S2x32x2x11008, .f32⟩
  | .hbm, ⟨2, _⟩ => ⟨S2x3x11008, .f32⟩
  | .hbm, ⟨3, _⟩ => ⟨S2x11008, .f32⟩
  | .hbm, ⟨4, _⟩ => ⟨S1x32x2x11008, .f32⟩
  | .hbm, ⟨5, _⟩ => ⟨S32x2x11008, .f32⟩
  | .hbm, ⟨6, _⟩ => ⟨S1x3x11008, .f32⟩
  | .hbm, ⟨7, _⟩ => ⟨S3x11008, .f32⟩
  | .hbm, ⟨8, _⟩ => ⟨S1x11008, .f32⟩
  | .hbm, ⟨9, _⟩ => ⟨S11008, .f32⟩
  | .hbm, ⟨10, _⟩ => ⟨S1x11008, .f32⟩
  | .hbm, ⟨11, _⟩ => ⟨S512x11008, .bf16⟩
  | .local _ .vmem, ⟨0, _⟩ => ⟨S16x5504, .f32⟩
  | .local _ .vmem, ⟨1, _⟩ => ⟨S16x5504, .f32⟩
  | .local _ .vmem, ⟨2, _⟩ => ⟨S16x5504, .f32⟩
  | .local _ .vmem, ⟨3, _⟩ => ⟨S16x5504, .f32⟩
  | .local _ .vmem, ⟨4, _⟩ => ⟨S1x2x5504, .f32⟩
  | .local _ .vmem, ⟨5, _⟩ => ⟨S1x2x5504, .f32⟩
  | .local _ .vmem, ⟨6, _⟩ => ⟨S3x5504, .f32⟩
  | .local _ .vmem, ⟨7, _⟩ => ⟨S3x5504, .f32⟩
  | .local _ .vmem, ⟨8, _⟩ => ⟨S1x5504, .f32⟩
  | .local _ .vmem, ⟨9, _⟩ => ⟨S1x5504, .f32⟩
  | .local _ .vmem, ⟨10, _⟩ => ⟨S16x5504, .bf16⟩
  | .local _ .vmem, ⟨11, _⟩ => ⟨S16x5504, .bf16⟩
  | .local _ .vmem, ⟨12, _⟩ => ⟨S24x5504, .f32⟩
  | _, _ => ⟨S8704x22016, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![32, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg2
  let c0_i32 : BitVec 32 := 0#32
  ![v2.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let c512_i32 : BitVec 32 := 512#32
  let v1 : BitVec 32 := Scalar.addi c512_i32 v0
  let v2 : BitVec 32 := Scalar.addi v1 arg2
  let c2_i32 : BitVec 32 := 2#32
  let v3 : BitVec 32 := Scalar.addi c2_i32 arg1
  let c0_i32 : BitVec 32 := 0#32
  ![v2.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.muli arg0 c1_i32
  let v1 : BitVec 32 := Scalar.addi v0 arg2
  let c0_i32 : BitVec 32 := 0#32
  ![v1.toNat, arg1.toNat]

abbrev stage0_0 : Fin 2 → Memref sig .tc .vmem S16x5504 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S16x5504 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x2x5504 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S3x5504 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x5504 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S16x5504 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== ConvRefIdeal.lean ====
abbrev S8704x22016 : Shape := ⟨2, ![8704, 22016]⟩
abbrev S2x32x2x11008 : Shape := ⟨4, ![2, 32, 2, 11008]⟩
abbrev S2x3x11008 : Shape := ⟨3, ![2, 3, 11008]⟩
abbrev S2x11008 : Shape := ⟨2, ![2, 11008]⟩
abbrev S512x22016 : Shape := ⟨2, ![512, 22016]⟩
abbrev S32x16x22016 : Shape := ⟨3, ![32, 16, 22016]⟩
abbrev S32x16x11008 : Shape := ⟨3, ![32, 16, 11008]⟩
abbrev S1x32x2x11008 : Shape := ⟨4, ![1, 32, 2, 11008]⟩
abbrev S32x2x11008 : Shape := ⟨3, ![32, 2, 11008]⟩
abbrev S32x18x11008 : Shape := ⟨3, ![32, 18, 11008]⟩
abbrev S1x11008 : Shape := ⟨2, ![1, 11008]⟩
abbrev S11008 : Shape := ⟨1, ![11008]⟩
abbrev S1x1x11008 : Shape := ⟨3, ![1, 1, 11008]⟩
abbrev S_ : Shape := ⟨0, ![]⟩
abbrev S512x11008 : Shape := ⟨2, ![512, 11008]⟩

abbrev nBuf : Space → Nat
  | .hbm => 56
  | .vmem => 0
  | .smem => 0
  | _ => 0

abbrev bufTy : (tb : Table) → Fin (tcTables nBuf tb) → BufTy
  | .hbm, ⟨0, _⟩ => ⟨S8704x22016, .f32⟩
  | .hbm, ⟨1, _⟩ => ⟨S2x32x2x11008, .f32⟩
  | .hbm, ⟨2, _⟩ => ⟨S2x3x11008, .f32⟩
  | .hbm, ⟨3, _⟩ => ⟨S2x11008, .f32⟩
  | .hbm, ⟨4, _⟩ => ⟨S512x22016, .f32⟩
  | .hbm, ⟨5, _⟩ => ⟨S32x16x22016, .f32⟩
  | .hbm, ⟨6, _⟩ => ⟨S32x16x11008, .f32⟩
  | .hbm, ⟨7, _⟩ => ⟨S32x16x11008, .f32⟩
  | .hbm, ⟨8, _⟩ => ⟨S1x32x2x11008, .f32⟩
  | .hbm, ⟨9, _⟩ => ⟨S32x2x11008, .f32⟩
  | .hbm, ⟨10, _⟩ => ⟨S32x18x11008, .f32⟩
  | .hbm, ⟨11, _⟩ => ⟨S1x11008, .f32⟩
  | .hbm, ⟨12, _⟩ => ⟨S11008, .f32⟩
  | .hbm, ⟨13, _⟩ => ⟨S32x16x11008, .f32⟩
  | .hbm, ⟨14, _⟩ => ⟨S1x1x11008, .f32⟩
  | .hbm, ⟨15, _⟩ => ⟨S11008, .f32⟩
  | .hbm, ⟨16, _⟩ => ⟨S1x1x11008, .f32⟩
  | .hbm, ⟨17, _⟩ => ⟨S32x16x11008, .f32⟩
  | .hbm, ⟨18, _⟩ => ⟨S32x16x11008, .f32⟩
  | .hbm, ⟨19, _⟩ => ⟨S1x1x11008, .f32⟩
  | .hbm, ⟨20, _⟩ => ⟨S32x16x11008, .f32⟩
  | .hbm, ⟨21, _⟩ => ⟨S32x16x11008, .f32⟩
  | .hbm, ⟨22, _⟩ => ⟨S32x16x11008, .f32⟩
  | .hbm, ⟨23, _⟩ => ⟨S1x1x11008, .f32⟩
  | .hbm, ⟨24, _⟩ => ⟨S11008, .f32⟩
  | .hbm, ⟨25, _⟩ => ⟨S1x1x11008, .f32⟩
  | .hbm, ⟨26, _⟩ => ⟨S32x16x11008, .f32⟩
  | .hbm, ⟨27, _⟩ => ⟨S32x16x11008, .f32⟩
  | .hbm, ⟨28, _⟩ => ⟨S32x16x11008, .f32⟩
  | .hbm, ⟨29, _⟩ => ⟨S32x16x11008, .f32⟩
  | .hbm, ⟨30, _⟩ => ⟨S1x1x11008, .f32⟩
  | .hbm, ⟨31, _⟩ => ⟨S11008, .f32⟩
  | .hbm, ⟨32, _⟩ => ⟨S1x1x11008, .f32⟩
  | .hbm, ⟨33, _⟩ => ⟨S32x16x11008, .f32⟩
  | .hbm, ⟨34, _⟩ => ⟨S32x16x11008, .f32⟩
  | .hbm, ⟨35, _⟩ => ⟨S32x16x11008, .f32⟩
  | .hbm, ⟨36, _⟩ => ⟨S32x16x11008, .f32⟩
  | .hbm, ⟨37, _⟩ => ⟨S32x16x11008, .f32⟩
  | .hbm, ⟨38, _⟩ => ⟨S_, .f32⟩
  | .hbm, ⟨39, _⟩ => ⟨S32x16x11008, .f32⟩
  | .hbm, ⟨40, _⟩ => ⟨S32x16x11008, .f32⟩
  | .hbm, ⟨41, _⟩ => ⟨S32x16x11008, .f32⟩
  | .hbm, ⟨42, _⟩ => ⟨S_, .f32⟩
  | .hbm, ⟨43, _⟩ => ⟨S32x16x11008, .f32⟩
  | .hbm, ⟨44, _⟩ => ⟨S32x16x11008, .f32⟩
  | .hbm, ⟨45, _⟩ => ⟨S32x16x11008, .f32⟩
  | .hbm, ⟨46, _⟩ => ⟨S_, .f32⟩
  | .hbm, ⟨47, _⟩ => ⟨S32x16x11008, .f32⟩
  | .hbm, ⟨48, _⟩ => ⟨S32x16x11008, .f32⟩
  | .hbm, ⟨49, _⟩ => ⟨S_, .f32⟩
  | .hbm, ⟨50, _⟩ => ⟨S32x16x11008, .f32⟩
  | .hbm, ⟨51, _⟩ => ⟨S32x16x11008, .f32⟩
  | .hbm, ⟨52, _⟩ => ⟨S32x16x11008, .f32⟩
  | .hbm, ⟨53, _⟩ => ⟨S32x16x11008, .f32⟩
  | .hbm, ⟨54, _⟩ => ⟨S512x11008, .f32⟩
  | .hbm, ⟨55, _⟩ => ⟨S512x11008, .bf16⟩
  | _, _ => ⟨S8704x22016, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_cst : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_0 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_cst_1 : Ref sig .tc := ⟨.hbm, 46, rfl⟩
abbrev main_v40 : Ref sig .tc := ⟨.hbm, 47, rfl⟩
abbrev main_v41 : Ref sig .tc := ⟨.hbm, 48, rfl⟩
abbrev main_cst_2 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩

abbrev nD : Nat := 1
abbrev τ : Topo := Topo.v7x

variable {F : FTy → Type} [FloatOps F]
-- ==== Proof.RetStored.lean ====
/- What a grid point of the retention's pallas_call stores, as payloads over its blocks: the tables of decays that the
   first point of a head fills serve the others. -/
module

public import proofs.«01_k».proof.Proof.Gen.RetIdeal.Frame
public import Idealize.ShloMosaic.Lib.Pipeline.ValueKit
public import Idealize.ShloMosaic.Lib.Pointwise

@[expose] public section

set_option maxRecDepth 16384

noncomputable section

namespace Cert.RetIdeal.Sample

open Idealize.ShloMosaic Idealize.ShloMosaic.TcCoe Idealize.SL.Sem
open Idealize.ShloMosaic.Pipeline (Dat)
open Cert.RetIdeal Cert.RetIdeal.Gen

variable (m : (ℓ : Loc nD τ sig) → Buf (Elt Ideal) ℓ)

/-- Each window's block at a grid point: the head is the outer axis, the sequence the inner one. -/
theorem idx : ∀ t : Fin cfg0.N, win0_0.index t = ![512 + t.val % 32, t.val / 32] ∧ win0_1.index t = ![512 + t.val % 32, 8 + t.val / 32]
    ∧ win0_2.index t = ![512 + t.val % 32, 16 + t.val / 32] ∧ win0_3.index t = ![512 + t.val % 32, 24 + t.val / 32]
    ∧ win0_4.index t = ![0, 0] ∧ win0_5.index t = ![0, 0] ∧ win0_6.index t = ![t.val / 32, 0, 0]
    ∧ win0_7.index t = ![t.val % 32, t.val / 32, 0, 0] ∧ win0_8.index t = ![t.val % 32, t.val / 32]
    ∧ win0_9.index t = ![t.val % 32, t.val / 32, 0, 0] := (by decide +kernel : ∀ t : Fin grid0.N, _)

/-- Two points of the same head see the same decay. -/
theorem same_head (c : Dev nD) (t t' : Fin cfg0.N) (e : t.val / 32 = t'.val / 32) : iblk m c 6 t = iblk m c 6 t' := by
  funext y
  blk_ext [iblk, V, idx t, idx t']

set_option maxHeartbeats 1600000 in
/-- The three tables of decays that the first point of a head fills are kept by the others. -/
theorem tables (c : Dev nD) (n : ℕ) (hn : n < cfg0.N) :
    (outsAt0 m c n hn).2.2.1 = k0_pay4 (F := Ideal) (iblk m c 6 ⟨n, hn⟩)
      ∧ (outsAt0 m c n hn).2.2.2.1 = k0_pay6 (F := Ideal) (iblk m c 6 ⟨n, hn⟩)
      ∧ (outsAt0 m c n hn).2.2.2.2 = k0_pay7 (F := Ideal) (iblk m c 6 ⟨n, hn⟩) := by
  induction n with
  | zero => rw [outsAt0_A m c ⟨0, hn⟩ rfl]; refine ⟨?_, ?_, ?_⟩ <;> frame_out
  | succ n ih =>
    by_cases h : (n + 1) % 32 = 0
    · rw [outsAt0_A m c ⟨n + 1, hn⟩ h]; refine ⟨?_, ?_, ?_⟩ <;> frame_out
    · rw [outsAt0_B m c ⟨n + 1, hn⟩ h]
      have e := same_head m c ⟨n, Nat.lt_of_succ_lt hn⟩ ⟨n + 1, hn⟩ (by show n / 32 = (n + 1) / 32; omega)
      obtain ⟨h1, h2, h3⟩ := ih (Nat.lt_of_succ_lt hn)
      refine ⟨?_, ?_, ?_⟩
      · show (outsAt0 m c n _).2.2.1 = _
        rw [h1, e]
      · show (outsAt0 m c n _).2.2.2.1 = _
        rw [h2, e]
      · show (outsAt0 m c n _).2.2.2.2 = _
        rw [h3, e]

/-- The state a point stores: its payload over the point's blocks and tables. -/
theorem stored_state (c : Dev nD) (t : Fin cfg0.N) :
    (outsAt0 m c t.val t.isLt).2.1 = k0_pay2 (F := Ideal) (k0_pay14 (k0_pay3 (iblk m c 6 t)) (k0_pay12 (iblk m c 4 t) (iblk m c 5 t) (iblk m c 1 t)) (iblk m c 2 t)
      (k0_pay8 (iblk m c 7 t)) (k0_pay7 (iblk m c 6 t))) := by
  by_cases h : t.val % 32 = 0
  · rw [outsAt0_A m c t h]; frame_out
  · rw [outsAt0_B m c t h]; frame_out
    rw [(tables m c (t.val - 1) _).2.2, same_head m c ⟨t.val - 1, _⟩ t (by have : t.val ≠ 0 := fun e => h (by rw [e]); show (t.val - 1) / 32 = _; omega)]
    exact congrArg _ (congrArg _ (Memref.IsWhole.read_unread _ _))

/-- The output a point stores: its payload over the point's blocks and tables. -/
theorem stored_output (c : Dev nD) (t : Fin cfg0.N) :
    (outsAt0 m c t.val t.isLt).1 = k0_pay1 (F := Ideal)
      (k0_pay16 (k0_pay11 (iblk m c 4 t) (iblk m c 5 t) (iblk m c 0 t)) (k0_pay12 (iblk m c 4 t) (iblk m c 5 t) (iblk m c 1 t)) (iblk m c 2 t)
        (k0_pay8 (iblk m c 7 t)) (k0_pay4 (iblk m c 6 t)) (k0_pay6 (iblk m c 6 t)))
      (k0_pay17 (k0_pay11 (iblk m c 4 t) (iblk m c 5 t) (iblk m c 0 t)) (k0_pay12 (iblk m c 4 t) (iblk m c 5 t) (iblk m c 1 t)) (iblk m c 2 t)
        (k0_pay8 (iblk m c 7 t)) (k0_pay4 (iblk m c 6 t)) (k0_pay6 (iblk m c 6 t))) (iblk m c 3 t) := by
  by_cases h : t.val % 32 = 0
  · rw [outsAt0_A m c t h]; frame_out
  · rw [outsAt0_B m c t h]; frame_out
    have e := same_head m c ⟨t.val - 1, Nat.lt_of_le_of_lt (Nat.sub_le _ _) t.isLt⟩ t
      (by have : t.val ≠ 0 := fun e => h (by rw [e]); show (t.val - 1) / 32 = _; omega)
    rw [(tables m c (t.val - 1) _).1, (tables m c (t.val - 1) _).2.1, e]
    rw [show View.read (Elt Ideal) (View.whole cc0_scratch1) _ = _ from Memref.IsWhole.read_unread (Memref.isWhole_whole _) _]
    rw [show View.read (Elt Ideal) (View.whole cc0_scratch2) _ = _ from Memref.IsWhole.read_unread (Memref.isWhole_whole _) _]

end Cert.RetIdeal.Sample

end
-- ==== Proof.RetFormula.lean ====
/- The retention of the sample rows as the reference composes it, stage by stage, as functions of the projected rows
   `h` and of the carried state `s`. -/
module

public import proofs.«01_k».proof.Proof.Gen.RetRefIdeal
public import Idealize.ShloMosaic.Lib.Pointwise

@[expose] public section

noncomputable section

namespace Cert.RetRefIdeal.Formula

open Idealize.ShloMosaic Idealize.ShloMosaic.TcCoe Idealize.SL.Sem
open Cert.RetRefIdeal Cert.RetRefIdeal.Gen

/-- The logarithm of each head's decay, `log (1 - 2 ^ (-5 - i))`. -/
def logGamma : FVec Ideal S8 .f32 :=
  Host.log (subf (broadcastInDim S8 ![] bcast_S_S8 (constant S_ .f32 0x3F800000#32))
    (Host.powf (broadcastInDim S8 ![] bcast_S_S8 (constant S_ .f32 0x40000000#32))
      (subf (broadcastInDim S8 ![] bcast_S_S8 (constant S_ .f32 0xC0A00000#32)) (sitofp .f32 (iotaInDim S8 32 0)))))

/-- The rotary angle of each of the sixteen positions (after the 1024 past ones) and 128 frequencies. -/
def angle : FVec Ideal S16x128 .f32 :=
  mulf (broadcastInDim S16x128 ![0, 1] bcast_S16x1_S16x128_0_1 (broadcastInDim S16x1 ![0] bcast_S16_S16x1_0
      (addf (broadcastInDim S16 ![] bcast_S_S16 (constant S_ .f32 0x44800000#32)) (sitofp .f32 (iotaInDim S16 32 0)))))
    (broadcastInDim S16x128 ![0, 1] bcast_S1x128_S16x128_0_1 (broadcastInDim S1x128 ![1] bcast_S128_S1x128_1
      (Host.powf (broadcastInDim S128 ![] bcast_S_S128 (constant S_ .f32 0x461C4000#32))
        (Host.divf (Host.negf (sitofp .f32 (iotaInDim S128 32 0))) (broadcastInDim S128 ![] bcast_S_S128 (constant S_ .f32 0x43000000#32))))))

/-- The sample rows, 32 sequences of sixteen. -/
def rows (h : FVec Ideal S8704x20480 .f32) : FVec Ideal S32x16x20480 .f32 :=
  shapeCast _ (extractStridedSlice S512x20480 ![8192, 0] h slices_S8704x20480_S512x20480_8192_0) shapeCasts_S512x20480_S32x16x20480

/-- Rotate the two halves of every head's vector by the angle of its position. -/
def rotate (x : FVec Ideal S32x16x8x256 .f32) : FVec Ideal S32x16x8x256 .f32 :=
  concatenate S32x16x8x256 3
    [⟨S32x16x8x128, subf
      (mulf (extractStridedSlice S32x16x8x128 ![0, 0, 0, 0] x slices_S32x16x8x256_S32x16x8x128_0_0_0_0)
        (broadcastInDim S32x16x8x128 ![0, 1, 2, 3] bcast_S1x16x1x128_S32x16x8x128_0_1_2_3 (broadcastInDim S1x16x1x128 ![1, 3] bcast_S16x128_S1x16x1x128_1_3 (Host.cos angle))))
      (mulf (extractStridedSlice S32x16x8x128 ![0, 0, 0, 128] x slices_S32x16x8x256_S32x16x8x128_0_0_0_128)
        (broadcastInDim S32x16x8x128 ![0, 1, 2, 3] bcast_S1x16x1x128_S32x16x8x128_0_1_2_3 (broadcastInDim S1x16x1x128 ![1, 3] bcast_S16x128_S1x16x1x128_1_3 (Host.sin angle))))⟩,
     ⟨S32x16x8x128, addf
      (mulf (extractStridedSlice S32x16x8x128 ![0, 0, 0, 0] x slices_S32x16x8x256_S32x16x8x128_0_0_0_0)
        (broadcastInDim S32x16x8x128 ![0, 1, 2, 3] bcast_S1x16x1x128_S32x16x8x128_0_1_2_3 (broadcastInDim S1x16x1x128 ![1, 3] bcast_S16x128_S1x16x1x128_1_3 (Host.sin angle))))
      (mulf (extractStridedSlice S32x16x8x128 ![0, 0, 0, 128] x slices_S32x16x8x256_S32x16x8x128_0_0_0_128)
        (broadcastInDim S32x16x8x128 ![0, 1, 2, 3] bcast_S1x16x1x128_S32x16x8x128_0_1_2_3 (broadcastInDim S1x16x1x128 ![1, 3] bcast_S16x128_S1x16x1x128_1_3 (Host.cos angle))))⟩]
    concatenates_S32x16x8x128_S32x16x8x128_S32x16x8x256_d3

/-- The rotated queries, by sequence and head. -/
def queries (h : FVec Ideal S8704x20480 .f32) : FVec Ideal S32x8x16x256 .f32 :=
  transpose S32x8x16x256 [0, 2, 1, 3] (rotate (shapeCast _ (extractStridedSlice S32x16x2048 ![0, 0, 0] (rows h)
    slices_S32x16x20480_S32x16x2048_0_0_0) shapeCasts_S32x16x2048_S32x16x8x256)) transposes_S32x16x8x256_S32x8x16x256_0_2_1_3

/-- The rotated keys, divided by sixteen, by sequence and head. -/
def keys (h : FVec Ideal S8704x20480 .f32) : FVec Ideal S32x8x16x256 .f32 :=
  transpose S32x8x16x256 [0, 2, 1, 3] (mulf (rotate (shapeCast _ (extractStridedSlice S32x16x2048 ![0, 0, 2048] (rows h)
      slices_S32x16x20480_S32x16x2048_0_0_2048) shapeCasts_S32x16x2048_S32x16x8x256))
    (broadcastInDim S32x16x8x256 ![] bcast_S_S32x16x8x256 (constant S_ .f32 0x3D800000#32))) transposes_S32x16x8x256_S32x8x16x256_0_2_1_3

/-- The values, by sequence and head. -/
def values (h : FVec Ideal S8704x20480 .f32) : FVec Ideal S32x8x16x256 .f32 :=
  transpose S32x8x16x256 [0, 2, 1, 3] (shapeCast _ (extractStridedSlice S32x16x2048 ![0, 0, 4096] (rows h)
    slices_S32x16x20480_S32x16x2048_0_0_4096) shapeCasts_S32x16x2048_S32x16x8x256) transposes_S32x16x8x256_S32x8x16x256_0_2_1_3

/-- The output gate. -/
def gate (h : FVec Ideal S8704x20480 .f32) : FVec Ideal S32x16x2048 .f32 :=
  extractStridedSlice S32x16x2048 ![0, 0, 6144] (rows h) slices_S32x16x20480_S32x16x2048_0_0_6144

/-- The distance from one position to another. -/
def distance : FVec Ideal S16x16 .f32 :=
  subf (broadcastInDim S16x16 ![0, 1] bcast_S16x1_S16x16_0_1 (broadcastInDim S16x1 ![0] bcast_S16_S16x1_0 (sitofp .f32 (iotaInDim S16 32 0))))
    (broadcastInDim S16x16 ![0, 1] bcast_S1x16_S16x16_0_1 (broadcastInDim S1x16 ![1] bcast_S16_S1x16_1 (sitofp .f32 (iotaInDim S16 32 0))))

/-- Each head's weight of an earlier position at a later one; zero at positions to come. -/
def decay : FVec Ideal S8x16x16 .f32 :=
  select (broadcastInDim S8x16x16 ![0, 1, 2] bcast_S1x16x16_S8x16x16_0_1_2 (broadcastInDim S1x16x16 ![1, 2] bcast_S16x16_S1x16x16_1_2
      (cmpf .oge distance (broadcastInDim S16x16 ![] bcast_S_S16x16 (constant S_ .f32 0x00000000#32)))))
    (Host.exp (mulf (broadcastInDim S8x16x16 ![0, 1, 2] bcast_S1x16x16_S8x16x16_0_1_2 (broadcastInDim S1x16x16 ![1, 2] bcast_S16x16_S1x16x16_1_2
        (maximumf distance (broadcastInDim S16x16 ![] bcast_S_S16x16 (constant S_ .f32 0x00000000#32)))))
      (broadcastInDim S8x16x16 ![0, 1, 2] bcast_S8x1x1_S8x16x16_0_1_2 (broadcastInDim S8x1x1 ![0] bcast_S8_S8x1x1_0 logGamma))))
    (broadcastInDim S8x16x16 ![] bcast_S_S8x16x16 (id (constant S_ .f32 0x00000000#32)))

/-- Each head's weight of the carried state at every position. -/
def queryDecay : FVec Ideal S8x16 .f32 :=
  Host.exp (mulf (broadcastInDim S8x16 ![0, 1] bcast_S1x16_S8x16_0_1 (addf (broadcastInDim S1x16 ![1] bcast_S16_S1x16_1 (sitofp .f32 (iotaInDim S16 32 0)))
      (broadcastInDim S1x16 ![] bcast_S_S1x16 (constant S_ .f32 0x3F800000#32))))
    (broadcastInDim S8x16 ![0, 1] bcast_S8x1_S8x16_0_1 (broadcastInDim S8x1 ![0] bcast_S8_S8x1_0 logGamma)))

/-- Each head's weight of every position in the state after the last one. -/
def keyDecay : FVec Ideal S8x16 .f32 :=
  Host.exp (mulf (broadcastInDim S8x16 ![0, 1] bcast_S1x16_S8x16_0_1 (subf (broadcastInDim S1x16 ![] bcast_S_S1x16 (constant S_ .f32 0x41700000#32))
      (broadcastInDim S1x16 ![1] bcast_S16_S1x16_1 (sitofp .f32 (iotaInDim S16 32 0)))))
    (broadcastInDim S8x16 ![0, 1] bcast_S8x1_S8x16_0_1 (broadcastInDim S8x1 ![0] bcast_S8_S8x1_0 logGamma)))

/-- The decayed scores of every position against the others. -/
def scores (h : FVec Ideal S8704x20480 .f32) : FVec Ideal S32x8x16x16 .f32 :=
  mulf (Host.dotGeneral dot_S32x8x16x256_S32x8x16x256_S32x8x16x16_3_3_2_2_01_01 none (queries h) (keys h))
    (broadcastInDim S32x8x16x16 ![0, 1, 2, 3] bcast_S1x8x16x16_S32x8x16x16_0_1_2_3
      (broadcastInDim S1x8x16x16 ![1, 2, 3] bcast_S8x16x16_S1x8x16x16_1_2_3 decay))

/-- The retention's output before its normalization: the scored values and the carried state's share. -/
def retained (h : FVec Ideal S8704x20480 .f32) (s : FVec Ideal S32x8x256x256 .f32) : FVec Ideal S32x16x8x256 .f32 :=
  transpose S32x16x8x256 [0, 2, 1, 3]
    (addf (Host.dotGeneral dot_S32x8x16x16_S32x8x16x256_S32x8x16x256_3_2_2_3_01_01 none (scores h) (values h))
      (Host.dotGeneral dot_S32x8x16x256_S32x8x256x256_S32x8x16x256_3_2_2_3_01_01 none
        (mulf (queries h) (broadcastInDim S32x8x16x256 ![0, 1, 2, 3] bcast_S1x8x16x1_S32x8x16x256_0_1_2_3
          (broadcastInDim S1x8x16x1 ![1, 2] bcast_S8x16_S1x8x16x1_1_2 queryDecay))) s))
    transposes_S32x8x16x256_S32x16x8x256_0_2_1_3

/-- The mean of each head's output vector. -/
def average (x : FVec Ideal S32x16x8x256 .f32) : FVec Ideal S32x16x8x1 .f32 :=
  Host.divf (broadcastInDim S32x16x8x1 ![0, 1, 2] bcast_S32x16x8_S32x16x8x1_0_1_2
      (Host.reduceAdd x (constant S_ .f32 0x00000000#32) reducesTo_S32x16x8x256_S32x16x8_d3 h_S_))
    (broadcastInDim S32x16x8x1 ![] bcast_S_S32x16x8x1 (constant S_ .f32 0x43800000#32))

/-- Subtract from each head's output vector its mean. -/
def centred (x : FVec Ideal S32x16x8x256 .f32) : FVec Ideal S32x16x8x256 .f32 :=
  subf x (broadcastInDim S32x16x8x256 ![0, 1, 2, 3] bcast_S32x16x8x1_S32x16x8x256_0_1_2_3 (average x))

/-- Normalize each head's output vector to mean zero and variance one. -/
def normalized (x : FVec Ideal S32x16x8x256 .f32) : FVec Ideal S32x16x8x256 .f32 :=
  mulf (centred x) (broadcastInDim S32x16x8x256 ![0, 1, 2, 3] bcast_S32x16x8x1_S32x16x8x256_0_1_2_3
    (Host.rsqrt (addf (average (mulf (centred x) (centred x))) (broadcastInDim S32x16x8x1 ![] bcast_S_S32x16x8x1 (constant S_ .f32 0x358637BD#32)))))

/-- FIRST RESULT: the gated, normalized output. -/
def output (h : FVec Ideal S8704x20480 .f32) (s : FVec Ideal S32x8x256x256 .f32) : FVec Ideal S512x2048 .bf16 :=
  truncf .bf16 (shapeCast _ (mulf
      (mulf (gate h) (Host.divf (broadcastInDim S32x16x2048 ![] bcast_S_S32x16x2048 (constant S_ .f32 0x3F800000#32))
        (addf (broadcastInDim S32x16x2048 ![] bcast_S_S32x16x2048 (constant S_ .f32 0x3F800000#32)) (Host.exp (Host.negf (gate h))))))
      (shapeCast _ (normalized (retained h s)) shapeCasts_S32x16x8x256_S32x16x2048)) shapeCasts_S32x16x2048_S512x2048) bitsLt_bf16_f32

/-- SECOND RESULT: the state after the sixteen positions. -/
def state (h : FVec Ideal S8704x20480 .f32) (s : FVec Ideal S32x8x256x256 .f32) : FVec Ideal S32x8x256x256 .f32 :=
  addf (mulf s (broadcastInDim S32x8x256x256 ![0, 1, 2, 3] bcast_S1x8x1x1_S32x8x256x256_0_1_2_3
      (broadcastInDim S1x8x1x1 ![1] bcast_S8_S1x8x1x1_1 (Host.exp (mulf (broadcastInDim S8 ![] bcast_S_S8 (constant S_ .f32 0x41800000#32)) logGamma)))))
    (Host.dotGeneral dot_S32x8x16x256_S32x8x16x256_S32x8x256x256_2_2_3_3_01_01 none
      (mulf (keys h) (broadcastInDim S32x8x16x256 ![0, 1, 2, 3] bcast_S1x8x16x1_S32x8x16x256_0_1_2_3
        (broadcastInDim S1x8x16x1 ![1, 2] bcast_S8x16_S1x8x16x1_1_2 keyDecay))) (values h))

end Cert.RetRefIdeal.Formula

end
-- ==== Proof.RetBlocks.lean ====
/- What a grid point of the retention's pallas_call works on, and what it stores: its blocks, its rotation tables and its
   decays are the reference's queries, keys, values and decays of the point's head and sequence. -/
module

public import proofs.«01_k».proof.Proof.RetStored
public import proofs.«01_k».proof.Proof.RetFormula
public import Idealize.ShloMosaic.Lib.Pipeline.ValueKit
public import Idealize.ShloMosaic.Lib.Pointwise
public import Idealize.ShloMosaic.Lib.Claim

@[expose] public section

set_option maxRecDepth 16384

noncomputable section

namespace Cert.RetIdeal.Sample

open Idealize.ShloMosaic Idealize.ShloMosaic.TcCoe Idealize.SL.Sem
open Idealize.ShloMosaic.Pipeline (Dat)
open Cert.RetIdeal Cert.RetIdeal.Gen

variable (m : (ℓ : Loc nD τ sig) → Buf (Elt Ideal) ℓ)

open Cert.RetRefIdeal.Formula in
/-- The angles' cosines, the angles' sines and the heads' decays are the reference's. -/
theorem tables_entry (c : Dev nD) : V m c main_v14 = Host.cos angle ∧ V m c main_v15 = Host.sin angle
    ∧ V m c main_v25 = broadcastInDim S8x1x256 ![0, 1, 2] bcast_S8x1x1_S8x1x256_0_1_2 (broadcastInDim S8x1x1 ![0] bcast_S8_S8x1x1_0 logGamma) := by
  refine ⟨?_, ?_, ?_⟩ <;> entry_read <;> rfl

/-- The rotation tables a point stages are the reference's cosines and sines. -/
theorem cos_at (c : Dev nD) (t : Fin cfg0.N) (i : Fin 16) (d : Fin 128) :
    iblk m c 4 t (ix2 i d) = Ideal.cos (Cert.RetRefIdeal.Formula.angle (ix2 i d)) := by
  rw [show iblk m c 4 t (ix2 i d) = V m c main_v14 (ix2 i d) by blk_ext [iblk, idx t], (tables_entry m c).1]
  pointwise []
/-- The same of the sines. -/
theorem sin_at (c : Dev nD) (t : Fin cfg0.N) (i : Fin 16) (d : Fin 128) :
    iblk m c 5 t (ix2 i d) = Ideal.sin (Cert.RetRefIdeal.Formula.angle (ix2 i d)) := by
  rw [show iblk m c 5 t (ix2 i d) = V m c main_v15 (ix2 i d) by blk_ext [iblk, idx t], (tables_entry m c).2.1]
  pointwise []
/-- The rows and columns of the four blocks a point stages of the projected rows. -/
theorem rows_at (c : Dev nD) (t : Fin cfg0.N) (i : Fin 16) (d : Fin 256) :
    iblk m c 0 t (ix2 i d) = m ((c : Thread nD τ).loc main_arg0) (ix2 ⟨8192 + (t.val % 32 * 16 + i.val), by omega⟩ ⟨t.val / 32 * 256 + d.val, by have := t.isLt; change t.val < 256 at this; omega⟩)
    ∧ iblk m c 1 t (ix2 i d) = m ((c : Thread nD τ).loc main_arg0) (ix2 ⟨8192 + (t.val % 32 * 16 + i.val), by omega⟩ ⟨2048 + (t.val / 32 * 256 + d.val), by have := t.isLt; change t.val < 256 at this; omega⟩)
    ∧ iblk m c 2 t (ix2 i d) = m ((c : Thread nD τ).loc main_arg0) (ix2 ⟨8192 + (t.val % 32 * 16 + i.val), by omega⟩ ⟨4096 + (t.val / 32 * 256 + d.val), by have := t.isLt; change t.val < 256 at this; omega⟩)
    ∧ iblk m c 3 t (ix2 i d) = m ((c : Thread nD τ).loc main_arg0) (ix2 ⟨8192 + (t.val % 32 * 16 + i.val), by omega⟩ ⟨6144 + (t.val / 32 * 256 + d.val), by have := t.isLt; change t.val < 256 at this; omega⟩) := by
  refine ⟨?_, ?_, ?_, ?_⟩ <;> blk_ext [iblk, V, idx t]

/-- The distance between two positions is the same whether it is taken of the integers or of their floats. -/
theorem distance_exact (i j : Fin 16) :
    (FloatOps.sitofp (F := Ideal) FTy.f32 (IntOp.subi (BitVec.ofNat 32 i.val) (BitVec.ofNat 32 j.val)) : EReal)
      = (FloatOps.sitofp (F := Ideal) FTy.f32 (BitVec.ofNat 32 i.val) : EReal) - FloatOps.sitofp (F := Ideal) FTy.f32 (BitVec.ofNat 32 j.val) := by
  have h : (IntOp.subi (BitVec.ofNat 32 i.val) (BitVec.ofNat 32 j.val)).toInt = (BitVec.ofNat 32 i.val).toInt - (BitVec.ofNat 32 j.val).toInt := by
    revert i j; decide
  show (((IntOp.subi (BitVec.ofNat 32 i.val) (BitVec.ofNat 32 j.val)).toInt : ℝ) : EReal)
    = (((BitVec.ofNat 32 i.val).toInt : ℝ) : EReal) - (((BitVec.ofNat 32 j.val).toInt : ℝ) : EReal)
  rw [h, Int.cast_sub, EReal.coe_sub]

open Cert.RetRefIdeal.Formula in
/-- A point's rotated queries are its head's and sequence's of the reference. -/
theorem queries_at (c : Dev nD) (t : Fin cfg0.N) (i : Fin 16) (d : Fin 256) :
    k0_pay11 (F := Ideal) (iblk m c 4 t) (iblk m c 5 t) (iblk m c 0 t) (ix2 i d)
      = queries (m ((c : Thread nD τ).loc main_arg0)) (ix4 ⟨t.val % 32, by omega⟩ ⟨t.val / 32, Nat.div_lt_of_lt_mul t.isLt⟩ i d) := by
  pointwise [k0_pay11, k0_pay9, k0_pay10, queries, rotate, rows, cos_at m c t, sin_at m c t, (fun i d => (rows_at m c t i d).1)]

open Cert.RetRefIdeal.Formula in
/-- A point's rotated and scaled keys are its head's and sequence's of the reference. -/
theorem keys_at (c : Dev nD) (t : Fin cfg0.N) (i : Fin 16) (d : Fin 256) :
    k0_pay12 (F := Ideal) (iblk m c 4 t) (iblk m c 5 t) (iblk m c 1 t) (ix2 i d)
      = keys (m ((c : Thread nD τ).loc main_arg0)) (ix4 ⟨t.val % 32, by omega⟩ ⟨t.val / 32, Nat.div_lt_of_lt_mul t.isLt⟩ i d) := by
  pointwise [k0_pay12, k0_pay9, k0_pay10, keys, rotate, rows, cos_at m c t, sin_at m c t, (fun i d => (rows_at m c t i d).2.1)]

open Cert.RetRefIdeal.Formula in
/-- A point's values are its head's and sequence's of the reference. -/
theorem values_at (c : Dev nD) (t : Fin cfg0.N) (i : Fin 16) (d : Fin 256) :
    iblk m c 2 t (ix2 i d)
      = values (m ((c : Thread nD τ).loc main_arg0)) (ix4 ⟨t.val % 32, by omega⟩ ⟨t.val / 32, Nat.div_lt_of_lt_mul t.isLt⟩ i d) := by
  pointwise [values, rows, (fun i d => (rows_at m c t i d).2.2.1)]

open Cert.RetRefIdeal.Formula in
/-- A point's state is its head's and sequence's of the argument. -/
theorem state_at (c : Dev nD) (t : Fin cfg0.N) (a b : Fin 256) :
    k0_pay8 (F := Ideal) (iblk m c 7 t) (ix2 a b)
      = (m ((c : Thread nD τ).loc main_arg1)) (ix4 ⟨t.val % 32, by omega⟩ ⟨t.val / 32, Nat.div_lt_of_lt_mul t.isLt⟩ a b) := by
  pointwise [k0_pay8]
  blk_point [iblk, V, idx t]

open Cert.RetRefIdeal.Formula in
/-- A point's logarithm of the decay is its head's. -/
theorem gamma_at (c : Dev nD) (t : Fin cfg0.N) (a : Fin 1) (b : Fin 256) :
    k0_pay3 (F := Ideal) (iblk m c 6 t) (ix2 a b) = logGamma (ix1 ⟨t.val / 32, Nat.div_lt_of_lt_mul t.isLt⟩) := by
  pointwise [k0_pay3]
  rw [show iblk m c 6 t (ix3 0 0 b) = V m c main_v25 (ix3 ⟨t.val / 32, Nat.div_lt_of_lt_mul t.isLt⟩ 0 b) by blk_ext [iblk, idx t], (tables_entry m c).2.2]
  pointwise []

open Cert.RetRefIdeal.Formula in
/-- The table of decays between positions is the head's of the reference. -/
theorem decay_at (c : Dev nD) (t : Fin cfg0.N) (i j : Fin 16) :
    k0_pay4 (F := Ideal) (iblk m c 6 t) (ix2 i j) = decay (ix3 ⟨t.val / 32, Nat.div_lt_of_lt_mul t.isLt⟩ i j) := by
  pointwise [k0_pay4, decay, distance, gamma_at m c t, distance_exact, id_eq]

open Cert.RetRefIdeal.Formula in
/-- The table of the carried state's decays is the head's of the reference. -/
theorem queryDecay_at (c : Dev nD) (t : Fin cfg0.N) (i : Fin 16) (d : Fin 256) :
    k0_pay6 (F := Ideal) (iblk m c 6 t) (ix2 i d) = queryDecay (ix2 ⟨t.val / 32, Nat.div_lt_of_lt_mul t.isLt⟩ i) := by
  pointwise [k0_pay6, k0_pay5, queryDecay, gamma_at m c t]

open Cert.RetRefIdeal.Formula in
/-- The table of the new positions' decays is the head's of the reference. -/
theorem keyDecay_at (c : Dev nD) (t : Fin cfg0.N) (i : Fin 16) (d : Fin 256) :
    k0_pay7 (F := Ideal) (iblk m c 6 t) (ix2 i d) = keyDecay (ix2 ⟨t.val / 32, Nat.div_lt_of_lt_mul t.isLt⟩ i) := by
  pointwise [k0_pay7, k0_pay5, keyDecay, gamma_at m c t]

end Cert.RetIdeal.Sample

end
-- ==== Proof.RetValue.lean ====
/- What the retention's pallas_call leaves in its two results: the reference's gated output and its new state. -/
module

public import proofs.«01_k».proof.Proof.RetBlocks

@[expose] public section

set_option maxRecDepth 16384

noncomputable section

namespace Cert.RetIdeal.Sample

open Idealize.ShloMosaic Idealize.ShloMosaic.TcCoe Idealize.SL.Sem
open Idealize.ShloMosaic.Pipeline (Dat)
open Cert.RetIdeal Cert.RetIdeal.Gen
open Cert.RetRefIdeal.Formula (queries keys values decay queryDecay keyDecay logGamma scores retained average centred normalized gate rows)

variable (m : (ℓ : Loc nD τ sig) → Buf (Elt Ideal) ℓ)

/-- The state's payload at a point's blocks is the reference's new state of its head and sequence. -/
theorem newState_at (c : Dev nD) (t : Fin cfg0.N) (a b : Fin 256) :
    k0_pay14 (F := Ideal) (k0_pay3 (iblk m c 6 t)) (k0_pay12 (iblk m c 4 t) (iblk m c 5 t) (iblk m c 1 t)) (iblk m c 2 t)
        (k0_pay8 (iblk m c 7 t)) (k0_pay7 (iblk m c 6 t)) (ix2 a b)
      = Cert.RetRefIdeal.Formula.state (m ((c : Thread nD τ).loc main_arg0)) (m ((c : Thread nD τ).loc main_arg1))
          (ix4 ⟨t.val % 32, by omega⟩ ⟨t.val / 32, Nat.div_lt_of_lt_mul t.isLt⟩ a b) := by
  pointwise [k0_pay14, k0_pay13, Cert.RetRefIdeal.Formula.state, keyDecay_at m c t, keys_at m c t, values_at m c t, state_at m c t, gamma_at m c t]

/-- The centred output's payload at a point's blocks is the reference's centred output of its head and sequence. -/
theorem centred_at (c : Dev nD) (t : Fin cfg0.N) (i : Fin 16) (e : Fin 256) :
    k0_pay16 (F := Ideal) (k0_pay11 (iblk m c 4 t) (iblk m c 5 t) (iblk m c 0 t)) (k0_pay12 (iblk m c 4 t) (iblk m c 5 t) (iblk m c 1 t)) (iblk m c 2 t)
        (k0_pay8 (iblk m c 7 t)) (k0_pay4 (iblk m c 6 t)) (k0_pay6 (iblk m c 6 t)) (ix2 i e)
      = centred (retained (m ((c : Thread nD τ).loc main_arg0)) (m ((c : Thread nD τ).loc main_arg1)))
          (ix4 ⟨t.val % 32, by omega⟩ i ⟨t.val / 32, Nat.div_lt_of_lt_mul t.isLt⟩ e) := by
  pointwise [k0_pay16, k0_pay13, centred, average, retained, scores, keys_at m c t, queries_at m c t, decay_at m c t, queryDecay_at m c t,
    values_at m c t, state_at m c t]

/-- The output's payload at a point's blocks is the reference's output of its head and sequence. -/
theorem output_at (c : Dev nD) (t : Fin cfg0.N) (i : Fin 16) (e : Fin 256) :
    k0_pay1 (F := Ideal)
      (k0_pay16 (k0_pay11 (iblk m c 4 t) (iblk m c 5 t) (iblk m c 0 t)) (k0_pay12 (iblk m c 4 t) (iblk m c 5 t) (iblk m c 1 t)) (iblk m c 2 t)
        (k0_pay8 (iblk m c 7 t)) (k0_pay4 (iblk m c 6 t)) (k0_pay6 (iblk m c 6 t)))
      (k0_pay17 (k0_pay11 (iblk m c 4 t) (iblk m c 5 t) (iblk m c 0 t)) (k0_pay12 (iblk m c 4 t) (iblk m c 5 t) (iblk m c 1 t)) (iblk m c 2 t)
        (k0_pay8 (iblk m c 7 t)) (k0_pay4 (iblk m c 6 t)) (k0_pay6 (iblk m c 6 t))) (iblk m c 3 t) (ix2 i e)
      = Cert.RetRefIdeal.Formula.output (m ((c : Thread nD τ).loc main_arg0)) (m ((c : Thread nD τ).loc main_arg1))
          (ix2 ⟨t.val % 32 * 16 + i.val, by omega⟩ ⟨t.val / 32 * 256 + e.val, by have : t.val < 256 := t.isLt; omega⟩) := by
  pointwise [k0_pay1, k0_pay17, centred_at m c t, Cert.RetRefIdeal.Formula.output, gate, rows, normalized, average, (fun i d => (rows_at m c t i d).2.2.2)]
  have hi : (t.val % 32 * 16 + i.val) / 16 = t.val % 32 := by omega
  have he : (t.val / 32 * 256 + e.val) / 256 = t.val / 32 := by omega
  simp only [hi, he, Ideal.logistic]

/-- THE FIRST RESULT: the reference's gated output. -/
theorem final_output (c : Dev nD) : (dats m 0 c).arrAt 8 (cfgs 0).N
    = Cert.RetRefIdeal.Formula.output (m ((c : Thread nD τ).loc main_arg0)) (m ((c : Thread nD τ).loc main_arg1)) := by
  refine (dats m 0 c).arrAt_eq_of_covers 8 _ (by decide +kernel) fun t _ y => ?_
  blk_simp
  rw [after0_8, stored_output]
  idx_vars y
  refine (output_at m c t _ _).trans (congrArg _ ?_)
  blk_ext [idx t]

/-- THE SECOND RESULT: the reference's new state. -/
theorem final_state (c : Dev nD) : (dats m 0 c).arrAt 9 (cfgs 0).N
    = Cert.RetRefIdeal.Formula.state (m ((c : Thread nD τ).loc main_arg0)) (m ((c : Thread nD τ).loc main_arg1)) := by
  refine (dats m 0 c).arrAt_eq_of_covers 9 _ (by decide +kernel) fun t _ y => ?_
  blk_simp
  rw [after0_9, stored_state]
  idx_vars y
  pointwise [k0_pay2]
  refine (newState_at m c t _ _).trans (congrArg _ ?_)
  blk_ext [idx t]

end Cert.RetIdeal.Sample

end
-- ==== Proof.RetClaim.lean ====
/- The claims about the retention of the sample batch and its reference. -/
module

public import proofs.«01_k».proof.Defs
public import proofs.«01_k».proof.Proof.RetValue
public import proofs.«01_k».proof.Proof.Gen.RetRefIdeal.Run
public import Idealize.ShloMosaic.Lib.Claim

@[expose] public section

set_option maxRecDepth 16384

noncomputable section

namespace Cert.Proof

open Idealize.ShloMosaic Idealize.SL.Sem

set_option maxHeartbeats 1600000 in
/-- The reference of the retention of the sample batch leaves its arguments as they were. -/
theorem retention_reference : Cert.quiescent_RetRefIdeal (hRetRefIdeal := Cert.RetRefIdeal.Gen.facts) := by
  intro m g _
  hlo_run
  · intro c
    simp only [and_self]
  · exact sem_eq_zero_of_no_sems (sig := Cert.RetRefIdeal.sig) rfl _

set_option maxHeartbeats 1600000 in
/-- The value claim about the retention of the sample batch. -/
theorem retention : Cert.algebraic_RetIdeal_RetRefIdeal (hRetIdeal := Cert.RetIdeal.Gen.facts) (hRetRefIdeal := Cert.RetRefIdeal.Gen.facts) := by
  pair_intro
  · run_from Cert.RetIdeal.Gen.run_main m g
  · run_from Cert.RetRefIdeal.Value.run m' g'
    · rw [Cert.RetIdeal.Sample.final_output m c, ← (hagree c).1, ← (hagree c).2]
      rfl
    · rw [Cert.RetIdeal.Sample.final_state m c, ← (hagree c).1, ← (hagree c).2]
      rfl

end Cert.Proof

end
-- ==== Proof.PromptStored.lean ====
/- What a grid point of the prompt's retention leaves in its scratch, as payloads over its blocks: the table of decays that
   the first point of a head fills, and the state carried from a sequence's first chunk to its last. -/
module

public import proofs.«01_k».proof.Proof.Gen.RetPIdeal.Frame
public import Idealize.ShloMosaic.Lib.Pipeline.ValueKit
public import Idealize.ShloMosaic.Lib.Pointwise

@[expose] public section

set_option maxRecDepth 16384

noncomputable section

namespace Cert.RetPIdeal.Prompt

open Idealize.ShloMosaic Idealize.ShloMosaic.TcCoe Idealize.SL.Sem
open Idealize.ShloMosaic.Pipeline (Dat)
open Cert.RetPIdeal Cert.RetPIdeal.Gen

variable (m : (ℓ : Loc nD τ sig) → Buf (Elt Ideal) ℓ)

/-- Each window's block at a grid point: the head is the outer axis, then the sequence, then the chunk. -/
theorem idx : ∀ t : Fin cfg0.N, win0_0.index t = ![t.val % 32, t.val / 32] ∧ win0_1.index t = ![t.val % 32, 8 + t.val / 32]
    ∧ win0_2.index t = ![t.val % 32, 16 + t.val / 32] ∧ win0_3.index t = ![t.val % 32, 24 + t.val / 32]
    ∧ win0_4.index t = ![t.val % 8, 0] ∧ win0_5.index t = ![t.val % 8, 0] ∧ win0_6.index t = ![t.val / 32, 0, 0]
    ∧ win0_7.index t = ![t.val % 32 / 8, t.val / 32, 0, 0] ∧ win0_8.index t = ![t.val % 32, t.val / 32]
    ∧ win0_9.index t = ![t.val % 32 / 8, t.val / 32, 0, 0] := (by decide +kernel : ∀ t : Fin grid0.N, _)

/-- Two points of the same head see the same decay. -/
theorem same_head (c : Dev nD) (t t' : Fin cfg0.N) (e : t.val / 32 = t'.val / 32) : iblk m c 6 t = iblk m c 6 t' := by
  funext y
  blk_ext [iblk, V, idx t, idx t']

set_option maxHeartbeats 1600000 in
/-- The table of decays that the first point of a head fills is kept by the others. -/
theorem table (c : Dev nD) (n : ℕ) (hn : n < cfg0.N) :
    (outsAt0 m c n hn).2.2.2.2.2 = k0_pay7 (F := Ideal) (iblk m c 6 ⟨n, hn⟩) := by
  induction n with
  | zero => rw [outsAt0_A m c ⟨0, hn⟩ rfl rfl (by show ¬0 % 8 = 7; decide)]; frame_out
  | succ n ih =>
    have kept (h : ¬(n + 1) % 32 = 0) : (outsAt0 m c n (Nat.lt_of_succ_lt hn)).2.2.2.2.2 = k0_pay7 (F := Ideal) (iblk m c 6 ⟨n + 1, hn⟩) := by
      rw [ih, same_head m c ⟨n, Nat.lt_of_succ_lt hn⟩ ⟨n + 1, hn⟩ (by show n / 32 = (n + 1) / 32; omega)]
    by_cases h : (n + 1) % 32 = 0
    · rw [outsAt0_A m c ⟨n + 1, hn⟩ h (by show (n + 1) % 8 = 0; omega) (by show ¬(n + 1) % 8 = 7; omega)]; frame_out
    · by_cases h1 : (n + 1) % 8 = 0
      · rw [outsAt0_D m c ⟨n + 1, hn⟩ h h1 (by show ¬(n + 1) % 8 = 7; omega)]; exact kept h
      · by_cases h2 : (n + 1) % 8 = 7
        · rw [outsAt0_C m c ⟨n + 1, hn⟩ h h1 h2]; exact kept h
        · rw [outsAt0_B m c ⟨n + 1, hn⟩ h h1 h2]; exact kept h

/-- The state a point computes from the state `s` before it, from its blocks. -/
def next (c : Dev nD) (t : Fin cfg0.N) (s : Vec Ideal S256x256 .f32) : FVec Ideal S256x256 .f32 :=
  k0_pay14 (F := Ideal) (k0_pay3 (iblk m c 6 t)) (k0_pay12 (iblk m c 4 t) (iblk m c 5 t) (iblk m c 1 t)) (iblk m c 2 t) s (k0_pay7 (iblk m c 6 t))

/-- The table of decays a point finds is its head's. -/
theorem table_before (c : Dev nD) (t : Fin cfg0.N) (h : ¬t.val % 32 = 0) :
    (outsAt0 m c (t.val - 1) (Nat.lt_of_le_of_lt (Nat.sub_le _ _) t.isLt)).2.2.2.2.2 = k0_pay7 (F := Ideal) (iblk m c 6 t) := by
  rw [table m c (t.val - 1) _, same_head m c ⟨t.val - 1, _⟩ t (by show (t.val - 1) / 32 = _; omega)]

/-- The state is carried in the shape it is computed in. -/
theorem state_cast (v1 : FVec Ideal S1x256 .f32) (v35 : FVec Ideal S256x256 .f32) (v36 v38 v52 : Vec Ideal S256x256 .f32) :
    k0_pay15 (F := Ideal) v1 v35 v36 v38 v52 = k0_pay14 v1 v35 v36 v38 v52 := by
  unfold k0_pay15
  funext i
  exact congrFun (shapeCast_self _ _) i

/-- A sequence's first point starts from the state its block holds. -/
theorem state_first (c : Dev nD) (t : Fin cfg0.N) (h : t.val % 8 = 0) :
    (outsAt0 m c t.val t.isLt).2.2.1 = next m c t (k0_pay8 (F := Ideal) (iblk m c 7 t)) := by
  unfold next
  by_cases h0 : t.val % 32 = 0
  · rw [outsAt0_A m c t h0 h (by omega)]; frame_out
    rw [state_cast]
  · rw [outsAt0_D m c t h0 h (by omega)]; frame_out
    rw [state_cast, table_before m c t h0]
    exact congrArg _ (Memref.IsWhole.read_unread (Memref.isWhole_whole _) _)

/-- Every other point starts from the state the point before it left. -/
theorem state_next (c : Dev nD) (t : Fin cfg0.N) (h : ¬t.val % 8 = 0) :
    (outsAt0 m c t.val t.isLt).2.2.1 = next m c t (outsAt0 m c (t.val - 1) (Nat.lt_of_le_of_lt (Nat.sub_le _ _) t.isLt)).2.2.1 := by
  unfold next
  by_cases h2 : t.val % 8 = 7
  · rw [outsAt0_C m c t (by omega) h h2]; frame_out
    rw [state_cast, table_before m c t (by omega)]
    exact congrArg₂ _ (Memref.IsWhole.read_unread (Memref.isWhole_whole _) _) (Memref.IsWhole.read_unread (Memref.isWhole_whole _) _)
  · rw [outsAt0_B m c t (by omega) h h2]; frame_out
    rw [state_cast, table_before m c t (by omega)]
    exact congrArg₂ _ (Memref.IsWhole.read_unread (Memref.isWhole_whole _) _) (Memref.IsWhole.read_unread (Memref.isWhole_whole _) _)

/-- A sequence's last point stores the state it leaves. -/
theorem stored_state (c : Dev nD) (t : Fin cfg0.N) (h : t.val % 8 = 7) :
    (outsAt0 m c t.val t.isLt).2.1 = k0_pay2 (F := Ideal) (outsAt0 m c t.val t.isLt).2.2.1 := by
  rw [state_next m c t (by omega)]
  unfold next
  rw [outsAt0_C m c t (by omega) (by omega) h]; frame_out
  rw [table_before m c t (by omega)]
  exact congrArg _ (congrArg₂ _ (Memref.IsWhole.read_unread (Memref.isWhole_whole _) _) (Memref.IsWhole.read_unread (Memref.isWhole_whole _) _))

end Cert.RetPIdeal.Prompt

end
-- ==== Proof.PromptSum.lean ====
/- The state a retention carries, position by position, and the same state carried chunk by chunk: a chunk of any length
   leaves what its positions leave one after the other. -/
module

public import Idealize.ShloMosaic.PureOps
public import Idealize.ShloMosaic.Lib.IdealHost
public import Mathlib.Tactic.Ring
public import Mathlib.Tactic.NormNum

@[expose] public section

noncomputable section

namespace Cert.Prompt

/-- The state after `p` positions: each position decays it by `exp g` and adds its key times its value. -/
def carry (g : ℝ) (x y : ℕ → EReal) : ℕ → EReal
  | 0 => 0
  | p + 1 => carry g x y p * (Real.exp g : EReal) + x p * y p

/-- A decay distributes over a sum of two. -/
theorem add_decay (a b : EReal) (g : ℝ) : (a + b) * (Real.exp g : EReal) = a * (Real.exp g : EReal) + b * (Real.exp g : EReal) :=
  EReal.right_distrib_of_nonneg_of_ne_top (EReal.coe_nonneg.mpr (Real.exp_pos g).le) (EReal.coe_ne_top _) a b

/-- A decay distributes over a sum. -/
theorem sum_decay (n : ℕ) (f : ℕ → EReal) (g : ℝ) :
    (∑ j ∈ Finset.range n, f j) * (Real.exp g : EReal) = ∑ j ∈ Finset.range n, f j * (Real.exp g : EReal) := by
  induction n with
  | zero => simp
  | succ n ih => rw [Finset.sum_range_succ, Finset.sum_range_succ, add_decay, ih]

/-- Two decays in a row are the decay by the sum. -/
theorem decay_decay (a b : ℝ) : (Real.exp a : EReal) * (Real.exp b : EReal) = (Real.exp (a + b) : EReal) := by
  rw [← EReal.coe_mul, ← Real.exp_add]

/-- CHUNKS: the state after `c` more positions, from the state before them, each position's product decayed by the
    positions of the chunk that come after it. -/
theorem carry_chunk (g : ℝ) (x y : ℕ → EReal) (a c : ℕ) :
    carry g x y a * (Real.exp ((c : ℝ) * g) : EReal)
        + ∑ j ∈ Finset.range c, x (a + j) * (Real.exp (((c : ℝ) - 1 - j) * g) : EReal) * y (a + j)
      = carry g x y (a + c) := by
  induction c with
  | zero => simp
  | succ c ih =>
    rw [← Nat.add_assoc, carry, ← ih, Finset.sum_range_succ, add_decay, sum_decay, mul_assoc (carry g x y a), decay_decay, ← add_assoc]
    congr 1
    · congr 1
      · congr 3
        push_cast
        ring
      · refine Finset.sum_congr rfl fun j _ => ?_
        rw [mul_right_comm _ (y (a + j)), mul_assoc _ _ (Real.exp g : EReal), decay_decay]
        congr 4
        push_cast
        ring
    · simp

end Cert.Prompt

end
-- ==== Proof.PromptFormula.lean ====
/- The retention of the prompt rows as the reference composes it: the keys, the values and the decays it carries into its
   loop over chunks of 64 positions, and the state the loop leaves, position by position. -/
module

public import proofs.«01_k».proof.Proof.Gen.RetPRefIdeal.Run
public import proofs.«01_k».proof.Proof.PromptSum
public import Idealize.ShloMosaic.Lib.Pointwise
public import Idealize.ShloMosaic.Lib.Claim
public import Idealize.ShloMosaic.Lib.DynamicIndex
public import Mathlib.Tactic.NormNum
public import Mathlib.Tactic.Linarith

@[expose] public section

set_option maxRecDepth 16384

noncomputable section

namespace Cert.RetPRefIdeal.Formula

open Idealize.ShloMosaic Idealize.ShloMosaic.TcCoe Idealize.SL.Sem Idealize.ShloMosaic.StableHlo
open Cert.RetPRefIdeal Cert.RetPRefIdeal.Gen Cert.RetPRefIdeal.Value

/-- The logarithm of each head's decay, `log (1 - 2 ^ (-5 - i))`. -/
def logGamma : FVec Ideal S8 .f32 :=
  Host.log (subf (broadcastInDim S8 ![] bcast_S_S8 (constant S_ .f32 0x3F800000#32))
    (Host.powf (broadcastInDim S8 ![] bcast_S_S8 (constant S_ .f32 0x40000000#32))
      (subf (broadcastInDim S8 ![] bcast_S_S8 (constant S_ .f32 0xC0A00000#32)) (sitofp .f32 (iotaInDim S8 32 0)))))

/-- The rotary angle of each of the 2048 positions and 128 frequencies. -/
def angle : FVec Ideal S2048x128 .f32 :=
  mulf (broadcastInDim S2048x128 ![0, 1] bcast_S2048x1_S2048x128_0_1 (broadcastInDim S2048x1 ![0] bcast_S2048_S2048x1_0
      (addf (broadcastInDim S2048 ![] bcast_S_S2048 (constant S_ .f32 0x00000000#32)) (sitofp .f32 (iotaInDim S2048 32 0)))))
    (broadcastInDim S2048x128 ![0, 1] bcast_S1x128_S2048x128_0_1 (broadcastInDim S1x128 ![1] bcast_S128_S1x128_1
      (Host.powf (broadcastInDim S128 ![] bcast_S_S128 (constant S_ .f32 0x461C4000#32))
        (Host.divf (Host.negf (sitofp .f32 (iotaInDim S128 32 0))) (broadcastInDim S128 ![] bcast_S_S128 (constant S_ .f32 0x43000000#32))))))

/-- The prompt rows, four sequences of 2048. -/
def rows (h : FVec Ideal S8704x20480 .f32) : FVec Ideal S4x2048x20480 .f32 :=
  shapeCast _ (extractStridedSlice S8192x20480 ![0, 0] h slices_S8704x20480_S8192x20480_0_0) shapeCasts_S8192x20480_S4x2048x20480

/-- Rotate the two halves of every head's vector by the angle of its position. -/
def rotate (x : FVec Ideal S4x2048x8x256 .f32) : FVec Ideal S4x2048x8x256 .f32 :=
  concatenate S4x2048x8x256 3
    [⟨S4x2048x8x128, subf
      (mulf (extractStridedSlice S4x2048x8x128 ![0, 0, 0, 0] x slices_S4x2048x8x256_S4x2048x8x128_0_0_0_0)
        (broadcastInDim S4x2048x8x128 ![0, 1, 2, 3] bcast_S1x2048x1x128_S4x2048x8x128_0_1_2_3 (broadcastInDim S1x2048x1x128 ![1, 3] bcast_S2048x128_S1x2048x1x128_1_3 (Host.cos angle))))
      (mulf (extractStridedSlice S4x2048x8x128 ![0, 0, 0, 128] x slices_S4x2048x8x256_S4x2048x8x128_0_0_0_128)
        (broadcastInDim S4x2048x8x128 ![0, 1, 2, 3] bcast_S1x2048x1x128_S4x2048x8x128_0_1_2_3 (broadcastInDim S1x2048x1x128 ![1, 3] bcast_S2048x128_S1x2048x1x128_1_3 (Host.sin angle))))⟩,
     ⟨S4x2048x8x128, addf
      (mulf (extractStridedSlice S4x2048x8x128 ![0, 0, 0, 0] x slices_S4x2048x8x256_S4x2048x8x128_0_0_0_0)
        (broadcastInDim S4x2048x8x128 ![0, 1, 2, 3] bcast_S1x2048x1x128_S4x2048x8x128_0_1_2_3 (broadcastInDim S1x2048x1x128 ![1, 3] bcast_S2048x128_S1x2048x1x128_1_3 (Host.sin angle))))
      (mulf (extractStridedSlice S4x2048x8x128 ![0, 0, 0, 128] x slices_S4x2048x8x256_S4x2048x8x128_0_0_0_128)
        (broadcastInDim S4x2048x8x128 ![0, 1, 2, 3] bcast_S1x2048x1x128_S4x2048x8x128_0_1_2_3 (broadcastInDim S1x2048x1x128 ![1, 3] bcast_S2048x128_S1x2048x1x128_1_3 (Host.cos angle))))⟩]
    concatenates_S4x2048x8x128_S4x2048x8x128_S4x2048x8x256_d3

/-- The keys before their rotation. -/
def unrotated (h : FVec Ideal S8704x20480 .f32) : FVec Ideal S4x2048x8x256 .f32 :=
  shapeCast _ (extractStridedSlice S4x2048x2048 ![0, 0, 2048] (rows h)
    slices_S4x2048x20480_S4x2048x2048_0_0_2048) shapeCasts_S4x2048x2048_S4x2048x8x256

/-- The rotated keys, divided by sixteen, by sequence, position and head. -/
def keys (h : FVec Ideal S8704x20480 .f32) : FVec Ideal S4x2048x8x256 .f32 :=
  mulf (rotate (unrotated h))
    (broadcastInDim S4x2048x8x256 ![] bcast_S_S4x2048x8x256 (constant S_ .f32 0x3D800000#32))

/-- The values, by sequence, position and head. -/
def values (h : FVec Ideal S8704x20480 .f32) : FVec Ideal S4x2048x8x256 .f32 :=
  shapeCast _ (extractStridedSlice S4x2048x2048 ![0, 0, 4096] (rows h)
    slices_S4x2048x20480_S4x2048x2048_0_0_4096) shapeCasts_S4x2048x2048_S4x2048x8x256

/-- The same cut into 32 chunks of 64 positions. -/
def chunks (x : FVec Ideal S4x2048x8x256 .f32) : FVec Ideal S32x4x8x64x256 .f32 :=
  transpose S32x4x8x64x256 [1, 0, 3, 2, 4] (shapeCast _ x shapeCasts_S4x2048x8x256_S4x32x64x8x256) transposes_S4x32x64x8x256_S32x4x8x64x256_1_0_3_2_4

/-- Each head's weight of every position of a chunk in the state after it. -/
def keyDecay : FVec Ideal S8x64 .f32 :=
  Host.exp (mulf (broadcastInDim S8x64 ![0, 1] bcast_S1x64_S8x64_0_1 (subf (broadcastInDim S1x64 ![] bcast_S_S1x64 (constant S_ .f32 0x427C0000#32))
      (broadcastInDim S1x64 ![1] bcast_S64_S1x64_1 (sitofp .f32 (iotaInDim S64 32 0)))))
    (broadcastInDim S8x64 ![0, 1] bcast_S8x1_S8x64_0_1 (broadcastInDim S8x1 ![0] bcast_S8_S8x1_0 logGamma)))

/-- Each head's weight of the state before a chunk. -/
def chunkDecay : FVec Ideal S8 .f32 :=
  Host.exp (mulf (broadcastInDim S8 ![] bcast_S_S8 (constant S_ .f32 0x42800000#32)) logGamma)

variable (m : (ℓ : Loc nD τ sig) → Buf (Elt Ideal) ℓ)

set_option maxHeartbeats 1600000 in
/-- What the loop is entered with. -/
theorem entry_keys (c : Dev nD) : entryContents preI m c (Proc.devRef .tc main_v66_0) = chunks (keys (m ((c : Thread nD τ).loc main_arg0))) := by
  simp only [entryContents, afterL_cons, afterL_nil]
  after_results
  rfl

set_option maxHeartbeats 1600000 in
/-- What the loop is entered with: the values. -/
theorem entry_values (c : Dev nD) : entryContents preI m c (Proc.devRef .tc main_v66_1) = chunks (values (m ((c : Thread nD τ).loc main_arg0))) := by
  simp only [entryContents, afterL_cons, afterL_nil]
  after_results
  rfl

set_option maxHeartbeats 1600000 in
/-- What the loop is entered with: the decays and the state of zeros. -/
theorem entry_decays (c : Dev nD) : entryContents preI m c (Proc.devRef .tc main_v66_2) = chunkDecay
    ∧ entryContents preI m c (Proc.devRef .tc main_v66_3) = keyDecay
    ∧ entryContents preI m c (Proc.devRef .tc main_v66_5) = (broadcastInDim S4x8x256x256 ![] bcast_S_S4x8x256x256 (constant S_ .f32 0x00000000#32) : FVec Ideal S4x8x256x256 .f32) := by
  simp only [entryContents, afterL_cons, afterL_nil]
  refine ⟨?_, ?_, ?_⟩ <;> after_results <;> rfl

set_option maxHeartbeats 1600000 in
/-- What the loop carries before trip `k`: the chunks and the decays as they were, and `k` itself. -/
theorem carried (c : Dev nD) (k : ℕ) : (STEP^[k] (entryContents preI m c)) (Proc.devRef .tc main_v66_0) = chunks (keys (m ((c : Thread nD τ).loc main_arg0)))
    ∧ (STEP^[k] (entryContents preI m c)) (Proc.devRef .tc main_v66_1) = chunks (values (m ((c : Thread nD τ).loc main_arg0)))
    ∧ (STEP^[k] (entryContents preI m c)) (Proc.devRef .tc main_v66_2) = chunkDecay
    ∧ (STEP^[k] (entryContents preI m c)) (Proc.devRef .tc main_v66_3) = keyDecay
    ∧ (STEP^[k] (entryContents preI m c)) (Proc.devRef .tc main_v66_4) = (fun _ => BitVec.ofNat 32 k : IVec S_ 32) := by
  induction k with
  | zero => exact ⟨entry_keys m c, entry_values m c, (entry_decays m c).1, (entry_decays m c).2.1, ctr_entry m c⟩
  | succ k ih =>
    obtain ⟨h0, h1, h2, h3, h4⟩ := ih
    rw [Function.iterate_succ_apply', STEP_main_v66_0, STEP_main_v66_1, STEP_main_v66_2, STEP_main_v66_3, STEP_main_v66_4]
    refine ⟨h0, h1, h2, h3, ?_⟩
    unfold step_main_v66_4
    rw [h4]
    funext i
    show BitVec.ofNat 32 k + 1#32 = BitVec.ofNat 32 (k + 1)
    rw [BitVec.ofNat_add]

/-- Every chunk lies in the 32. -/
theorem fits : ∀ k : Fin 32, S32x4x8x64x256.Slices ![k.val, 0, 0, 0, 0] S1x4x8x64x256 := by decide

/-- The chunk a trip takes, position by position. -/
theorem chunk_at (x : FVec Ideal S4x2048x8x256 .f32) (k : Fin 32) (b : Fin 4) (i : Fin 8) (j : Fin 64) (d : Fin 256) :
    shapeCast S4x8x64x256 (Host.dynamicSlice S1x4x8x64x256 (chunks x)
        (fun k' => (((![fun _ => BitVec.ofNat 32 k.val, constantI S_ 32 0#32, constantI S_ 32 0#32, constantI S_ 32 0#32, constantI S_ 32 0#32] :
          Fin 5 → (⟨S_, .i32⟩ : BufTy).Contents (Elt Ideal))) k' (Shape.Idx.first h_S_)).toInt) sliceFits_S32x4x8x64x256_S1x4x8x64x256)
      shapeCasts_S1x4x8x64x256_S4x8x64x256 (ix4 b i j d) = x (ix4 b ⟨k.val * 64 + j.val, by omega⟩ i d) := by
  have hk : (BitVec.ofNat 32 k.val).toInt = (k.val : Int) := by revert k; decide
  rw [Host.dynamicSlice_eq_extractStridedSlice _ _ _ ![k.val, 0, 0, 0, 0] _ (fits k) (fun a => by fin_cases a <;> first | exact hk | rfl)]
  pointwise [chunks]

set_option maxHeartbeats 1600000 in
/-- What a trip does to the state, from what it carries. -/
theorem trip (V : Valuation τ sig (Elt Ideal)) (x y : FVec Ideal S4x2048x8x256 .f32) (k : Fin 32)
    (h0 : V (Proc.devRef .tc main_v66_0) = chunks x) (h1 : V (Proc.devRef .tc main_v66_1) = chunks y)
    (h2 : V (Proc.devRef .tc main_v66_2) = chunkDecay) (h3 : V (Proc.devRef .tc main_v66_3) = keyDecay)
    (h4 : V (Proc.devRef .tc main_v66_4) = (fun _ => BitVec.ofNat 32 k.val : IVec S_ 32)) (s : FVec Ideal S4x8x256x256 .f32)
    (h5 : V (Proc.devRef .tc main_v66_5) = s) (b : Fin 4) (i : Fin 8) (d e : Fin 256) :
    (step_main_v66_5 V : FVec Ideal S4x8x256x256 .f32) (ix4 b i d e) = s (ix4 b i d e) * chunkDecay (ix1 i)
      + ∑ j : Fin 64, x (ix4 b ⟨k.val * 64 + j.val, by omega⟩ i d) * keyDecay (ix2 i j) * y (ix4 b ⟨k.val * 64 + j.val, by omega⟩ i e) := by
  unfold step_main_v66_5
  rw [h0, h1, h2, h3, h4, h5]
  dsimp only [id]
  generalize hX : shapeCast S4x8x64x256 (Host.dynamicSlice S1x4x8x64x256 (chunks x) _ _) _ = X
  generalize hY : shapeCast S4x8x64x256 (Host.dynamicSlice S1x4x8x64x256 (chunks y) _ _) _ = Y
  have ex (j : Fin 64) (d : Fin 256) : X (ix4 b i j d) = x (ix4 b ⟨k.val * 64 + j.val, by omega⟩ i d) := by rw [← hX]; exact chunk_at x k b i j d
  have ey (j : Fin 64) (d : Fin 256) : Y (ix4 b i j d) = y (ix4 b ⟨k.val * 64 + j.val, by omega⟩ i d) := by rw [← hY]; exact chunk_at y k b i j d
  pointwise []
  simp only [ex, ey]

/-- Each head's logarithm of the decay as a real. -/
def gam (i : Fin 8) : ℝ := Real.log (1 - Real.rpow 2 (-5 - (i.val : ℝ)))

/-- A small number's word, read as a float, is the number. -/
theorem number (n : ℕ) (h : n < 256) : (FloatOps.sitofp (F := Ideal) FTy.f32 (BitVec.ofNat 32 n) : EReal) = ((n : ℝ) : EReal) := by
  show (((BitVec.ofNat 32 n).toInt : ℝ) : EReal) = _
  rw [show (BitVec.ofNat 32 n).toInt = (n : Int) by rw [BitVec.toInt_ofNat']; simp only [Int.bmod]; omega]
  simp

theorem const_2 : Ideal.ofBits .f32 0x40000000#32 = ((2 : ℝ) : EReal) := by
  simp [Ideal.ofBits, Ideal.ieee, -EReal.coe_mul]; norm_num
theorem const_neg_5 : Ideal.ofBits .f32 0xC0A00000#32 = ((-5 : ℝ) : EReal) := by
  simp [Ideal.ofBits, Ideal.ieee, -EReal.coe_mul]; norm_num
theorem const_63 : Ideal.ofBits .f32 0x427C0000#32 = ((63 : ℝ) : EReal) := by
  simp [Ideal.ofBits, Ideal.ieee, -EReal.coe_mul]; norm_num
theorem const_64 : Ideal.ofBits .f32 0x42800000#32 = ((64 : ℝ) : EReal) := by
  simp [Ideal.ofBits, Ideal.ieee, -EReal.coe_mul]; norm_num

/-- Each head's decay is a number between zero and one, so its logarithm is a real. -/
theorem logGamma_at (i : Fin 8) : logGamma (ix1 i) = (gam i : EReal) := by
  have hr : Real.rpow 2 (-5 - (i.val : ℝ)) < 1 :=
    Real.rpow_lt_one_of_one_lt_of_neg one_lt_two (by have : (0 : ℝ) ≤ (i.val : ℝ) := Nat.cast_nonneg _; linarith)
  pointwise [logGamma]
  rw [const_2, const_neg_5, number i.val (by omega), ← EReal.coe_sub]
  show Ideal.log (((1 : ℝ) : EReal) - ((Real.rpow 2 (-5 - (i.val : ℝ)) : ℝ) : EReal)) = _
  rw [← EReal.coe_sub]
  exact if_neg (by linarith)

/-- Each head's weight of a position of a chunk. -/
theorem keyDecay_at (i : Fin 8) (j : Fin 64) : keyDecay (ix2 i j) = (Real.exp ((((64 : ℕ) : ℝ) - 1 - (j.val : ℝ)) * gam i) : EReal) := by
  pointwise [keyDecay, logGamma_at]
  rw [const_63, number j.val (by omega), ← EReal.coe_sub, ← EReal.coe_mul, Ideal.exp_coe,
    show ((64 : ℕ) : ℝ) - 1 - (j.val : ℝ) = 63 - (j.val : ℝ) by norm_num]

/-- Each head's weight of the state before a chunk. -/
theorem chunkDecay_at (i : Fin 8) : chunkDecay (ix1 i) = (Real.exp (((64 : ℕ) : ℝ) * gam i) : EReal) := by
  pointwise [chunkDecay, logGamma_at]
  rw [const_64, ← EReal.coe_mul, Ideal.exp_coe, show ((64 : ℕ) : ℝ) = 64 by norm_num]

/-- One feature of one head of one sequence, by position. -/
def along (x : FVec Ideal S4x2048x8x256 .f32) (b : Fin 4) (i : Fin 8) (d : Fin 256) (p : ℕ) : EReal :=
  if h : p < 2048 then x (ix4 b ⟨p, h⟩ i d) else 0

theorem along_of_lt (x : FVec Ideal S4x2048x8x256 .f32) (b : Fin 4) (i : Fin 8) (d : Fin 256) (p : ℕ) (h : p < 2048) :
    along x b i d p = x (ix4 b ⟨p, h⟩ i d) := dif_pos h

/-- The state before trip `k` is the state after the positions of the first `k` chunks. -/
theorem state_after (c : Dev nD) (k : ℕ) (hk : k ≤ 32) (b : Fin 4) (i : Fin 8) (d e : Fin 256) :
    ((STEP^[k] (entryContents preI m c)) (Proc.devRef .tc main_v66_5) : FVec Ideal S4x8x256x256 .f32) (ix4 b i d e)
      = Cert.Prompt.carry (gam i) (along (keys (m ((c : Thread nD τ).loc main_arg0))) b i d)
          (along (values (m ((c : Thread nD τ).loc main_arg0))) b i e) (k * 64) := by
  induction k with
  | zero =>
    refine (congrFun (entry_decays m c).2.2 (ix4 b i d e)).trans ?_
    rw [Nat.zero_mul, Cert.Prompt.carry]
    pointwise []
  | succ k ih =>
    obtain ⟨h0, h1, h2, h3, h4⟩ := carried m c k
    rw [Function.iterate_succ_apply', STEP_main_v66_5, trip _ _ _ ⟨k, hk⟩ h0 h1 h2 h3 h4 _ rfl b i d e, ih (by omega), chunkDecay_at,
      Nat.succ_mul, ← Cert.Prompt.carry_chunk, Finset.sum_range]
    congr 1
    refine Finset.sum_congr rfl fun j _ => ?_
    rw [keyDecay_at, along_of_lt _ _ _ _ _ (by have := j.isLt; omega), along_of_lt _ _ _ _ _ (by have := j.isLt; omega)]

/-- The state of every sequence and head after the 2048 positions of the prompt, of the projected rows. -/
def prompt (h : FVec Ideal S8704x20480 .f32) : FVec Ideal S4x8x256x256 .f32 := fun y =>
  Cert.Prompt.carry (gam (y 1)) (along (keys h) (y 0) (y 1) (y 2)) (along (values h) (y 0) (y 1) (y 3)) 2048

/-- What the loop leaves is that state. -/
theorem loop_state (c : Dev nD) : ((STEP^[32] (entryContents preI m c)) (Proc.devRef .tc main_v66_5) : FVec Ideal S4x8x256x256 .f32)
    = prompt (m ((c : Thread nD τ).loc main_arg0)) := by
  funext y
  exact (congrArg _ (eq_ix4 y)).trans (state_after m c 32 le_rfl (y 0) (y 1) (y 2) (y 3))

end Cert.RetPRefIdeal.Formula

end
-- ==== Proof.PromptKeys.lean ====
/- A block of rotated and scaled keys of the prompt's retention, entry by entry, from its rows and its positions' rotation
   tables. -/
module

public import proofs.«01_k».proof.Proof.Gen.RetPIdeal.Frame
public import proofs.«01_k».proof.Proof.PromptFormula
public import Idealize.ShloMosaic.Lib.Pipeline.ValueKit
public import Idealize.ShloMosaic.Lib.Pointwise
public import Idealize.ShloMosaic.Lib.Claim

@[expose] public section

set_option maxRecDepth 16384

noncomputable section

namespace Cert.RetPIdeal.Prompt

open Idealize.ShloMosaic Idealize.ShloMosaic.TcCoe Idealize.SL.Sem
open Idealize.ShloMosaic.Pipeline (Dat)
open Cert.RetPIdeal Cert.RetPIdeal.Gen
open Cert.RetPRefIdeal.Formula (angle rows rotate unrotated keys)

/-- The first half of a rotated vector. -/
theorem rotate_lo (x : FVec Ideal Cert.RetPRefIdeal.S4x2048x8x256 .f32) (b : Fin 4) (p : Fin 2048) (g : Fin 8) (d : Fin 128) :
    rotate x (ix4 b p g ⟨d.val, by omega⟩)
      = x (ix4 b p g ⟨d.val, by omega⟩) * Ideal.cos (angle (ix2 p d)) - x (ix4 b p g ⟨128 + d.val, by omega⟩) * Ideal.sin (angle (ix2 p d)) := by
  pointwise [rotate]

/-- The second half of a rotated vector. -/
theorem rotate_hi (x : FVec Ideal Cert.RetPRefIdeal.S4x2048x8x256 .f32) (b : Fin 4) (p : Fin 2048) (g : Fin 8) (d : Fin 128) :
    rotate x (ix4 b p g ⟨128 + d.val, by omega⟩)
      = x (ix4 b p g ⟨d.val, by omega⟩) * Ideal.sin (angle (ix2 p d)) + x (ix4 b p g ⟨128 + d.val, by omega⟩) * Ideal.cos (angle (ix2 p d)) := by
  pointwise [rotate]

/-- The first half of a block's rotated and scaled keys. -/
theorem block_lo (x4 x5 : Vec Ideal S256x128 .f32) (x1 : Vec Ideal S256x256 .f32) (i : Fin 256) (d : Fin 128) :
    k0_pay12 (F := Ideal) x4 x5 x1 (ix2 i ⟨d.val, by omega⟩)
      = (x1 (ix2 i ⟨d.val, by omega⟩) * x4 (ix2 i d) - x1 (ix2 i ⟨128 + d.val, by omega⟩) * x5 (ix2 i d)) * Ideal.ofBits .f32 0x3D800000#32 := by
  pointwise [k0_pay12, k0_pay9, k0_pay10]

/-- The second half of a block's rotated and scaled keys. -/
theorem block_hi (x4 x5 : Vec Ideal S256x128 .f32) (x1 : Vec Ideal S256x256 .f32) (i : Fin 256) (d : Fin 128) :
    k0_pay12 (F := Ideal) x4 x5 x1 (ix2 i ⟨128 + d.val, by omega⟩)
      = (x1 (ix2 i ⟨d.val, by omega⟩) * x5 (ix2 i d) + x1 (ix2 i ⟨128 + d.val, by omega⟩) * x4 (ix2 i d)) * Ideal.ofBits .f32 0x3D800000#32 := by
  pointwise [k0_pay12, k0_pay9, k0_pay10]

/-- The keys before their rotation are columns of the prompt rows. -/
theorem unrotated_at (h : FVec Ideal S8704x20480 .f32) (b : Fin 4) (p : Fin 2048) (g : Fin 8) (d : Fin 256) :
    unrotated h (ix4 b p g d) = rows h (ix3 b p ⟨2048 + (g.val * 256 + d.val), by omega⟩) := by
  pointwise [unrotated]

/-- The reference's keys are the rotated ones, scaled. -/
theorem keys_apply (h : FVec Ideal S8704x20480 .f32) (b : Fin 4) (p : Fin 2048) (g : Fin 8) (d : Fin 256) :
    keys h (ix4 b p g d) = rotate (unrotated h) (ix4 b p g d) * Ideal.ofBits .f32 0x3D800000#32 := rfl

/-- Rotated and scaled keys from the rows and the tables of their position. -/
theorem keys_of (x4 x5 : Vec Ideal S256x128 .f32) (x1 : Vec Ideal S256x256 .f32) (h : FVec Ideal S8704x20480 .f32) (b : Fin 4) (p : Fin 2048) (g : Fin 8)
    (i : Fin 256) (hcos : ∀ d, x4 (ix2 i d) = Ideal.cos (angle (ix2 p d))) (hsin : ∀ d, x5 (ix2 i d) = Ideal.sin (angle (ix2 p d)))
    (hrow : ∀ d : Fin 256, x1 (ix2 i d) = rows h (ix3 b p ⟨2048 + (g.val * 256 + d.val), by omega⟩)) (d : Fin 256) :
    k0_pay12 (F := Ideal) x4 x5 x1 (ix2 i d) = keys h (ix4 b p g d) := by
  have row (d : Fin 256) : x1 (ix2 i d) = unrotated h (ix4 b p g d) := (hrow d).trans (unrotated_at h b p g d).symm
  rw [keys_apply]
  by_cases hd : d.val < 128
  · rw [show d = (⟨(⟨d.val, hd⟩ : Fin 128).val, by omega⟩ : Fin 256) from rfl, block_lo, rotate_lo, row, row, hcos, hsin]
  · rw [show d = (⟨128 + (⟨d.val - 128, by omega⟩ : Fin 128).val, by show 128 + (d.val - 128) < 256; omega⟩ : Fin 256) from
      Fin.ext (by show d.val = 128 + (d.val - 128); omega), block_hi, rotate_hi, row, row, hcos, hsin]

end Cert.RetPIdeal.Prompt

end
-- ==== Proof.PromptBlocks.lean ====
/- What a grid point of the prompt's retention works on: its blocks, its rotation tables and its decays are the reference's
   keys, values and decays of the point's head, sequence and chunk. -/
module

public import proofs.«01_k».proof.Proof.PromptStored
public import proofs.«01_k».proof.Proof.PromptFormula
public import proofs.«01_k».proof.Proof.PromptKeys
public import Idealize.ShloMosaic.Lib.Pipeline.ValueKit
public import Idealize.ShloMosaic.Lib.Pointwise
public import Idealize.ShloMosaic.Lib.Claim

@[expose] public section

set_option maxRecDepth 16384

noncomputable section

namespace Cert.RetPIdeal.Prompt

open Idealize.ShloMosaic Idealize.ShloMosaic.TcCoe Idealize.SL.Sem
open Idealize.ShloMosaic.Pipeline (Dat)
open Cert.RetPIdeal Cert.RetPIdeal.Gen
open Cert.RetPRefIdeal.Formula (angle logGamma gam rows rotate keys values along along_of_lt logGamma_at number)

variable (m : (ℓ : Loc nD τ sig) → Buf (Elt Ideal) ℓ)

/-- The angles' cosines, the angles' sines, the heads' decays and the zero states are the reference's. -/
theorem tables_entry (c : Dev nD) : V m c main_v15 = Host.cos angle ∧ V m c main_v16 = Host.sin angle
    ∧ V m c main_v26 = broadcastInDim S8x1x256 ![0, 1, 2] bcast_S8x1x1_S8x1x256_0_1_2 (broadcastInDim S8x1x1 ![0] bcast_S8_S8x1x1_0 logGamma)
    ∧ V m c main_v0 = (broadcastInDim S4x8x256x256 ![] bcast_S_S4x8x256x256 (constant S_ .f32 0x00000000#32) : FVec Ideal S4x8x256x256 .f32) := by
  refine ⟨?_, ?_, ?_, ?_⟩ <;> entry_read <;> rfl

/-- The head, the sequence and the chunk of a point. -/
theorem lt_of_point (t : Fin cfg0.N) : t.val < 256 := t.isLt

/-- The rotation tables a point stages are its positions' cosines. -/
theorem cos_at (c : Dev nD) (t : Fin cfg0.N) (i : Fin 256) (d : Fin 128) :
    iblk m c 4 t (ix2 i d) = Ideal.cos (angle (ix2 ⟨t.val % 8 * 256 + i.val, by omega⟩ d)) := by
  rw [show iblk m c 4 t (ix2 i d) = V m c main_v15 (ix2 ⟨t.val % 8 * 256 + i.val, by omega⟩ d) by blk_ext [iblk, idx t], (tables_entry m c).1]
  pointwise []
/-- The same of the sines. -/
theorem sin_at (c : Dev nD) (t : Fin cfg0.N) (i : Fin 256) (d : Fin 128) :
    iblk m c 5 t (ix2 i d) = Ideal.sin (angle (ix2 ⟨t.val % 8 * 256 + i.val, by omega⟩ d)) := by
  rw [show iblk m c 5 t (ix2 i d) = V m c main_v16 (ix2 ⟨t.val % 8 * 256 + i.val, by omega⟩ d) by blk_ext [iblk, idx t], (tables_entry m c).2.1]
  pointwise []

/-- The rows and columns of the two blocks a point stages of the projected rows: its keys' and its values'. -/
theorem rows_at (c : Dev nD) (t : Fin cfg0.N) (i : Fin 256) (d : Fin 256) :
    iblk m c 1 t (ix2 i d) = m ((c : Thread nD τ).loc main_arg0) (ix2 ⟨t.val % 32 * 256 + i.val, by omega⟩ ⟨2048 + (t.val / 32 * 256 + d.val), by have := lt_of_point t; omega⟩)
    ∧ iblk m c 2 t (ix2 i d) = m ((c : Thread nD τ).loc main_arg0) (ix2 ⟨t.val % 32 * 256 + i.val, by omega⟩ ⟨4096 + (t.val / 32 * 256 + d.val), by have := lt_of_point t; omega⟩) := by
  refine ⟨?_, ?_⟩ <;> blk_ext [iblk, V, idx t]

/-- A prompt row is a row of the projected rows. -/
theorem rows_apply (x : FVec Ideal S8704x20480 .f32) (b : Fin 4) (p : Fin 2048) (q : Fin 20480) :
    rows x (ix3 b p q) = x (ix2 ⟨b.val * 2048 + p.val, by omega⟩ q) := by
  pointwise [rows]

/-- A row of a sequence's chunk. -/
theorem row_of (t i : ℕ) : t % 32 * 256 + i = t % 32 / 8 * 2048 + (t % 8 * 256 + i) := by omega

/-- The two blocks, as rows of the point's sequence at its chunk's positions. -/
theorem prompt_rows_at (c : Dev nD) (t : Fin cfg0.N) (i : Fin 256) (g : Fin 8) (hg : t.val / 32 = g.val) (d : Fin 256) :
    iblk m c 1 t (ix2 i d) = rows (m ((c : Thread nD τ).loc main_arg0)) (ix3 ⟨t.val % 32 / 8, by omega⟩ ⟨t.val % 8 * 256 + i.val, by omega⟩ ⟨2048 + (g.val * 256 + d.val), by omega⟩)
    ∧ iblk m c 2 t (ix2 i d) = rows (m ((c : Thread nD τ).loc main_arg0)) (ix3 ⟨t.val % 32 / 8, by omega⟩ ⟨t.val % 8 * 256 + i.val, by omega⟩ ⟨4096 + (g.val * 256 + d.val), by omega⟩) := by
  have e : (⟨t.val % 32 * 256 + i.val, by omega⟩ : Fin 8704) = ⟨t.val % 32 / 8 * 2048 + (t.val % 8 * 256 + i.val), by omega⟩ := Fin.ext (row_of t.val i.val)
  rw [(rows_at m c t i d).1, (rows_at m c t i d).2, rows_apply, rows_apply, e]
  simp only [hg, and_self]

/-- A point's rotated and scaled keys are its head's, sequence's and chunk's of the reference. -/
theorem keys_at (c : Dev nD) (t : Fin cfg0.N) (i : Fin 256) (d : Fin 256) :
    k0_pay12 (F := Ideal) (iblk m c 4 t) (iblk m c 5 t) (iblk m c 1 t) (ix2 i d)
      = keys (m ((c : Thread nD τ).loc main_arg0)) (ix4 ⟨t.val % 32 / 8, by omega⟩ ⟨t.val % 8 * 256 + i.val, by omega⟩ ⟨t.val / 32, Nat.div_lt_of_lt_mul t.isLt⟩ d) := by
  exact keys_of (iblk m c 4 t) (iblk m c 5 t) (iblk m c 1 t) (m ((c : Thread nD τ).loc main_arg0)) ⟨t.val % 32 / 8, by omega⟩ ⟨t.val % 8 * 256 + i.val, by omega⟩
    ⟨t.val / 32, Nat.div_lt_of_lt_mul t.isLt⟩ i (cos_at m c t i) (sin_at m c t i) (fun d => (prompt_rows_at m c t i ⟨t.val / 32, Nat.div_lt_of_lt_mul t.isLt⟩ rfl d).1) d

/-- A point's values are its head's, sequence's and chunk's of the reference. -/
theorem values_at (c : Dev nD) (t : Fin cfg0.N) (i : Fin 256) (d : Fin 256) :
    iblk m c 2 t (ix2 i d)
      = values (m ((c : Thread nD τ).loc main_arg0)) (ix4 ⟨t.val % 32 / 8, by omega⟩ ⟨t.val % 8 * 256 + i.val, by omega⟩ ⟨t.val / 32, Nat.div_lt_of_lt_mul t.isLt⟩ d) := by
  pointwise [values, (fun i d => (prompt_rows_at m c t i ⟨t.val / 32, Nat.div_lt_of_lt_mul t.isLt⟩ rfl d).2)]

/-- A point's logarithm of the decay is its head's. -/
theorem gamma_at (c : Dev nD) (t : Fin cfg0.N) (a : Fin 1) (b : Fin 256) :
    k0_pay3 (F := Ideal) (iblk m c 6 t) (ix2 a b) = (gam ⟨t.val / 32, Nat.div_lt_of_lt_mul t.isLt⟩ : EReal) := by
  rw [← logGamma_at]
  pointwise [k0_pay3]
  rw [show iblk m c 6 t (ix3 0 0 b) = V m c main_v26 (ix3 ⟨t.val / 32, Nat.div_lt_of_lt_mul t.isLt⟩ 0 b) by blk_ext [iblk, idx t], (tables_entry m c).2.2.1]
  pointwise []

theorem const_255 : Ideal.ofBits .f32 0x437F0000#32 = ((255 : ℝ) : EReal) := by
  simp [Ideal.ofBits, Ideal.ieee, -EReal.coe_mul]; norm_num
theorem const_256 : Ideal.ofBits .f32 0x43800000#32 = ((256 : ℝ) : EReal) := by
  simp [Ideal.ofBits, Ideal.ieee, -EReal.coe_mul]; norm_num

/-- The table of the new positions' decays is the head's. -/
theorem keyDecay_at (c : Dev nD) (t : Fin cfg0.N) (j : Fin 256) (d : Fin 256) :
    k0_pay7 (F := Ideal) (iblk m c 6 t) (ix2 j d)
      = (Real.exp ((((256 : ℕ) : ℝ) - 1 - (j.val : ℝ)) * gam ⟨t.val / 32, Nat.div_lt_of_lt_mul t.isLt⟩) : EReal) := by
  pointwise [k0_pay7, k0_pay5, gamma_at m c t]
  rw [const_255, number j.val j.isLt, ← EReal.coe_sub, ← EReal.coe_mul, Ideal.exp_coe,
    show ((256 : ℕ) : ℝ) - 1 - (j.val : ℝ) = 255 - (j.val : ℝ) by norm_num]

/-- A sequence starts from a state of zeros. -/
theorem zero_at (c : Dev nD) (t : Fin cfg0.N) (a b : Fin 256) : k0_pay8 (F := Ideal) (iblk m c 7 t) (ix2 a b) = 0 := by
  pointwise [k0_pay8]
  rw [show iblk m c 7 t (ix4 0 0 a b) = V m c main_v0 (ix4 ⟨t.val % 32 / 8, by omega⟩ ⟨t.val / 32, Nat.div_lt_of_lt_mul t.isLt⟩ a b) by blk_ext [iblk, idx t],
    (tables_entry m c).2.2.2]
  pointwise []

end Cert.RetPIdeal.Prompt

end
-- ==== Proof.PromptValue.lean ====
/- What the prompt's retention leaves in its state: the state a point carries is the reference's after the
   positions up to the end of the point's chunk, so that a sequence's last point stores the reference's result. -/
module

public import proofs.«01_k».proof.Proof.PromptBlocks
public import Idealize.ShloMosaic.Lib.Pipeline.ValueKit
public import Idealize.ShloMosaic.Lib.Pointwise
public import Idealize.ShloMosaic.Lib.Claim

@[expose] public section

set_option maxRecDepth 16384

noncomputable section

namespace Cert.RetPIdeal.Prompt

open Idealize.ShloMosaic Idealize.ShloMosaic.TcCoe Idealize.SL.Sem
open Idealize.ShloMosaic.Pipeline (Dat)
open Cert.RetPIdeal Cert.RetPIdeal.Gen
open Cert.RetPRefIdeal.Formula (angle logGamma gam rows rotate keys values along along_of_lt logGamma_at number prompt)

variable (m : (ℓ : Loc nD τ sig) → Buf (Elt Ideal) ℓ)

/-- What a point does to the state `s` it is given. -/
theorem next_at (c : Dev nD) (t : Fin cfg0.N) (s : Vec Ideal S256x256 .f32) (a e : Fin 256) :
    next m c t s (ix2 a e) = s (ix2 a e) * (Real.exp (((256 : ℕ) : ℝ) * gam ⟨t.val / 32, Nat.div_lt_of_lt_mul t.isLt⟩) : EReal)
      + ∑ j : Fin 256, keys (m ((c : Thread nD τ).loc main_arg0)) (ix4 ⟨t.val % 32 / 8, by omega⟩ ⟨t.val % 8 * 256 + j.val, by omega⟩ ⟨t.val / 32, Nat.div_lt_of_lt_mul t.isLt⟩ a)
          * (Real.exp ((((256 : ℕ) : ℝ) - 1 - (j.val : ℝ)) * gam ⟨t.val / 32, Nat.div_lt_of_lt_mul t.isLt⟩) : EReal)
          * values (m ((c : Thread nD τ).loc main_arg0)) (ix4 ⟨t.val % 32 / 8, by omega⟩ ⟨t.val % 8 * 256 + j.val, by omega⟩ ⟨t.val / 32, Nat.div_lt_of_lt_mul t.isLt⟩ e) := by
  unfold next
  pointwise [k0_pay14, k0_pay13, keyDecay_at m c t, keys_at m c t, values_at m c t, gamma_at m c t]
  rw [const_256, ← EReal.coe_mul, Ideal.exp_coe, show ((256 : ℕ) : ℝ) = 256 by norm_num]

/-- The state after a point's chunk, from the state before it, both the reference's. -/
theorem next_carry (c : Dev nD) (t : Fin cfg0.N) (s : Vec Ideal S256x256 .f32) (a e : Fin 256)
    (hs : s (ix2 a e) = Cert.Prompt.carry (gam ⟨t.val / 32, Nat.div_lt_of_lt_mul t.isLt⟩)
      (along (keys (m ((c : Thread nD τ).loc main_arg0))) ⟨t.val % 32 / 8, by omega⟩ ⟨t.val / 32, Nat.div_lt_of_lt_mul t.isLt⟩ a)
      (along (values (m ((c : Thread nD τ).loc main_arg0))) ⟨t.val % 32 / 8, by omega⟩ ⟨t.val / 32, Nat.div_lt_of_lt_mul t.isLt⟩ e) (t.val % 8 * 256)) :
    next m c t s (ix2 a e) = Cert.Prompt.carry (gam ⟨t.val / 32, Nat.div_lt_of_lt_mul t.isLt⟩)
      (along (keys (m ((c : Thread nD τ).loc main_arg0))) ⟨t.val % 32 / 8, by omega⟩ ⟨t.val / 32, Nat.div_lt_of_lt_mul t.isLt⟩ a)
      (along (values (m ((c : Thread nD τ).loc main_arg0))) ⟨t.val % 32 / 8, by omega⟩ ⟨t.val / 32, Nat.div_lt_of_lt_mul t.isLt⟩ e) (t.val % 8 * 256 + 256) := by
  rw [next_at, hs, ← Cert.Prompt.carry_chunk, Finset.sum_range]
  congr 1
  refine Finset.sum_congr rfl fun j _ => ?_
  rw [along_of_lt _ _ _ _ _ (by have := j.isLt; omega), along_of_lt _ _ _ _ _ (by have := j.isLt; omega)]

/-- The reference's state of head `g` of sequence `b`, after `p` positions. -/
def reference (c : Dev nD) (b : Fin 4) (g : Fin 8) (a e : Fin 256) (p : ℕ) : EReal :=
  Cert.Prompt.carry (gam g) (along (keys (m ((c : Thread nD τ).loc main_arg0))) b g a) (along (values (m ((c : Thread nD τ).loc main_arg0))) b g e) p

/-- The state a point leaves is the reference's after the positions up to the end of its chunk. -/
theorem state_at (c : Dev nD) (a e : Fin 256) (n : ℕ) (hn : n < cfg0.N) : (outsAt0 m c n hn).2.2.1 (ix2 a e)
    = reference m c ⟨n % 32 / 8, by omega⟩ ⟨n / 32, Nat.div_lt_of_lt_mul hn⟩ a e (n % 8 * 256 + 256) := by
  induction n with
  | zero =>
    rw [state_first m c ⟨0, hn⟩ rfl]
    exact next_carry m c ⟨0, hn⟩ _ a e ((zero_at m c ⟨0, hn⟩ a e).trans rfl)
  | succ n ih =>
    by_cases h : (n + 1) % 8 = 0
    · rw [state_first m c ⟨n + 1, hn⟩ h]
      refine next_carry m c ⟨n + 1, hn⟩ _ a e ((zero_at m c ⟨n + 1, hn⟩ a e).trans ?_)
      show (0 : EReal) = Cert.Prompt.carry _ _ _ ((n + 1) % 8 * 256)
      rw [h]
      rfl
    · rw [state_next m c ⟨n + 1, hn⟩ h]
      refine next_carry m c ⟨n + 1, hn⟩ _ a e ((ih (Nat.lt_of_succ_lt hn)).trans ?_)
      have eb : (⟨n % 32 / 8, by omega⟩ : Fin 4) = ⟨(n + 1) % 32 / 8, by omega⟩ := Fin.ext (by show n % 32 / 8 = (n + 1) % 32 / 8; omega)
      have eg : (⟨n / 32, Nat.div_lt_of_lt_mul (Nat.lt_of_succ_lt hn)⟩ : Fin 8) = ⟨(n + 1) / 32, Nat.div_lt_of_lt_mul hn⟩ := Fin.ext (by show n / 32 = (n + 1) / 32; omega)
      have ep : n % 8 * 256 + 256 = (n + 1) % 8 * 256 := by omega
      rw [eb, eg, ep]
      rfl

/-- THE RESULT: the reference's state after the 2048 positions. -/
theorem final_state (c : Dev nD) : (dats m 0 c).arrAt 9 (cfgs 0).N = prompt (m ((c : Thread nD τ).loc main_arg0)) := by
  refine (dats m 0 c).arrAt_eq_of_covers 9 _ (by decide +kernel) fun t hf y => ?_
  have h7 : t.val % 8 = 7 := (flush0_9 t).mp hf
  blk_simp
  rw [after0_9, stored_state m c t h7]
  idx_vars y
  pointwise [k0_pay2]
  refine (state_at m c _ _ t.val t.isLt).trans ?_
  rw [h7]
  show prompt (m ((c : Thread nD τ).loc main_arg0)) (ix4 ⟨t.val % 32 / 8, by omega⟩ ⟨t.val / 32, Nat.div_lt_of_lt_mul t.isLt⟩ y2 y3) = _
  refine congrArg _ ?_
  blk_ext [idx t]

end Cert.RetPIdeal.Prompt

end
-- ==== Proof.PromptClaim.lean ====
/- The claims about the retention of the prompt batch and its reference. -/
module

public import proofs.«01_k».proof.Defs
public import proofs.«01_k».proof.Proof.PromptValue
public import proofs.«01_k».proof.Proof.Gen.RetPRefIdeal.Run
public import Idealize.ShloMosaic.Lib.Claim

@[expose] public section

set_option maxRecDepth 16384

noncomputable section

namespace Cert.Proof

open Idealize.ShloMosaic Idealize.SL.Sem

set_option maxHeartbeats 1600000 in
/-- The reference of the retention of the prompt batch leaves its arguments as they were. -/
theorem prompt_retention_reference : Cert.quiescent_RetPRefIdeal (hRetPRefIdeal := Cert.RetPRefIdeal.Gen.facts) := by
  intro m g _
  run_from Cert.RetPRefIdeal.Value.run m g
  · exact fun _ => trivial
  · exact sem_eq_zero_of_no_sems (sig := Cert.RetPRefIdeal.sig) rfl _

set_option maxHeartbeats 1600000 in
/-- The value claim about the retention of the prompt batch. -/
theorem prompt_retention : Cert.algebraic_RetPIdeal_RetPRefIdeal (hRetPIdeal := Cert.RetPIdeal.Gen.facts) (hRetPRefIdeal := Cert.RetPRefIdeal.Gen.facts) := by
  pair_intro
  · run_from Cert.RetPIdeal.Gen.run_main m g
  · run_from Cert.RetPRefIdeal.Value.run m' g'
    exact (Cert.RetPRefIdeal.Formula.loop_state m' c).trans ((congrArg Cert.RetPRefIdeal.Formula.prompt (hagree c)).trans
      (Cert.RetPIdeal.Prompt.final_state m c).symm)

end Cert.Proof

end
-- ==== Proof.MmInValue.lean ====
/- What the input projection's pallas_call leaves in its result: the whole product of its two arguments. -/
module

public import proofs.«01_k».proof.Proof.Gen.MmInIdeal.Frame
public import proofs.«01_k».proof.Proof.Gen.MmInRefIdeal
public import Idealize.ShloMosaic.Lib.Pipeline.ValueKit
public import Idealize.ShloMosaic.Lib.Pointwise

@[expose] public section

set_option maxRecDepth 16384

noncomputable section

namespace Cert.MmInIdeal.Product

open Idealize.ShloMosaic Idealize.ShloMosaic.TcCoe Idealize.SL.Sem
open Idealize.ShloMosaic.Pipeline (Dat)
open Cert.MmInIdeal Cert.MmInIdeal.Gen

variable (m : (ℓ : Loc nD τ sig) → Buf (Elt Ideal) ℓ)

/-- The reference's result as a function of its two arguments. -/
def REF (x : FVec Ideal S8704x4096 .bf16) (w : FVec Ideal S2x4096x20480 .f32) : FVec Ideal S8704x20480 .f32 :=
  Host.dotGeneral Cert.MmInRefIdeal.dot_S8704x4096_S4096x20480_S8704x20480_1_0_0_1_n_n none
    (extf .f32 x Cert.MmInRefIdeal.Gen.bitsLt_bf16_f32)
    (shapeCast _ (extractStridedSlice Cert.MmInRefIdeal.S1x4096x20480 ![0, 0, 0] w
      Cert.MmInRefIdeal.Gen.slices_S2x4096x20480_S1x4096x20480_0_0_0) Cert.MmInRefIdeal.Gen.shapeCasts_S1x4096x20480_S4096x20480)

/-- The windows' block indices at a point. -/
theorem idx : ∀ t : Fin cfg0.N, win0_0.index t = ![t.val % 8, 0] ∧ win0_1.index t = ![0, 0, t.val / 8]
    ∧ win0_2.index t = ![t.val % 8, t.val / 8] :=
  (by decide +kernel : ∀ t : Fin grid0.N, _)

/-- Points of one run over the rows read the same column block of the weight. -/
theorem same_column (c : Dev nD) (t t' : Fin cfg0.N) (e : t.val / 8 = t'.val / 8) : iblk m c 1 t = iblk m c 1 t' := by
  funext y
  blk_ext [iblk, V, idx t, idx t']

/-- The carried scratch holds the column block of the weight that the point multiplies by. -/
theorem scratch (c : Dev nD) (n : ℕ) (hn : n < cfg0.N) :
    (outsAt0 m c n hn).2 = k0_pay1 (F := Ideal) (iblk m c 1 ⟨n, hn⟩) := by
  induction n with
  | zero =>
    rw [outsAt0_A m c ⟨0, hn⟩ rfl]; frame_out
  | succ n ih =>
    by_cases h : (n + 1) % 8 = 0
    · rw [outsAt0_A m c ⟨n + 1, hn⟩ h]; frame_out
    · rw [outsAt0_B m c ⟨n + 1, hn⟩ h]
      show (outsAt0 m c n _).2 = _
      rw [ih]
      rw [same_column m c ⟨n, _⟩ ⟨n + 1, hn⟩ (by show n / 8 = (n + 1) / 8; omega)]

/-- What a point leaves in the output's block. -/
theorem stored (c : Dev nD) (t : Fin cfg0.N) :
    (outsAt0 m c t.val t.isLt).1 = k0_pay2 (F := Ideal) (iblk m c 0 t) (k0_pay1 (F := Ideal) (iblk m c 1 t)) := by
  by_cases h : t.val % 8 = 0
  · rw [outsAt0_A m c t h]; frame_out
  · rw [outsAt0_B m c t h]; frame_out
    rw [scratch, same_column m c ⟨t.val - 1, _⟩ t (by have : t.val ≠ 0 := fun e => h (by rw [e]); show (t.val - 1) / 8 = _; omega)]
    exact congrArg _ (Memref.IsWhole.read_unread _ _)

/-- What a point stores is the reference at the block's place. -/
theorem point (c : Dev nD) (t : Fin cfg0.N) (y) :
    k0_pay2 (F := Ideal) (iblk m c 0 t) (k0_pay1 (F := Ideal) (iblk m c 1 t)) y
      = REF (m ((c : Thread nD τ).loc main_arg0)) (m ((c : Thread nD τ).loc main_arg1)) (((cfg0.win 2).blk t).view.emb y) := by
  pointwise [k0_pay2, k0_pay1, REF]
  blk_point [iblk, V, idx t]

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2, stored]
  exact point m c t y

end Cert.MmInIdeal.Product

end
-- ==== Proof.MmOValue.lean ====
/- What the output projection's pallas_call leaves in its result: the whole product of its two arguments. -/
module

public import proofs.«01_k».proof.Proof.Gen.MmOIdeal.Frame
public import proofs.«01_k».proof.Proof.Gen.MmORefIdeal
public import Idealize.ShloMosaic.Lib.Pipeline.ValueKit
public import Idealize.ShloMosaic.Lib.Pointwise

@[expose] public section

set_option maxRecDepth 16384

noncomputable section

namespace Cert.MmOIdeal.Product

open Idealize.ShloMosaic Idealize.ShloMosaic.TcCoe Idealize.SL.Sem
open Idealize.ShloMosaic.Pipeline (Dat)
open Cert.MmOIdeal Cert.MmOIdeal.Gen

variable (m : (ℓ : Loc nD τ sig) → Buf (Elt Ideal) ℓ)

/-- The reference's result as a function of its two arguments. -/
def REF (x : FVec Ideal S8704x4096 .bf16) (w : FVec Ideal S2x4096x4096 .f32) : FVec Ideal S8704x4096 .f32 :=
  Host.dotGeneral Cert.MmORefIdeal.dot_S8704x4096_S4096x4096_S8704x4096_1_0_0_1_n_n none
    (extf .f32 x Cert.MmORefIdeal.Gen.bitsLt_bf16_f32)
    (shapeCast _ (extractStridedSlice Cert.MmORefIdeal.S1x4096x4096 ![0, 0, 0] w
      Cert.MmORefIdeal.Gen.slices_S2x4096x4096_S1x4096x4096_0_0_0) Cert.MmORefIdeal.Gen.shapeCasts_S1x4096x4096_S4096x4096)

/-- The windows' block indices at a point. -/
theorem idx : ∀ t : Fin cfg0.N, win0_0.index t = ![t.val % 8, 0] ∧ win0_1.index t = ![0, 0, t.val / 8]
    ∧ win0_2.index t = ![t.val % 8, t.val / 8] :=
  (by decide +kernel : ∀ t : Fin grid0.N, _)

/-- Points of one run over the rows read the same column block of the weight. -/
theorem same_column (c : Dev nD) (t t' : Fin cfg0.N) (e : t.val / 8 = t'.val / 8) : iblk m c 1 t = iblk m c 1 t' := by
  funext y
  blk_ext [iblk, V, idx t, idx t']

/-- The carried scratch holds the column block of the weight that the point multiplies by. -/
theorem scratch (c : Dev nD) (n : ℕ) (hn : n < cfg0.N) :
    (outsAt0 m c n hn).2 = k0_pay1 (F := Ideal) (iblk m c 1 ⟨n, hn⟩) := by
  induction n with
  | zero =>
    rw [outsAt0_A m c ⟨0, hn⟩ rfl]; frame_out
  | succ n ih =>
    by_cases h : (n + 1) % 8 = 0
    · rw [outsAt0_A m c ⟨n + 1, hn⟩ h]; frame_out
    · rw [outsAt0_B m c ⟨n + 1, hn⟩ h]
      show (outsAt0 m c n _).2 = _
      rw [ih]
      rw [same_column m c ⟨n, _⟩ ⟨n + 1, hn⟩ (by show n / 8 = (n + 1) / 8; omega)]

/-- What a point leaves in the output's block. -/
theorem stored (c : Dev nD) (t : Fin cfg0.N) :
    (outsAt0 m c t.val t.isLt).1 = k0_pay2 (F := Ideal) (iblk m c 0 t) (k0_pay1 (F := Ideal) (iblk m c 1 t)) := by
  by_cases h : t.val % 8 = 0
  · rw [outsAt0_A m c t h]; frame_out
  · rw [outsAt0_B m c t h]; frame_out
    rw [scratch, same_column m c ⟨t.val - 1, _⟩ t (by have : t.val ≠ 0 := fun e => h (by rw [e]); show (t.val - 1) / 8 = _; omega)]
    exact congrArg _ (Memref.IsWhole.read_unread _ _)

/-- What a point stores is the reference at the block's place. -/
theorem point (c : Dev nD) (t : Fin cfg0.N) (y) :
    k0_pay2 (F := Ideal) (iblk m c 0 t) (k0_pay1 (F := Ideal) (iblk m c 1 t)) y
      = REF (m ((c : Thread nD τ).loc main_arg0)) (m ((c : Thread nD τ).loc main_arg1)) (((cfg0.win 2).blk t).view.emb y) := by
  pointwise [k0_pay2, k0_pay1, REF]
  blk_point [iblk, V, idx t]

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2, stored]
  exact point m c t y

end Cert.MmOIdeal.Product

end
-- ==== Proof.MmUpValue.lean ====
/- What the up projection's pallas_call leaves in its result: the whole product of its two arguments. -/
module

public import proofs.«01_k».proof.Proof.Gen.MmUpIdeal.Frame
public import proofs.«01_k».proof.Proof.Gen.MmUpRefIdeal
public import Idealize.ShloMosaic.Lib.Pipeline.ValueKit
public import Idealize.ShloMosaic.Lib.Pointwise

@[expose] public section

set_option maxRecDepth 16384

noncomputable section

namespace Cert.MmUpIdeal.Product

open Idealize.ShloMosaic Idealize.ShloMosaic.TcCoe Idealize.SL.Sem
open Idealize.ShloMosaic.Pipeline (Dat)
open Cert.MmUpIdeal Cert.MmUpIdeal.Gen

variable (m : (ℓ : Loc nD τ sig) → Buf (Elt Ideal) ℓ)

/-- The reference's result as a function of its two arguments. -/
def REF (x : FVec Ideal S8704x4096 .bf16) (w : FVec Ideal S2x4096x22016 .f32) : FVec Ideal S8704x22016 .f32 :=
  Host.dotGeneral Cert.MmUpRefIdeal.dot_S8704x4096_S4096x22016_S8704x22016_1_0_0_1_n_n none
    (extf .f32 x Cert.MmUpRefIdeal.Gen.bitsLt_bf16_f32)
    (shapeCast _ (extractStridedSlice Cert.MmUpRefIdeal.S1x4096x22016 ![0, 0, 0] w
      Cert.MmUpRefIdeal.Gen.slices_S2x4096x22016_S1x4096x22016_0_0_0) Cert.MmUpRefIdeal.Gen.shapeCasts_S1x4096x22016_S4096x22016)

/-- The windows' block indices at a point. -/
theorem idx : ∀ t : Fin cfg0.N, win0_0.index t = ![t.val % 8, 0] ∧ win0_1.index t = ![0, 0, t.val / 8]
    ∧ win0_2.index t = ![t.val % 8, t.val / 8] :=
  (by decide +kernel : ∀ t : Fin grid0.N, _)

/-- Points of one run over the rows read the same column block of the weight. -/
theorem same_column (c : Dev nD) (t t' : Fin cfg0.N) (e : t.val / 8 = t'.val / 8) : iblk m c 1 t = iblk m c 1 t' := by
  funext y
  blk_ext [iblk, V, idx t, idx t']

/-- The carried scratch holds the column block of the weight that the point multiplies by. -/
theorem scratch (c : Dev nD) (n : ℕ) (hn : n < cfg0.N) :
    (outsAt0 m c n hn).2 = k0_pay1 (F := Ideal) (iblk m c 1 ⟨n, hn⟩) := by
  induction n with
  | zero =>
    rw [outsAt0_A m c ⟨0, hn⟩ rfl]; frame_out
  | succ n ih =>
    by_cases h : (n + 1) % 8 = 0
    · rw [outsAt0_A m c ⟨n + 1, hn⟩ h]; frame_out
    · rw [outsAt0_B m c ⟨n + 1, hn⟩ h]
      show (outsAt0 m c n _).2 = _
      rw [ih]
      rw [same_column m c ⟨n, _⟩ ⟨n + 1, hn⟩ (by show n / 8 = (n + 1) / 8; omega)]

/-- What a point leaves in the output's block. -/
theorem stored (c : Dev nD) (t : Fin cfg0.N) :
    (outsAt0 m c t.val t.isLt).1 = k0_pay2 (F := Ideal) (iblk m c 0 t) (k0_pay1 (F := Ideal) (iblk m c 1 t)) := by
  by_cases h : t.val % 8 = 0
  · rw [outsAt0_A m c t h]; frame_out
  · rw [outsAt0_B m c t h]; frame_out
    rw [scratch, same_column m c ⟨t.val - 1, _⟩ t (by have : t.val ≠ 0 := fun e => h (by rw [e]); show (t.val - 1) / 8 = _; omega)]
    exact congrArg _ (Memref.IsWhole.read_unread _ _)

/-- What a point stores is the reference at the block's place. -/
theorem point (c : Dev nD) (t : Fin cfg0.N) (y) :
    k0_pay2 (F := Ideal) (iblk m c 0 t) (k0_pay1 (F := Ideal) (iblk m c 1 t)) y
      = REF (m ((c : Thread nD τ).loc main_arg0)) (m ((c : Thread nD τ).loc main_arg1)) (((cfg0.win 2).blk t).view.emb y) := by
  pointwise [k0_pay2, k0_pay1, REF]
  blk_point [iblk, V, idx t]

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2, stored]
  exact point m c t y

end Cert.MmUpIdeal.Product

end
-- ==== Proof.UpClaim.lean ====
/- The claims about the up projection: its product, and the two convolution states, which are rows of it. -/
module

public import proofs.«01_k».proof.Defs
public import proofs.«01_k».proof.Proof.MmUpValue
public import Idealize.ShloMosaic.Lib.Claim

@[expose] public section

set_option maxRecDepth 16384

noncomputable section

namespace Cert.MmUpIdeal.Product

open Idealize.ShloMosaic Idealize.ShloMosaic.TcCoe Idealize.SL.Sem
open Cert.MmUpIdeal Cert.MmUpIdeal.Gen

variable (m : (ℓ : Loc nD τ sig) → Buf (Elt Ideal) ℓ)

/-- The buffers as the call leaves them. -/
abbrev left (c : Dev nD) : Valuation τ sig (Elt Ideal) :=
  Pipeline.withArrays (cfgs 0).spec c (V0 m c) fun w => (dats m 0 c).arrAt w (cfgs 0).N

/-- The product's buffer holds the product. -/
theorem left_product (c : Dev nD) : left m c (Proc.devRef .tc main_v0)
    = REF (m ((c : Thread nD τ).loc main_arg0)) (m ((c : Thread nD τ).loc main_arg1)) :=
  (Pipeline.withArrays_arr (cfgs 0).spec launch0.win.arr_inj c (V0 m c) (fun w => (dats m 0 c).arrAt w (cfgs 0).N) 2).trans (final m c)

/-- The last two rows of each of the prompt's sequences, in the convolved columns. -/
def prompt (up : FVec Ideal S8704x22016 .f32) : FVec Ideal S4x2x11008 .f32 :=
  extractStridedSlice S4x2x11008 ![0, 2046, 0] (shapeCast S4x2048x22016 (extractStridedSlice S8192x22016 ![0, 0] up
    slices_S8704x22016_S8192x22016_0_0) shapeCasts_S8192x22016_S4x2048x22016) slices_S4x2048x22016_S4x2x11008_0_2046_0

/-- The last two rows of each of the sample's sequences, in the convolved columns. -/
def sample (up : FVec Ideal S8704x22016 .f32) : FVec Ideal S32x2x11008 .f32 :=
  extractStridedSlice S32x2x11008 ![0, 14, 0] (shapeCast S32x16x22016 (extractStridedSlice S512x22016 ![8192, 0] up
    slices_S8704x22016_S512x22016_8192_0) shapeCasts_S512x22016_S32x16x22016) slices_S32x16x22016_S32x2x11008_0_14_0

/-- What the lines after the call leave in the prompt's convolution state. -/
theorem prompt_state (c : Dev nD) : Pipeline.afterTail₀ cfgs (dats m) 0 (V0 m) [hostOps1] c main_v3
    = prompt (REF (m ((c : Thread nD τ).loc main_arg0)) (m ((c : Thread nD τ).loc main_arg1))) := by
  rw [← left_product m c]
  show StableHlo.after hostOps1 (left m c) _ = _
  unfold hostOps1
  after_results
  rfl

/-- And in the sample's. -/
theorem sample_state (c : Dev nD) : Pipeline.afterTail₀ cfgs (dats m) 0 (V0 m) [hostOps1] c main_v6
    = sample (REF (m ((c : Thread nD τ).loc main_arg0)) (m ((c : Thread nD τ).loc main_arg1))) := by
  rw [← left_product m c]
  show StableHlo.after hostOps1 (left m c) _ = _
  unfold hostOps1
  after_results
  rfl

/-- The old state, which the call does not read, stays. -/
theorem old_state (c : Dev nD) : Pipeline.afterTail₀ cfgs (dats m) 0 (V0 m) [hostOps1] c main_arg2
    = m ((c : Thread nD τ).loc main_arg2) := by
  show StableHlo.after hostOps1 (left m c) _ = _
  unfold hostOps1
  after_results
  exact Pipeline.withArrays_of_ne (cfgs 0).spec c (V0 m c) (fun w => (dats m 0 c).arrAt w (cfgs 0).N) main_arg2 (by decide)

end Cert.MmUpIdeal.Product

namespace Cert.Proof

open Idealize.ShloMosaic Idealize.SL.Sem

/-- The reference of the up projection leaves its arguments as they were. -/
theorem up_projection_reference : Cert.quiescent_MmUpRefIdeal (hMmUpRefIdeal := Cert.MmUpRefIdeal.Gen.facts) := by
  intro m g _
  hlo_run
  · intro c
    simp only [and_self]
  · exact sem_eq_zero_of_no_sems (sig := Cert.MmUpRefIdeal.sig) rfl _

/-- The value claim about the up projection. -/
theorem up_projection : Cert.algebraic_MmUpIdeal_MmUpRefIdeal (hMmUpIdeal := Cert.MmUpIdeal.Gen.facts) (hMmUpRefIdeal := Cert.MmUpRefIdeal.Gen.facts) := by
  pair_intro
  · run_from Cert.MmUpIdeal.Gen.run_main m g
    exact Cert.MmUpIdeal.Product.old_state m c
  · hlo_run
    · exact (Cert.MmUpIdeal.Product.final m c).symm
    · rw [Cert.MmUpIdeal.Product.prompt_state m c]
      funext x
      pointwise [Cert.MmUpIdeal.Product.prompt, Cert.MmUpIdeal.Product.REF]
      have after (n : ℕ) : ¬ 2048 + n < 2 := by omega
      have same (n : ℕ) : 2048 + n - 2 = 2046 + n := by omega
      refine (dif_neg (after _)).trans ?_
      simp only [same]
    · rw [Cert.MmUpIdeal.Product.sample_state m c]
      funext x
      pointwise [Cert.MmUpIdeal.Product.sample, Cert.MmUpIdeal.Product.REF]
      have after (n : ℕ) : ¬ 16 + n < 2 := by omega
      have same (n : ℕ) : 16 + n - 2 = 14 + n := by omega
      refine (dif_neg (after _)).trans ?_
      simp only [same]

end Cert.Proof

end
-- ==== Proof.MmDownValue.lean ====
/- What the down projection's pallas_call leaves in its result: the whole product of its two arguments. -/
module

public import proofs.«01_k».proof.Proof.Gen.MmDownIdeal.Frame
public import proofs.«01_k».proof.Proof.Gen.MmDownRefIdeal
public import Idealize.ShloMosaic.Lib.Pipeline.ValueKit
public import Idealize.ShloMosaic.Lib.Pointwise

@[expose] public section

set_option maxRecDepth 16384

noncomputable section

namespace Cert.MmDownIdeal.Product

open Idealize.ShloMosaic Idealize.ShloMosaic.TcCoe Idealize.SL.Sem
open Idealize.ShloMosaic.Pipeline (Dat)
open Cert.MmDownIdeal Cert.MmDownIdeal.Gen

variable (m : (ℓ : Loc nD τ sig) → Buf (Elt Ideal) ℓ)

/-- The reference's result as a function of its two arguments. -/
def REF (x : FVec Ideal S8704x11008 .bf16) (w : FVec Ideal S2x11008x4096 .f32) : FVec Ideal S8704x4096 .f32 :=
  Host.dotGeneral Cert.MmDownRefIdeal.dot_S8704x11008_S11008x4096_S8704x4096_1_0_0_1_n_n none
    (extf .f32 x Cert.MmDownRefIdeal.Gen.bitsLt_bf16_f32)
    (shapeCast _ (extractStridedSlice Cert.MmDownRefIdeal.S1x11008x4096 ![0, 0, 0] w
      Cert.MmDownRefIdeal.Gen.slices_S2x11008x4096_S1x11008x4096_0_0_0) Cert.MmDownRefIdeal.Gen.shapeCasts_S1x11008x4096_S11008x4096)

/-- The windows' block indices at a point. -/
theorem idx : ∀ t : Fin cfg0.N, win0_0.index t = ![t.val % 32, 0] ∧ win0_1.index t = ![0, 0, t.val / 32]
    ∧ win0_2.index t = ![t.val % 32, t.val / 32] :=
  (by decide +kernel : ∀ t : Fin grid0.N, _)

/-- Points of one run over the rows read the same column block of the weight. -/
theorem same_column (c : Dev nD) (t t' : Fin cfg0.N) (e : t.val / 32 = t'.val / 32) : iblk m c 1 t = iblk m c 1 t' := by
  funext y
  blk_ext [iblk, V, idx t, idx t']

/-- The carried scratch holds the column block of the weight that the point multiplies by. -/
theorem scratch (c : Dev nD) (n : ℕ) (hn : n < cfg0.N) :
    (outsAt0 m c n hn).2 = k0_pay1 (F := Ideal) (iblk m c 1 ⟨n, hn⟩) := by
  induction n with
  | zero =>
    rw [outsAt0_A m c ⟨0, hn⟩ rfl]; frame_out
  | succ n ih =>
    by_cases h : (n + 1) % 32 = 0
    · rw [outsAt0_A m c ⟨n + 1, hn⟩ h]; frame_out
    · rw [outsAt0_B m c ⟨n + 1, hn⟩ h]
      show (outsAt0 m c n _).2 = _
      rw [ih]
      rw [same_column m c ⟨n, _⟩ ⟨n + 1, hn⟩ (by show n / 32 = (n + 1) / 32; omega)]

/-- What a point leaves in the output's block. -/
theorem stored (c : Dev nD) (t : Fin cfg0.N) :
    (outsAt0 m c t.val t.isLt).1 = k0_pay2 (F := Ideal) (iblk m c 0 t) (k0_pay1 (F := Ideal) (iblk m c 1 t)) := by
  by_cases h : t.val % 32 = 0
  · rw [outsAt0_A m c t h]; frame_out
  · rw [outsAt0_B m c t h]; frame_out
    rw [scratch, same_column m c ⟨t.val - 1, _⟩ t (by have : t.val ≠ 0 := fun e => h (by rw [e]); show (t.val - 1) / 32 = _; omega)]
    exact congrArg _ (Memref.IsWhole.read_unread _ _)

/-- What a point stores is the reference at the block's place. -/
theorem point (c : Dev nD) (t : Fin cfg0.N) (y) :
    k0_pay2 (F := Ideal) (iblk m c 0 t) (k0_pay1 (F := Ideal) (iblk m c 1 t)) y
      = REF (m ((c : Thread nD τ).loc main_arg0)) (m ((c : Thread nD τ).loc main_arg1)) (((cfg0.win 2).blk t).view.emb y) := by
  pointwise [k0_pay2, k0_pay1, REF]
  blk_point [iblk, V, idx t]

/-- The array after the run is the reference's. -/
theorem final (c : Dev nD) : (dats m 0 c).arrAt 2 (cfgs 0).N
    = REF (m ((c : Thread nD τ).loc main_arg0)) (m ((c : Thread nD τ).loc main_arg1)) := by
  refine (dats m 0 c).arrAt_eq_of_covers 2 _ (by decide +kernel) fun t _ y => ?_
  blk_simp
  rw [after0_2, stored]
  exact point m c t y

end Cert.MmDownIdeal.Product

end
-- ==== Proof.MergeValue.lean ====
/- What the merge's pallas_call leaves in its result: the two branches' whole products, each weighted by the sigmoid of its gate. -/
module

public import proofs.«01_k».proof.Proof.Gen.MergeIdeal.Frame
public import proofs.«01_k».proof.Proof.Gen.MergeRefIdeal
public import Idealize.ShloMosaic.Lib.Pipeline.ValueKit
public import Idealize.ShloMosaic.Lib.Pointwise

@[expose] public section

set_option maxRecDepth 16384

noncomputable section

namespace Cert.MergeRefIdeal.Formula

open Idealize.ShloMosaic Idealize.ShloMosaic.TcCoe Idealize.SL.Sem
open Cert.MergeRefIdeal Cert.MergeRefIdeal.Gen

/-- One branch: the product of its rows with layer 0 of its weights. -/
def branch (z : FVec Ideal S8704x2048 .bf16) (w : FVec Ideal S2x2048x4096 .f32) : FVec Ideal S8704x4096 .f32 :=
  Host.dotGeneral dot_S8704x2048_S2048x4096_S8704x4096_1_0_0_1_n_n none (extf .f32 z bitsLt_bf16_f32)
    (shapeCast _ (extractStridedSlice S1x2048x4096 ![0, 0, 0] w slices_S2x2048x4096_S1x2048x4096_0_0_0) shapeCasts_S1x2048x4096_S2048x4096)

/-- The sigmoid. -/
def sigmoid (x : FVec Ideal S8704x4096 .f32) : FVec Ideal S8704x4096 .f32 :=
  Host.divf (broadcastInDim S8704x4096 ![] bcast_S_S8704x4096 (constant S_ .f32 0x3F800000#32))
    (addf (broadcastInDim S8704x4096 ![] bcast_S_S8704x4096 (constant S_ .f32 0x3F800000#32)) (Host.exp (Host.negf x)))

/-- At an index the sigmoid is the logistic function of the entry there. -/
theorem sigmoid_at (x : FVec Ideal S8704x4096 .f32) (i) : sigmoid x i = Ideal.logistic (x i) := by
  pointwise [sigmoid]
  rfl

/-- The reference's result: the sum of the two gated branches. -/
def merged (za zb : FVec Ideal S8704x2048 .bf16) (h : FVec Ideal S8704x20480 .f32) (wa wb : FVec Ideal S2x2048x4096 .f32) : FVec Ideal S8704x4096 .bf16 :=
  truncf .bf16 (addf
    (mulf (sigmoid (extractStridedSlice S8704x4096 ![0, 12288] h slices_S8704x20480_S8704x4096_0_12288)) (branch za wa))
    (mulf (sigmoid (extractStridedSlice S8704x4096 ![0, 16384] h slices_S8704x20480_S8704x4096_0_16384)) (branch zb wb))) bitsLt_bf16_f32

end Cert.MergeRefIdeal.Formula

namespace Cert.MergeIdeal.Product

open Idealize.ShloMosaic Idealize.ShloMosaic.TcCoe Idealize.SL.Sem
open Idealize.ShloMosaic.Pipeline (Dat)
open Cert.MergeIdeal Cert.MergeIdeal.Gen
open Cert.MergeRefIdeal.Formula (branch sigmoid sigmoid_at merged)

variable (m : (ℓ : Loc nD τ sig) → Buf (Elt Ideal) ℓ)

/-- Each window's block at a grid point: the rows are the inner axis, the columns the outer one. -/
theorem idx : ∀ t : Fin cfg0.N, win0_0.index t = ![t.val % 16, 0] ∧ win0_1.index t = ![t.val % 16, 0]
    ∧ win0_2.index t = ![t.val % 16, 24 + t.val / 16] ∧ win0_3.index t = ![t.val % 16, 32 + t.val / 16]
    ∧ win0_4.index t = ![0, 0, t.val / 16] ∧ win0_5.index t = ![0, 0, t.val / 16]
    ∧ win0_6.index t = ![t.val % 16, t.val / 16] := (by decide +kernel : ∀ t : Fin grid0.N, _)

/-- Two points of one column of blocks see the same weights. -/
theorem same_column (c : Dev nD) (t t' : Fin cfg0.N) (e : t.val / 16 = t'.val / 16) :
    iblk m c 4 t = iblk m c 4 t' ∧ iblk m c 5 t = iblk m c 5 t' := by
  constructor <;> funext y <;> blk_ext [iblk, V, idx t, idx t']

set_option maxHeartbeats 1600000 in
/-- The weights that the first point of a column rounds are kept by the others. -/
theorem scratch (c : Dev nD) (n : ℕ) (hn : n < cfg0.N) :
    (outsAt0 m c n hn).2.1 = k0_pay1 (F := Ideal) (iblk m c 4 ⟨n, hn⟩) ∧ (outsAt0 m c n hn).2.2 = k0_pay2 (F := Ideal) (iblk m c 5 ⟨n, hn⟩) := by
  induction n with
  | zero => rw [outsAt0_A m c ⟨0, hn⟩ rfl]; constructor <;> frame_out
  | succ n ih =>
    by_cases h : (n + 1) % 16 = 0
    · rw [outsAt0_A m c ⟨n + 1, hn⟩ h]; constructor <;> frame_out
    · rw [outsAt0_B m c ⟨n + 1, hn⟩ h]
      obtain ⟨e₁, e₂⟩ := same_column m c ⟨n, Nat.lt_of_succ_lt hn⟩ ⟨n + 1, hn⟩ (by show n / 16 = (n + 1) / 16; omega)
      obtain ⟨h₁, h₂⟩ := ih (Nat.lt_of_succ_lt hn)
      constructor
      · show (outsAt0 m c n _).2.1 = _
        rw [h₁, e₁]
      · show (outsAt0 m c n _).2.2 = _
        rw [h₂, e₂]

/-- What a point stores: its payload over the point's own blocks. -/
theorem stored (c : Dev nD) (t : Fin cfg0.N) :
    (outsAt0 m c t.val t.isLt).1 = k0_pay3 (F := Ideal) (iblk m c 0 t) (k0_pay1 (F := Ideal) (iblk m c 4 t)) (iblk m c 1 t)
      (k0_pay2 (F := Ideal) (iblk m c 5 t)) (iblk m c 2 t) (iblk m c 3 t) := by
  by_cases h : t.val % 16 = 0
  · rw [outsAt0_A m c t h]; frame_out
  · rw [outsAt0_B m c t h]; frame_out
    obtain ⟨e₁, e₂⟩ := same_column m c ⟨t.val - 1, Nat.lt_of_le_of_lt (Nat.sub_le _ _) t.isLt⟩ t
      (by have : t.val ≠ 0 := fun e => h (by rw [e]); show (t.val - 1) / 16 = _; omega)
    rw [(scratch m c (t.val - 1) _).1, (scratch m c (t.val - 1) _).2, e₁, e₂]
    rw [show View.read (Elt Ideal) (View.whole cc0_scratch0) _ = _ from Memref.IsWhole.read_unread (Memref.isWhole_whole _) _]
    rw [show View.read (Elt Ideal) (View.whole cc0_scratch1) _ = _ from Memref.IsWhole.read_unread (Memref.isWhole_whole _) _]

/-- What a point stores at an index is the reference's result at the index of the whole array it lands on. -/
theorem point (c : Dev nD) (t : Fin cfg0.N) (y) :
    k0_pay3 (F := Ideal) (iblk m c 0 t) (k0_pay1 (F := Ideal) (iblk m c 4 t)) (iblk m c 1 t)
      (k0_pay2 (F := Ideal) (iblk m c 5 t)) (iblk m c 2 t) (iblk m c 3 t) y
      = merged (m ((c : Thread nD τ).loc main_arg0)) (m ((c : Thread nD τ).loc main_arg1)) (m ((c : Thread nD τ).loc main_arg2))
          (m ((c : Thread nD τ).loc main_arg3)) (m ((c : Thread nD τ).loc main_arg4)) (((cfg0.win 6).blk t).view.emb y) := by
  pointwise [k0_pay3, k0_pay2, k0_pay1, merged, branch, sigmoid_at]
  blk_point [iblk, V, idx t]

/-- THE RESULT: the reference's merge of the two branches. -/
theorem final (c : Dev nD) : (dats m 0 c).arrAt 6 (cfgs 0).N
    = merged (m ((c : Thread nD τ).loc main_arg0)) (m ((c : Thread nD τ).loc main_arg1)) (m ((c : Thread nD τ).loc main_arg2))
          (m ((c : Thread nD τ).loc main_arg3)) (m ((c : Thread nD τ).loc main_arg4)) := by
  refine (dats m 0 c).arrAt_eq_of_covers 6 _ (by decide +kernel) fun t _ y => ?_
  blk_simp
  rw [after0_6, stored]
  exact point m c t y

end Cert.MergeIdeal.Product

end
-- ==== Proof.AddLnValue.lean ====
/- What the add-and-normalize pallas_call leaves in its two results: the normalized sum, and its rounding. -/
module

public import proofs.«01_k».proof.Proof.Gen.AddLnIdeal.Frame
public import proofs.«01_k».proof.Proof.Gen.AddLnRefIdeal
public import Idealize.ShloMosaic.Lib.Pipeline.ValueKit
public import Idealize.ShloMosaic.Lib.Pointwise
public import Idealize.ShloMosaic.Lib.Claim

@[expose] public section

set_option maxRecDepth 16384

noncomputable section

namespace Cert.AddLnRefIdeal.Formula

open Idealize.ShloMosaic Idealize.ShloMosaic.TcCoe Idealize.SL.Sem
open Cert.AddLnRefIdeal Cert.AddLnRefIdeal.Gen

/-- The scaled residual plus the block's result. -/
def total (x y : FVec Ideal S8704x4096 .f32) : FVec Ideal S8704x4096 .f32 :=
  addf (mulf (broadcastInDim S8704x4096 ![] bcast_S_S8704x4096 (constant S_ .f32 0x3FB504F3#32)) x) y

/-- The mean of each row. -/
def average (x : FVec Ideal S8704x4096 .f32) : FVec Ideal S8704x1 .f32 :=
  Host.divf (broadcastInDim S8704x1 ![0] bcast_S8704_S8704x1_0 (Host.reduceAdd x (constant S_ .f32 0x00000000#32) reducesTo_S8704x4096_S8704_d1 h_S_))
    (broadcastInDim S8704x1 ![] bcast_S_S8704x1 (constant S_ .f32 0x45800000#32))

/-- Each row less its mean. -/
def centred (x : FVec Ideal S8704x4096 .f32) : FVec Ideal S8704x4096 .f32 :=
  subf x (broadcastInDim S8704x4096 ![0, 1] bcast_S8704x1_S8704x4096_0_1 (average x))

/-- Layer 0 of a vector of parameters, for every row. -/
def parameter (g : FVec Ideal S2x4096 .f32) : FVec Ideal S8704x4096 .f32 :=
  broadcastInDim S8704x4096 ![0, 1] bcast_S1x4096_S8704x4096_0_1 (broadcastInDim S1x4096 ![1] bcast_S4096_S1x4096_1
    (shapeCast _ (extractStridedSlice S1x4096 ![0, 0] g slices_S2x4096_S1x4096_0_0) shapeCasts_S1x4096_S4096))

/-- A centred array's rows, each divided by its deviation. -/
def scaled (d : FVec Ideal S8704x4096 .f32) : FVec Ideal S8704x4096 .f32 :=
  mulf d (broadcastInDim S8704x4096 ![0, 1] bcast_S8704x1_S8704x4096_0_1
    (Host.rsqrt (addf (average (mulf d d)) (broadcastInDim S8704x1 ![] bcast_S_S8704x1 (constant S_ .f32 0x3727C5AC#32)))))

/-- The reference's first result. -/
def normalized (x y : FVec Ideal S8704x4096 .f32) (g b : FVec Ideal S2x4096 .f32) : FVec Ideal S8704x4096 .f32 :=
  addf (mulf (scaled (centred (total x y))) (parameter g)) (parameter b)

/-- The reference's second result: the first, rounded for the next product. -/
def rounded (x y : FVec Ideal S8704x4096 .f32) (g b : FVec Ideal S2x4096 .f32) : FVec Ideal S8704x4096 .bf16 :=
  truncf .bf16 (normalized x y g b) bitsLt_bf16_f32

end Cert.AddLnRefIdeal.Formula

namespace Cert.AddLnIdeal.Rows

open Idealize.ShloMosaic Idealize.ShloMosaic.TcCoe Idealize.SL.Sem
open Idealize.ShloMosaic.Pipeline (Dat)
open Cert.AddLnIdeal Cert.AddLnIdeal.Gen
open Cert.AddLnRefIdeal.Formula

variable (m : (ℓ : Loc nD τ sig) → Buf (Elt Ideal) ℓ)

/-- Each window's block at a grid point: a block of rows, whole; the parameters whole. -/
theorem idx : ∀ t : Fin cfg0.N, win0_0.index t = ![t.val, 0] ∧ win0_1.index t = ![t.val, 0]
    ∧ win0_2.index t = ![0, 0] ∧ win0_3.index t = ![0, 0]
    ∧ win0_4.index t = ![t.val, 0] ∧ win0_5.index t = ![t.val, 0] := (by decide +kernel : ∀ t : Fin grid0.N, _)

/-- The parameters' blocks are layer 0 of the parameters. -/
theorem parameters_at (c : Dev nD) (t : Fin cfg0.N) (j : Fin 4096) :
    iblk m c 2 t (ix2 0 j) = m ((c : Thread nD τ).loc main_arg2) (ix2 0 j) ∧ iblk m c 3 t (ix2 0 j) = m ((c : Thread nD τ).loc main_arg3) (ix2 0 j) := by
  constructor
  · have e : V m c main_v4 (ix2 0 j) = m ((c : Thread nD τ).loc main_arg2) (ix2 0 j) := by
      entry_read
      pointwise
    blk_simp [iblk, idx t]
    exact (congrArg (V m c main_v4) (by blk_ext [idx t])).trans e
  · have e : V m c main_v5 (ix2 0 j) = m ((c : Thread nD τ).loc main_arg3) (ix2 0 j) := by
      entry_read
      pointwise
    blk_simp [iblk, idx t]
    exact (congrArg (V m c main_v5) (by blk_ext [idx t])).trans e

/-- A point's rows, normalized, are the reference's at the rows the point covers. -/
theorem normalized_at (c : Dev nD) (t : Fin cfg0.N) (i : Fin 256) (j : Fin 4096) :
    k0_pay1 (F := Ideal) (iblk m c 0 t) (iblk m c 1 t) (iblk m c 2 t) (iblk m c 3 t) (ix2 i j)
      = normalized (m ((c : Thread nD τ).loc main_arg0)) (m ((c : Thread nD τ).loc main_arg1)) (m ((c : Thread nD τ).loc main_arg2))
          (m ((c : Thread nD τ).loc main_arg3)) (ix2 ⟨t.val * 256 + i, by have : t.val < 34 := t.isLt; omega⟩ j) := by
  pointwise [k0_pay1, normalized, scaled, centred, total, average, parameter, fun j => (parameters_at m c t j).1, fun j => (parameters_at m c t j).2]
  blk_point [iblk, V, idx t]

/-- THE FIRST RESULT: the normalized sum. -/
theorem final_normalized (c : Dev nD) : (dats m 0 c).arrAt 4 (cfgs 0).N
    = normalized (m ((c : Thread nD τ).loc main_arg0)) (m ((c : Thread nD τ).loc main_arg1)) (m ((c : Thread nD τ).loc main_arg2))
        (m ((c : Thread nD τ).loc main_arg3)) := by
  refine (dats m 0 c).arrAt_eq_of_covers 4 _ (by decide +kernel) fun t _ y => ?_
  blk_simp
  rw [after0_4]
  frame_out
  obtain ⟨i, j, rfl⟩ : ∃ i j, y = ix2 i j := ⟨y 0, y 1, eq_ix2 y⟩
  refine (normalized_at m c t i j).trans (congrArg _ ?_)
  blk_ext [idx t]

/-- THE SECOND RESULT: its rounding. -/
theorem final_rounded (c : Dev nD) : (dats m 0 c).arrAt 5 (cfgs 0).N
    = rounded (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t _ y => ?_
  blk_simp
  rw [after0_5]
  frame_out
  obtain ⟨i, j, rfl⟩ : ∃ i j, y = ix2 i j := ⟨y 0, y 1, eq_ix2 y⟩
  refine (normalized_at m c t i j).trans (congrArg _ ?_)
  blk_ext [idx t]

end Cert.AddLnIdeal.Rows

end
-- ==== Proof.SguValue.lean ====
/- What the spatial gating's pallas_call leaves in its two results: the gated rows, and the normalized gate values. -/
module

public import proofs.«01_k».proof.Proof.Gen.SguIdeal.Frame
public import proofs.«01_k».proof.Proof.Gen.SguRefIdeal
public import Idealize.ShloMosaic.Lib.Pipeline.ValueKit
public import Idealize.ShloMosaic.Lib.Pointwise
public import Idealize.ShloMosaic.Lib.Claim

@[expose] public section

set_option maxRecDepth 16384

noncomputable section

namespace Cert.SguRefIdeal.Formula

open Idealize.ShloMosaic Idealize.ShloMosaic.TcCoe Idealize.SL.Sem
open Cert.SguRefIdeal Cert.SguRefIdeal.Gen

/-- The sample batch's rows of the input projection, by sequence. -/
def rows (h : FVec Ideal S8704x20480 .f32) : FVec Ideal S32x16x20480 .f32 :=
  shapeCast _ (extractStridedSlice S512x20480 ![8192, 0] h slices_S8704x20480_S512x20480_8192_0) shapeCasts_S512x20480_S32x16x20480

/-- The columns that are gated, and those that gate them. -/
def upper (h : FVec Ideal S8704x20480 .f32) : FVec Ideal S32x16x2048 .f32 :=
  extractStridedSlice S32x16x2048 ![0, 0, 8192] (rows h) slices_S32x16x20480_S32x16x2048_0_0_8192
def lower (h : FVec Ideal S8704x20480 .f32) : FVec Ideal S32x16x2048 .f32 :=
  extractStridedSlice S32x16x2048 ![0, 0, 10240] (rows h) slices_S32x16x20480_S32x16x2048_0_0_10240

/-- The GELU, in its hyperbolic-tangent form. -/
def gelu (x : FVec Ideal S32x16x2048 .f32) : FVec Ideal S32x16x2048 .f32 :=
  mulf x (mulf (broadcastInDim S32x16x2048 ![] bcast_S_S32x16x2048 (constant S_ .f32 0x3F000000#32))
    (addf (broadcastInDim S32x16x2048 ![] bcast_S_S32x16x2048 (constant S_ .f32 0x3F800000#32))
      (Host.tanh (mulf (broadcastInDim S32x16x2048 ![] bcast_S_S32x16x2048 (constant S_ .f32 0x3F4C422A#32))
        (addf x (mulf (broadcastInDim S32x16x2048 ![] bcast_S_S32x16x2048 (constant S_ .f32 0x3D372713#32)) (mulf (mulf x x) x)))))))

/-- At an index, with the cube taken the other way round. -/
theorem gelu_at (x : FVec Ideal S32x16x2048 .f32) (i) : gelu x i = x i * (Ideal.ofBits .f32 0x3F000000#32 *
    (1 + Ideal.tanh (Ideal.ofBits .f32 0x3F4C422A#32 * (x i + Ideal.ofBits .f32 0x3D372713#32 * (x i * (x i * x i)))))) := by
  pointwise [gelu]
  rw [mul_comm (x i * x i) (x i)]

/-- The mean of each row. -/
def average (x : FVec Ideal S32x16x2048 .f32) : FVec Ideal S32x16x1 .f32 :=
  Host.divf (broadcastInDim S32x16x1 ![0, 1] bcast_S32x16_S32x16x1_0_1 (Host.reduceAdd x (constant S_ .f32 0x00000000#32) reducesTo_S32x16x2048_S32x16_d2 h_S_))
    (broadcastInDim S32x16x1 ![] bcast_S_S32x16x1 (constant S_ .f32 0x45000000#32))

/-- Each row less its mean. -/
def centred (x : FVec Ideal S32x16x2048 .f32) : FVec Ideal S32x16x2048 .f32 :=
  subf x (broadcastInDim S32x16x2048 ![0, 1, 2] bcast_S32x16x1_S32x16x2048_0_1_2 (average x))

/-- A centred array's rows, each divided by its deviation. -/
def scaled (d : FVec Ideal S32x16x2048 .f32) : FVec Ideal S32x16x2048 .f32 :=
  mulf d (broadcastInDim S32x16x2048 ![0, 1, 2] bcast_S32x16x1_S32x16x2048_0_1_2
    (Host.rsqrt (addf (average (mulf d d)) (broadcastInDim S32x16x1 ![] bcast_S_S32x16x1 (constant S_ .f32 0x3727C5AC#32)))))

/-- Layer 0 of a vector of parameters, for every row of every sequence. -/
def parameter (g : FVec Ideal S2x2048 .f32) : FVec Ideal S32x16x2048 .f32 :=
  broadcastInDim S32x16x2048 ![0, 1, 2] bcast_S1x1x2048_S32x16x2048_0_1_2 (broadcastInDim S1x1x2048 ![2] bcast_S2048_S1x1x2048_2
    (shapeCast _ (extractStridedSlice S1x2048 ![0, 0] g slices_S2x2048_S1x2048_0_0) shapeCasts_S1x2048_S2048))

/-- The gate values: the gating columns' GELU, normalized. -/
def values (h : FVec Ideal S8704x20480 .f32) (g b : FVec Ideal S2x2048 .f32) : FVec Ideal S32x16x2048 .f32 :=
  addf (mulf (scaled (centred (gelu (lower h)))) (parameter g)) (parameter b)

/-- The reference's second result: the gate values, row by row. -/
def normalized (h : FVec Ideal S8704x20480 .f32) (g b : FVec Ideal S2x2048 .f32) : FVec Ideal S512x2048 .f32 :=
  shapeCast _ (values h g b) shapeCasts_S32x16x2048_S512x2048

/-- Where a position of a chunk sees another: not after it. -/
def seen : IVec S16x16 1 :=
  select (cmpi .sge (addi (iotaInDim S16x16 32 0) (broadcastInDim S16x16 ![] bcast_S_S16x16 (constantI S_ 32 0#32))) (iotaInDim S16x16 32 1))
    (broadcastInDim S16x16 ![] bcast_S_S16x16 (constantI S_ 1 1#1)) (broadcastInDim S16x16 ![] bcast_S_S16x16 (constantI S_ 1 0#1))

/-- Each group's weights between the positions of a chunk. -/
def weights (w : FVec Ideal S2x8x128x128 .f32) : FVec Ideal S8x16x16 .f32 :=
  select (broadcastInDim S8x16x16 ![0, 1, 2] bcast_S1x16x16_S8x16x16_0_1_2 (broadcastInDim S1x16x16 ![1, 2] bcast_S16x16_S1x16x16_1_2 seen))
    (extractStridedSlice S8x16x16 ![0, 0, 0]
      (shapeCast S8x128x128 (extractStridedSlice S1x8x128x128 ![0, 0, 0, 0] w slices_S2x8x128x128_S1x8x128x128_0_0_0_0) shapeCasts_S1x8x128x128_S8x128x128)
      slices_S8x128x128_S8x16x16_0_0_0)
    (broadcastInDim S8x16x16 ![] bcast_S_S8x16x16 (constant S_ .f32 0x00000000#32))

/-- Each group's bias at the positions of a chunk. -/
def biases (b : FVec Ideal S2x8x128 .f32) : FVec Ideal S32x1x16x8x256 .f32 :=
  broadcastInDim S32x1x16x8x256 ![0, 1, 2, 3, 4] bcast_S1x1x16x8x1_S32x1x16x8x256_0_1_2_3_4 (broadcastInDim S1x1x16x8x1 ![2, 3] bcast_S16x8_S1x1x16x8x1_2_3
    (transpose S16x8 [1, 0] (extractStridedSlice S8x16 ![0, 0]
      (shapeCast S8x128 (extractStridedSlice S1x8x128 ![0, 0, 0] b slices_S2x8x128_S1x8x128_0_0_0) shapeCasts_S1x8x128_S8x128) slices_S8x128_S8x16_0_0)
      transposes_S8x16_S16x8_1_0))

/-- The gate: the gate values of each chunk, mixed over its positions, plus the bias. -/
def gate (v : FVec Ideal S32x16x2048 .f32) (w : FVec Ideal S2x8x128x128 .f32) (b : FVec Ideal S2x8x128 .f32) : FVec Ideal S32x16x2048 .f32 :=
  shapeCast _ (addf (transpose S32x1x16x8x256 [1, 2, 4, 0, 3]
    (Host.dotGeneral (F := Ideal) (φ₁ := .f32) (φ₂ := .f32) dot_S32x1x16x8x256_S8x16x16_S8x32x1x256x16_2_2_014_1_3_0 none
      (shapeCast S32x1x16x8x256 v shapeCasts_S32x16x2048_S32x1x16x8x256) (weights w))
    transposes_S8x32x1x256x16_S32x1x16x8x256_1_2_4_0_3) (biases b)) shapeCasts_S32x1x16x8x256_S32x16x2048

/-- The reference's first result: the gated columns' GELU times the gate, row by row. -/
def gated (h : FVec Ideal S8704x20480 .f32) (g b : FVec Ideal S2x2048 .f32) (w : FVec Ideal S2x8x128x128 .f32) (b' : FVec Ideal S2x8x128 .f32) :
    FVec Ideal S512x2048 .bf16 :=
  truncf .bf16 (shapeCast _ (mulf (gelu (upper h)) (gate (values h g b) w b')) shapeCasts_S32x16x2048_S512x2048) bitsLt_bf16_f32

/-- The gate at an index: a sum over the chunk's positions. -/
theorem gate_at (v : FVec Ideal S32x16x2048 .f32) (w : FVec Ideal S2x8x128x128 .f32) (b : FVec Ideal S2x8x128 .f32) (s : Fin 32) (p : Fin 16) (j : Fin 2048) :
    gate v w b (ix3 s p j) = (∑ k : Fin 16, v (ix3 s k j) * (if (k : ℕ) ≤ p then w (ix4 0 ⟨j.val / 256, by omega⟩ ⟨p, by omega⟩ ⟨k, by omega⟩) else 0))
      + b (ix3 0 ⟨j.val / 256, by omega⟩ ⟨p, by omega⟩) := by
  have hs (p k : Fin 16) : seen (ix2 p k) = if (k : ℕ) ≤ p then 1#1 else 0#1 := by
    pointwise [seen]
    revert p k
    decide +kernel
  pointwise [gate, weights, biases, hs]
  refine congrArg (· + _) (Finset.sum_congr rfl fun k _ => ?_)
  split
  · rfl
  · exact (mul_zero _).symm

end Cert.SguRefIdeal.Formula

namespace Cert.SguIdeal.Chunks

open Idealize.ShloMosaic Idealize.ShloMosaic.TcCoe Idealize.SL.Sem
open Idealize.ShloMosaic.Pipeline (Dat)
open Cert.SguIdeal Cert.SguIdeal.Gen
open Cert.SguRefIdeal.Formula

variable (m : (ℓ : Loc nD τ sig) → Buf (Elt Ideal) ℓ)

/-- Each window's block at a grid point: 256 rows of the columns; the parameters whole. -/
theorem idx : ∀ t : Fin cfg0.N, win0_0.index t = ![32 + t.val, 4] ∧ win0_1.index t = ![32 + t.val, 5]
    ∧ win0_2.index t = ![0, 0] ∧ win0_3.index t = ![0, 0] ∧ win0_4.index t = ![0, 0, 0] ∧ win0_5.index t = ![0, 0]
    ∧ win0_6.index t = ![t.val, 0] ∧ win0_7.index t = ![t.val, 0] := (by decide +kernel : ∀ t : Fin grid0.N, _)

/-- The sequence, and the position in it, of a row of a grid point's block. -/
def seq (t : Fin cfg0.N) (i : Fin 256) : Fin 32 := ⟨t.val * 16 + i.val / 16, by have : t.val < 2 := t.isLt; omega⟩
def pos (i : Fin 256) : Fin 16 := ⟨i.val % 16, by omega⟩

/-- Rows counted on are the rows of the sequences. -/
theorem flat_at (X : FVec Ideal Cert.SguRefIdeal.S32x16x2048 .f32) (t : Fin cfg0.N) (i : Fin 256) (j : Fin 2048) :
    shapeCast Cert.SguRefIdeal.S512x2048 X Cert.SguRefIdeal.Gen.shapeCasts_S32x16x2048_S512x2048
      (ix2 ⟨t.val * 256 + i, by have : t.val < 2 := t.isLt; omega⟩ j) = X (ix3 (seq t i) (pos i) j) := by
  pointwise
  blk_ext [seq, pos]

/-- The parameters' blocks are layer 0 of the parameters. -/
theorem parameters_at (c : Dev nD) (t : Fin cfg0.N) (j : Fin 2048) :
    iblk m c 2 t (ix2 0 j) = m ((c : Thread nD τ).loc main_arg1) (ix2 0 j) ∧ iblk m c 3 t (ix2 0 j) = m ((c : Thread nD τ).loc main_arg2) (ix2 0 j) := by
  constructor
  · have e : V m c main_v19 (ix2 0 j) = m ((c : Thread nD τ).loc main_arg1) (ix2 0 j) := by
      entry_read
      pointwise
    blk_simp [iblk, idx t]
    exact (congrArg (V m c main_v19) (by blk_ext [idx t])).trans e
  · have e : V m c main_v20 (ix2 0 j) = m ((c : Thread nD τ).loc main_arg2) (ix2 0 j) := by
      entry_read
      pointwise
    blk_simp [iblk, idx t]
    exact (congrArg (V m c main_v20) (by blk_ext [idx t])).trans e

/-- The blocks of the two groups of columns. -/
theorem columns_at (c : Dev nD) (t : Fin cfg0.N) (i : Fin 256) (j : Fin 2048) :
    iblk m c 0 t (ix2 i j) = upper (m ((c : Thread nD τ).loc main_arg0)) (ix3 (seq t i) (pos i) j)
    ∧ iblk m c 1 t (ix2 i j) = lower (m ((c : Thread nD τ).loc main_arg0)) (ix3 (seq t i) (pos i) j) := by
  constructor
  · pointwise [upper, rows, seq, pos]
    blk_point [iblk, V, idx t]
  · pointwise [lower, rows, seq, pos]
    blk_point [iblk, V, idx t]

/-- A point's gate values are the reference's at the rows the point covers. -/
theorem values_at (c : Dev nD) (t : Fin cfg0.N) (i : Fin 256) (j : Fin 2048) :
    k0_pay2 (F := Ideal) (iblk m c 1 t) (iblk m c 2 t) (iblk m c 3 t) (ix2 i j)
      = values (m ((c : Thread nD τ).loc main_arg0)) (m ((c : Thread nD τ).loc main_arg1)) (m ((c : Thread nD τ).loc main_arg2)) (ix3 (seq t i) (pos i) j) := by
  pointwise [k0_pay2, values, scaled, centred, average, parameter, gelu_at, fun j => (parameters_at m c t j).1, fun j => (parameters_at m c t j).2,
    fun i j => (columns_at m c t i j).2]

/-- THE SECOND RESULT: the normalized gate values. -/
theorem final_normalized (c : Dev nD) : (dats m 0 c).arrAt 7 (cfgs 0).N
    = normalized (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]
  frame_out
  obtain ⟨i, j, rfl⟩ : ∃ i j, y = ix2 i j := ⟨y 0, y 1, eq_ix2 y⟩
  refine ((values_at m c t i j).trans (flat_at _ t i j).symm).trans (congrArg _ ?_)
  blk_ext [idx t]

/-- The weights' block repeats the weights between the first sixteen positions. -/
theorem weights_at (c : Dev nD) (t : Fin cfg0.N) (g : Fin 8) (i k : Fin 128) :
    iblk m c 4 t (ix3 g i k) = m ((c : Thread nD τ).loc main_arg3) (ix4 0 g ⟨i.val % 16, by omega⟩ ⟨k.val % 16, by omega⟩) := by
  have e (x) : V m c main_v11 x = m ((c : Thread nD τ).loc main_arg3)
      (ix4 0 (x 0) ⟨(x 1).val % 16, Nat.lt_of_lt_of_le (Nat.mod_lt _ (by omega)) (by omega)⟩ ⟨(x 2).val % 16, Nat.lt_of_lt_of_le (Nat.mod_lt _ (by omega)) (by omega)⟩) := by
    entry_read
    pointwise
    blk_ext
  refine (e (((cfg0.win 4).blk t).view.emb (ix3 g i k))).trans (congrArg _ ?_)
  blk_ext [idx t]

/-- The bias block repeats the bias of the first sixteen positions, over the columns of each group. -/
theorem bias_at (c : Dev nD) (t : Fin cfg0.N) (i : Fin 128) (j : Fin 2048) :
    iblk m c 5 t (ix2 i j) = m ((c : Thread nD τ).loc main_arg4) (ix3 0 ⟨j.val / 256, by omega⟩ ⟨i.val % 16, by omega⟩) := by
  have e (i : Fin 128) (j : Fin 2048) : V m c main_v18 (ix2 i j) = m ((c : Thread nD τ).loc main_arg4) (ix3 0 ⟨j.val / 256, by omega⟩ ⟨i.val % 16, by omega⟩) := by
    entry_read
    pointwise
    blk_ext
  blk_simp [iblk, idx t]
  exact (congrArg (V m c main_v18) (by blk_ext [idx t])).trans (e i j)

end Cert.SguIdeal.Chunks

end
-- ==== Proof.SguTiles.lean ====
/- What one grid point of the spatial gating stores in its first result: sixteen tiles, each one a cell of the same formula. -/
module

public import proofs.«01_k».proof.Proof.Gen.SguIdeal.Frame
public import Idealize.ShloMosaic.Lib.Pipeline.ValueKit
public import Idealize.ShloMosaic.Lib.Pointwise
public import Idealize.ShloMosaic.Lib.Claim

@[expose] public section

set_option maxRecDepth 16384

noncomputable section

namespace Cert.SguIdeal.Chunks

open Idealize.ShloMosaic Idealize.ShloMosaic.TcCoe Idealize.SL.Sem
open Idealize.ShloMosaic.Pipeline (Dat)
open Cert.SguIdeal Cert.SguIdeal.Gen

/-- Which of a tile's rows sees which: one of the same sixteen, not after it. -/
theorem mask_at (x0 x1 : Vec Ideal S256x2048 .f32) (x2 x3 : Vec Ideal S1x2048 .f32) (x4 : Vec Ideal S8x128x128 .f32) (x5 : Vec Ideal S128x2048 .f32) (i k : Fin 128) :
    k0_pay8 (k0_pay47 x0 x1 x2 x3 x4 x5) (k0_pay48 x0 x1 x2 x3 x4 x5) (k0_pay49 x0 x1 x2 x3 x4 x5) (k0_pay50 x0 x1 x2 x3 x4 x5) (ix2 i k)
      = if (k : ℕ) ≤ i ∧ i.val / 16 = k.val / 16 then 1#1 else 0#1 := by
  pointwise [k0_pay8, k0_pay47, k0_pay4, k0_pay45, k0_pay48, k0_pay5, k0_pay49, k0_pay6, k0_pay50, k0_pay7]
  revert i k
  decide +kernel

/-- The formula of a cell: its row mixes the rows of its half of the block that the mask lets it see. -/
def cell (u v : Vec Ideal S256x2048 .f32) (M : IVec S128x128 1) (w : Vec Ideal S8x128x128 .f32) (b : Vec Ideal S128x2048 .f32) (i : Fin 256) (j : Fin 2048) : EReal :=
  u (ix2 i j) * (Ideal.ofBits .f32 0x3F000000#32 * (1 + Ideal.tanh (Ideal.ofBits .f32 0x3F4C422A#32 *
      (u (ix2 i j) + Ideal.ofBits .f32 0x3D372713#32 * (u (ix2 i j) * (u (ix2 i j) * u (ix2 i j)))))))
    * ((∑ k : Fin 128, Scalar.select (M (ix2 ⟨i.val % 128, by omega⟩ k))
          (w (ix3 ⟨j.val / 256, by omega⟩ ⟨i.val % 128, by omega⟩ k) * v (ix2 ⟨i.val / 128 * 128 + k.val, by omega⟩ j)) 0)
      + b (ix2 ⟨i.val % 128, by omega⟩ j))

set_option maxHeartbeats 1600000 in
/-- The sixteen stores are that formula. -/
theorem tiles (x0 x1 : Vec Ideal S256x2048 .f32) (x2 x3 : Vec Ideal S1x2048 .f32) (x4 : Vec Ideal S8x128x128 .f32) (x5 : Vec Ideal S128x2048 .f32) (y : S256x2048.Idx) :
    out0_6 x0 x1 x2 x3 x4 x5 y = cell x0 (k0_pay46 x0 x1 x2 x3 x4 x5) (k0_pay51 x0 x1 x2 x3 x4 x5) x4 x5 (y 0) (y 1) := by
  unfold out0_6
  canon_tiles x h
  all_goals
    pointwise [k0_pay1, k0_pay9, k0_pay10, k0_pay11, k0_pay12, k0_pay13, k0_pay14, k0_pay15, k0_pay16, k0_pay17, k0_pay18, k0_pay19, k0_pay20, k0_pay21, k0_pay22,
      k0_pay23, k0_pay24, k0_pay25, k0_pay26, k0_pay27, k0_pay28, k0_pay29, k0_pay30, k0_pay31, k0_pay32, k0_pay33, k0_pay34, k0_pay35, k0_pay36, k0_pay37,
      k0_pay38, k0_pay39, k0_pay40, k0_pay41, k0_pay42, k0_pay43, k0_pay44, k0_pay51, cell]
    blk_point [h0, h1]

end Cert.SguIdeal.Chunks

end
-- ==== Proof.SguGated.lean ====
/- The spatial gating's first result: the sixteen stores of a grid point are the reference's gated rows. A row's weights are zero
   outside its own chunk of sixteen, so its sum over 128 rows is the reference's sum over sixteen. -/
module

public import proofs.«01_k».proof.Proof.SguValue
public import proofs.«01_k».proof.Proof.SguTiles

@[expose] public section

set_option maxRecDepth 16384

noncomputable section

namespace Cert.SguIdeal.Chunks

open Idealize.ShloMosaic Idealize.ShloMosaic.TcCoe Idealize.SL.Sem
open Idealize.ShloMosaic.Pipeline (Dat)
open Cert.SguIdeal Cert.SguIdeal.Gen
open Cert.SguRefIdeal.Formula

/-- A masked sum over the 128 rows of a tile is the sum over the sixteen rows of a row's own chunk. -/
theorem chunk_sum (i : Fin 256) (M : Fin 128 → BitVec 1)
    (hM : ∀ k : Fin 128, M k = if k.val ≤ i.val % 128 ∧ i.val % 128 / 16 = k.val / 16 then 1#1 else 0#1) (w : Fin 16 → EReal) (v : Fin 256 → EReal) :
    ∑ k : Fin 128, Scalar.select (M k) (w ⟨k.val % 16, by omega⟩ * v ⟨i.val / 128 * 128 + k.val, by omega⟩) 0
      = ∑ k : Fin 16, v ⟨i.val / 16 * 16 + k.val, by omega⟩ * (if k.val ≤ i.val % 16 then w k else 0) := by
  rw [Fin.sum_univ_tiles 8 16 rfl, Finset.sum_eq_single (⟨i.val % 128 / 16, by omega⟩ : Fin 8)]
  · refine Finset.sum_congr rfl fun k _ => ?_
    rw [hM]
    have hw : (⟨(i.val % 128 / 16 * 16 + k.val) % 16, by omega⟩ : Fin 16) = k := Fin.ext (by show _ % 16 = k.val; omega)
    have hv : (⟨i.val / 128 * 128 + (i.val % 128 / 16 * 16 + k.val), by omega⟩ : Fin 256) = ⟨i.val / 16 * 16 + k.val, by omega⟩ := Fin.ext (by show _ + _ = _ + _; omega)
    by_cases h : k.val ≤ i.val % 16
    · rw [if_pos h, if_pos (by constructor <;> (dsimp only; omega))]
      show w _ * v _ = _
      rw [hw, hv, mul_comm]
    · rw [if_neg h, if_neg (by dsimp only; omega), mul_zero]
      rfl
  · intro b _ hb
    refine Finset.sum_eq_zero fun k _ => ?_
    rw [hM, if_neg]
    · rfl
    · intro h
      exact hb (Fin.ext (by have := h.2; dsimp only at this ⊢; omega))
  · intro h
    exact absurd (Finset.mem_univ _) h

variable (m : (ℓ : Loc nD τ sig) → Buf (Elt Ideal) ℓ)

/-- The rounded gate values that the tiles are mixed from are the reference's. -/
theorem rounded_at (c : Dev nD) (t : Fin cfg0.N) (i : Fin 256) (j : Fin 2048) :
    k0_pay46 (F := Ideal) (iblk m c 0 t) (iblk m c 1 t) (iblk m c 2 t) (iblk m c 3 t) (iblk m c 4 t) (iblk m c 5 t) (ix2 i j)
      = values (m ((c : Thread nD τ).loc main_arg0)) (m ((c : Thread nD τ).loc main_arg1)) (m ((c : Thread nD τ).loc main_arg2)) (ix3 (seq t i) (pos i) j) := by
  refine Eq.trans ?_ (values_at m c t i j)
  pointwise [k0_pay46, k0_pay3, k0_pay2]

/-- A cell of a point's block is the reference's result at the row the cell covers. -/
theorem gated_at (c : Dev nD) (t : Fin cfg0.N) (i : Fin 256) (j : Fin 2048) :
    out0_6 (F := Ideal) (iblk m c 0 t) (iblk m c 1 t) (iblk m c 2 t) (iblk m c 3 t) (iblk m c 4 t) (iblk m c 5 t) (ix2 i j)
      = gated (m ((c : Thread nD τ).loc main_arg0)) (m ((c : Thread nD τ).loc main_arg1)) (m ((c : Thread nD τ).loc main_arg2))
          (m ((c : Thread nD τ).loc main_arg3)) (m ((c : Thread nD τ).loc main_arg4))
          (ix2 ⟨t.val * 256 + i, by have : t.val < 2 := t.isLt; omega⟩ j) := by
  refine Eq.trans ?_ (flat_at (mulf (gelu (upper (m ((c : Thread nD τ).loc main_arg0))))
    (gate (values (m ((c : Thread nD τ).loc main_arg0)) (m ((c : Thread nD τ).loc main_arg1)) (m ((c : Thread nD τ).loc main_arg2)))
      (m ((c : Thread nD τ).loc main_arg3)) (m ((c : Thread nD τ).loc main_arg4)))) t i j).symm
  refine Eq.trans (tiles _ _ _ _ _ _ _) (Eq.trans ?_ (congrArg₂ (· * ·) (gelu_at _ _) (gate_at _ _ _ _ _ _)).symm)
  have hu := (columns_at m c t i j).1
  refine Ideal.mul_congr (by rw [← hu]; rfl) (Ideal.add_congr ?_ ?_)
  · refine (Finset.sum_congr rfl fun k _ => ?_).trans ((chunk_sum i
      (fun k => k0_pay51 (iblk m c 0 t) (iblk m c 1 t) (iblk m c 2 t) (iblk m c 3 t) (iblk m c 4 t) (iblk m c 5 t) (ix2 ⟨i.val % 128, by omega⟩ k))
      (fun k => mask_at _ _ _ _ _ _ ⟨i.val % 128, by omega⟩ k)
      (fun k => m ((c : Thread nD τ).loc main_arg3) (ix4 0 ⟨j.val / 256, by omega⟩ ⟨i.val % 128 % 16, by omega⟩ ⟨k, by omega⟩))
      (fun k => values (m ((c : Thread nD τ).loc main_arg0)) (m ((c : Thread nD τ).loc main_arg1)) (m ((c : Thread nD τ).loc main_arg2)) (ix3 (seq t k) (pos k) j))).trans
      (Finset.sum_congr rfl fun k _ => ?_))
    · exact congrArg (Scalar.select _ · 0) (Ideal.mul_congr (weights_at m c t _ _ k) (rounded_at m c t _ j))
    · refine Ideal.mul_congr (congrArg _ ?_) (if_congr Iff.rfl (congrArg _ ?_) rfl)
      · blk_ext [seq, pos]
      · blk_ext [pos]
  · refine (bias_at m c t _ j).trans (congrArg _ ?_)
    blk_ext [pos]

/-- THE FIRST RESULT: the gated rows. -/
theorem final_gated (c : Dev nD) : (dats m 0 c).arrAt 6 (cfgs 0).N
    = gated (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 6 _ (by decide +kernel) fun t _ y => ?_
  blk_simp
  rw [after0_6]
  obtain ⟨i, j, rfl⟩ : ∃ i j, y = ix2 i j := ⟨y 0, y 1, eq_ix2 y⟩
  refine (gated_at m c t i j).trans (congrArg _ ?_)
  blk_ext [idx t]

end Cert.SguIdeal.Chunks

end
-- ==== Proof.SguClaim.lean ====
/- The claims about the spatial gating of the sample batch and its reference. -/
module

public import proofs.«01_k».proof.Defs
public import proofs.«01_k».proof.Proof.SguGated
public import Idealize.ShloMosaic.Lib.Claim

@[expose] public section

set_option maxRecDepth 16384

noncomputable section

namespace Cert.Proof

open Idealize.ShloMosaic Idealize.SL.Sem

set_option maxHeartbeats 1600000 in
/-- The reference of the spatial gating of the sample batch leaves its arguments as they were. -/
theorem spatial_gating_reference : Cert.quiescent_SguRefIdeal (hSguRefIdeal := Cert.SguRefIdeal.Gen.facts) := by
  intro m g _
  hlo_run
  · intro c
    simp only [and_self]
  · exact sem_eq_zero_of_no_sems (sig := Cert.SguRefIdeal.sig) rfl _

set_option maxHeartbeats 1600000 in
/-- The value claim about the spatial gating of the sample batch. -/
theorem spatial_gating : Cert.algebraic_SguIdeal_SguRefIdeal (hSguIdeal := Cert.SguIdeal.Gen.facts) (hSguRefIdeal := Cert.SguRefIdeal.Gen.facts) := by
  pair_intro
  · run_from Cert.SguIdeal.Gen.run_main m g
  · hlo_run
    · exact (Cert.SguIdeal.Chunks.final_gated m c).symm
    · exact (Cert.SguIdeal.Chunks.final_normalized m c).symm

end Cert.Proof

end
-- ==== Proof.ConvValue.lean ====
/- What the gated convolution's pallas_call leaves in its result: the three-tap convolution of each sequence after its carried rows,
   through the GELU, times the value columns. -/
module

public import proofs.«01_k».proof.Proof.Gen.ConvIdeal.Frame
public import proofs.«01_k».proof.Proof.Gen.ConvRefIdeal
public import Idealize.ShloMosaic.Lib.Pipeline.ValueKit
public import Idealize.ShloMosaic.Lib.Pointwise
public import Idealize.ShloMosaic.Lib.Claim

@[expose] public section

set_option maxRecDepth 16384

noncomputable section

namespace Cert.ConvRefIdeal.Formula

open Idealize.ShloMosaic Idealize.ShloMosaic.TcCoe Idealize.SL.Sem
open Cert.ConvRefIdeal Cert.ConvRefIdeal.Gen

/-- The sample batch's rows of the up projection, by sequence. -/
def rows (up : FVec Ideal S8704x22016 .f32) : FVec Ideal S32x16x22016 .f32 :=
  shapeCast _ (extractStridedSlice S512x22016 ![8192, 0] up slices_S8704x22016_S512x22016_8192_0) shapeCasts_S512x22016_S32x16x22016

/-- The gate columns, after the two rows carried from before. -/
def carried (up : FVec Ideal S8704x22016 .f32) (s : FVec Ideal S2x32x2x11008 .f32) : FVec Ideal S32x18x11008 .f32 :=
  concatenate S32x18x11008 1
    [⟨S32x2x11008, shapeCast S32x2x11008 (extractStridedSlice S1x32x2x11008 ![0, 0, 0, 0] s slices_S2x32x2x11008_S1x32x2x11008_0_0_0_0) shapeCasts_S1x32x2x11008_S32x2x11008⟩,
     ⟨S32x16x11008, extractStridedSlice S32x16x11008 ![0, 0, 0] (rows up) slices_S32x16x22016_S32x16x11008_0_0_0⟩]
    concatenates_S32x2x11008_S32x16x11008_S32x18x11008_d1

/-- A vector of columns for every row of every sequence. -/
def spread (v : FVec Ideal S11008 .f32) : FVec Ideal S32x16x11008 .f32 :=
  broadcastInDim S32x16x11008 ![0, 1, 2] bcast_S1x1x11008_S32x16x11008_0_1_2 (broadcastInDim S1x1x11008 ![2] bcast_S11008_S1x1x11008_2 v)

/-- The convolution: the bias and the three taps. -/
def convolved (up : FVec Ideal S8704x22016 .f32) (s : FVec Ideal S2x32x2x11008 .f32) (w : FVec Ideal S2x3x11008 .f32) (b : FVec Ideal S2x11008 .f32) :
    FVec Ideal S32x16x11008 .f32 :=
  addf (addf (addf (spread (shapeCast S11008 (extractStridedSlice S1x11008 ![0, 0] b slices_S2x11008_S1x11008_0_0) shapeCasts_S1x11008_S11008))
    (mulf (extractStridedSlice S32x16x11008 ![0, 0, 0] (carried up s) slices_S32x18x11008_S32x16x11008_0_0_0)
      (spread (shapeCast S11008 (extractStridedSlice S1x1x11008 ![0, 0, 0] w slices_S2x3x11008_S1x1x11008_0_0_0) shapeCasts_S1x1x11008_S11008))))
    (mulf (extractStridedSlice S32x16x11008 ![0, 1, 0] (carried up s) slices_S32x18x11008_S32x16x11008_0_1_0)
      (spread (shapeCast S11008 (extractStridedSlice S1x1x11008 ![0, 1, 0] w slices_S2x3x11008_S1x1x11008_0_1_0) shapeCasts_S1x1x11008_S11008))))
    (mulf (extractStridedSlice S32x16x11008 ![0, 2, 0] (carried up s) slices_S32x18x11008_S32x16x11008_0_2_0)
      (spread (shapeCast S11008 (extractStridedSlice S1x1x11008 ![0, 2, 0] w slices_S2x3x11008_S1x1x11008_0_2_0) shapeCasts_S1x1x11008_S11008)))

/-- The GELU, in its hyperbolic-tangent form. -/
def gelu (x : FVec Ideal S32x16x11008 .f32) : FVec Ideal S32x16x11008 .f32 :=
  mulf x (mulf (broadcastInDim S32x16x11008 ![] bcast_S_S32x16x11008 (constant S_ .f32 0x3F000000#32))
    (addf (broadcastInDim S32x16x11008 ![] bcast_S_S32x16x11008 (constant S_ .f32 0x3F800000#32))
      (Host.tanh (mulf (broadcastInDim S32x16x11008 ![] bcast_S_S32x16x11008 (constant S_ .f32 0x3F4C422A#32))
        (addf x (mulf (broadcastInDim S32x16x11008 ![] bcast_S_S32x16x11008 (constant S_ .f32 0x3D372713#32)) (mulf (mulf x x) x)))))))

/-- At an index, with the cube taken the other way round. -/
theorem gelu_at (x : FVec Ideal S32x16x11008 .f32) (i) : gelu x i = x i * (Ideal.ofBits .f32 0x3F000000#32 *
    (1 + Ideal.tanh (Ideal.ofBits .f32 0x3F4C422A#32 * (x i + Ideal.ofBits .f32 0x3D372713#32 * (x i * (x i * x i)))))) := by
  pointwise [gelu]
  rw [mul_comm (x i * x i) (x i)]

/-- The reference's result. -/
def gated (up : FVec Ideal S8704x22016 .f32) (s : FVec Ideal S2x32x2x11008 .f32) (w : FVec Ideal S2x3x11008 .f32) (b : FVec Ideal S2x11008 .f32) :
    FVec Ideal S512x11008 .bf16 :=
  truncf .bf16 (shapeCast S512x11008 (mulf (gelu (convolved up s w b))
    (extractStridedSlice S32x16x11008 ![0, 0, 11008] (rows up) slices_S32x16x22016_S32x16x11008_0_0_11008)) shapeCasts_S32x16x11008_S512x11008) bitsLt_bf16_f32

end Cert.ConvRefIdeal.Formula

namespace Cert.ConvIdeal.Rows

open Idealize.ShloMosaic Idealize.ShloMosaic.TcCoe Idealize.SL.Sem
open Idealize.ShloMosaic.Pipeline (Dat)
open Cert.ConvIdeal Cert.ConvIdeal.Gen
open Cert.ConvRefIdeal.Formula

variable (m : (ℓ : Loc nD τ sig) → Buf (Elt Ideal) ℓ)

/-- Each window's block at a grid point: a sequence and half of the columns. -/
theorem idx : ∀ t : Fin cfg0.N, win0_0.index t = ![512 + t.val / 2, t.val % 2] ∧ win0_1.index t = ![512 + t.val / 2, 2 + t.val % 2]
    ∧ win0_2.index t = ![t.val / 2, 0, t.val % 2] ∧ win0_3.index t = ![0, t.val % 2]
    ∧ win0_4.index t = ![0, t.val % 2] ∧ win0_5.index t = ![t.val / 2, t.val % 2] := (by decide +kernel : ∀ t : Fin grid0.N, _)

/-- The sequence of a grid point. -/
def seq (t : Fin cfg0.N) : Fin 32 := ⟨t.val / 2, by have : t.val < 64 := t.isLt; omega⟩

/-- A column of a grid point's half. -/
def col (t : Fin cfg0.N) (j : Fin 5504) : Fin 11008 := ⟨t.val % 2 * 5504 + j, by omega⟩

/-- The blocks that hold layer 0 of the carried rows, the taps and the bias. -/
theorem layer_at (c : Dev nD) (t : Fin cfg0.N) (j : Fin 5504) :
    (∀ i : Fin 2, iblk m c 2 t (ix3 0 i j) = m ((c : Thread nD τ).loc main_arg1) (ix4 0 (seq t) i (col t j)))
    ∧ (∀ i : Fin 3, iblk m c 3 t (ix2 i j) = m ((c : Thread nD τ).loc main_arg2) (ix3 0 i (col t j)))
    ∧ iblk m c 4 t (ix2 0 j) = m ((c : Thread nD τ).loc main_arg3) (ix2 0 (col t j)) := by
  refine ⟨fun i => ?_, fun i => ?_, ?_⟩
  · have e (x) : V m c main_v1 x = m ((c : Thread nD τ).loc main_arg1) (ix4 0 (x 0) (x 1) (x 2)) := by
      entry_read
      pointwise
      blk_ext
    refine (e (((cfg0.win 2).blk t).view.emb (ix3 0 i j))).trans (congrArg _ ?_)
    blk_ext [idx t, seq, col]
  · have e (x) : V m c main_v3 x = m ((c : Thread nD τ).loc main_arg2) (ix3 0 (x 0) (x 1)) := by
      entry_read
      pointwise
      blk_ext
    refine (e (((cfg0.win 3).blk t).view.emb (ix2 i j))).trans (congrArg _ ?_)
    blk_ext [idx t, seq, col]
  · have e (x) : V m c main_v6 x = m ((c : Thread nD τ).loc main_arg3) (ix2 0 (x 1)) := by
      entry_read
      pointwise
      blk_ext
    refine (e (((cfg0.win 4).blk t).view.emb (ix2 0 j))).trans (congrArg _ ?_)
    blk_ext [idx t, seq, col]

/-- The buffer's rows for the sequence's own rows, and for the two carried rows above them. -/
abbrev own : Rect S24x5504 := Rect.unit (s := S24x5504) ![8, 0] S16x5504.size inb_S24x5504_S16x5504_8_0
abbrev above : Rect S24x5504 := Rect.unit (s := S24x5504) ![6, 0] S2x5504.size inb_S24x5504_S2x5504_6_0

/-- In the buffer, a row that the newer store covers holds that store's row. -/
theorem newer (A : Vec Ideal S16x5504 .f32) (L : List (View.Piece (Elt Ideal) S24x5504 .f32)) (i : Fin 16) (j : Fin 5504) (k : S24x5504.Idx)
    (hi : (k 0 : ℕ) = 8 + i) (hj : (k 1 : ℕ) = j) : View.canon (⟨own, A⟩ :: L) k = A (ix2 i j) := by
  rw [← Rect.emb_eq_of_coords own (ix2 i j) k (by intro a; fin_cases a <;> simp [own, hi, hj])]
  exact View.canon_cons_emb own A L (ix2 i j)

/-- The two rows above it hold the older store's. -/
theorem older (A : Vec Ideal S16x5504 .f32) (B : Vec Ideal S2x5504 .f32) (i : Fin 2) (j : Fin 5504) (k : S24x5504.Idx)
    (hi : (k 0 : ℕ) = 6 + i) (hj : (k 1 : ℕ) = j) :
    View.canon (Val := Elt Ideal) (e := .f32) [⟨own, A⟩, ⟨above, B⟩] k = B (ix2 i j) := by
  rw [View.canon_cons_of_not_mem _ _ (Rect.not_mem_set_of_axis _ k 0 8 16 rfl rfl rfl (.inl (by omega))),
    ← Rect.emb_eq_of_coords above (ix2 i j) k (by intro a; fin_cases a <;> simp [above, hi, hj])]
  exact View.canon_cons_emb above B [] (ix2 i j)

/-- The buffer as a point leaves it. -/
abbrev filled (c : Dev nD) (t : Fin cfg0.N) : List (View.Piece (Elt Ideal) S24x5504 .f32) :=
  [⟨own, k0_pay4 (F := Ideal) (iblk m c 0 t)⟩, ⟨above, k0_pay2 (F := Ideal) (iblk m c 2 t)⟩]

/-- The buffer's rows from the sixth on are the sequence's carried rows and then its own. -/
theorem buffer (c : Dev nD) (t : Fin cfg0.N) (i : Fin 18) (j : Fin 5504) (k : S24x5504.Idx) (hi : (k 0 : ℕ) = 6 + i) (hj : (k 1 : ℕ) = j) :
    View.canon (filled m c t) k = carried (m ((c : Thread nD τ).loc main_arg0)) (m ((c : Thread nD τ).loc main_arg1)) (ix3 (seq t) i (col t j)) := by
  by_cases h : i.val < 2
  · refine (older _ _ ⟨i, h⟩ j k hi hj).trans ?_
    pointwise [k0_pay2, carried, (layer_at m c t j).1]
    simp only [h, dite_true]
  · refine (newer _ _ ⟨i.val - 2, by omega⟩ j k (by rw [hi]; show _ = 8 + (i.val - 2); omega) hj).trans ?_
    pointwise [k0_pay4, carried, rows]
    simp only [h, dite_false]
    blk_point [iblk, V, idx t, seq, col]

/-- The rows one before and two before a point's own, as it reads them from the buffer. -/
def before1 (c : Dev nD) (t : Fin cfg0.N) : Vec Ideal S16x5504 .f32 :=
  (View.whole cc0_scratch0).readCov (filled m c t) (Rect.unit (s := S24x5504) ![7, 0] S16x5504.size inb_S24x5504_S16x5504_7_0).toLoadRect
def before2 (c : Dev nD) (t : Fin cfg0.N) : Vec Ideal S16x5504 .f32 :=
  (View.whole cc0_scratch0).readCov (filled m c t) (Rect.unit (s := S24x5504) ![6, 0] S16x5504.size inb_S24x5504_S16x5504_6_0).toLoadRect

/-- The rows that the three taps read are the carried array's, from its first, second and third row on. -/
theorem taps (c : Dev nD) (t : Fin cfg0.N) (i : Fin 16) (j : Fin 5504) :
    before2 m c t (ix2 i j) = carried (m ((c : Thread nD τ).loc main_arg0)) (m ((c : Thread nD τ).loc main_arg1)) (ix3 (seq t) ⟨i, by omega⟩ (col t j))
    ∧ before1 m c t (ix2 i j) = carried (m ((c : Thread nD τ).loc main_arg0)) (m ((c : Thread nD τ).loc main_arg1)) (ix3 (seq t) ⟨1 + i, by omega⟩ (col t j))
    ∧ iblk m c 0 t (ix2 i j) = carried (m ((c : Thread nD τ).loc main_arg0)) (m ((c : Thread nD τ).loc main_arg1)) (ix3 (seq t) ⟨2 + i, by omega⟩ (col t j)) := by
  refine ⟨?_, ?_, ?_⟩
  · unfold before2
    rw [View.readCov_eq_canon']
    exact buffer m c t ⟨i, by omega⟩ j _ (by show 6 + 1 * i.val = 6 + i.val; omega) (by show 0 + 1 * j.val = j.val; omega)
  · unfold before1
    rw [View.readCov_eq_canon']
    exact buffer m c t ⟨1 + i, by omega⟩ j _ (by show 7 + 1 * i.val = 6 + (1 + i.val); omega) (by show 0 + 1 * j.val = j.val; omega)
  · refine Eq.trans ?_ (buffer m c t ⟨2 + i, by omega⟩ j (ix2 ⟨8 + i, by omega⟩ j) (by show 8 + i.val = 6 + (2 + i.val); omega) rfl)
    refine Eq.trans ?_ (newer (k0_pay4 (F := Ideal) (iblk m c 0 t)) _ i j _ rfl rfl).symm
    pointwise [k0_pay4]

/-- What a point stores, over the rows that it reads. -/
theorem stored (c : Dev nD) (t : Fin cfg0.N) : outsAt0 m c t =
    k0_pay1 (F := Ideal)
      (k0_pay5 (iblk m c 0 t) (before1 m c t) (before2 m c t) (iblk m c 4 t)
        (View.ld (iblk m c 3 t) (Rect.unit (s := S3x5504) ![0, 0] S1x5504.size inb_S3x5504_S1x5504_0_0))
        (View.ld (iblk m c 3 t) (Rect.unit (s := S3x5504) ![1, 0] S1x5504.size inb_S3x5504_S1x5504_1_0))
        (View.ld (iblk m c 3 t) (Rect.unit (s := S3x5504) ![2, 0] S1x5504.size inb_S3x5504_S1x5504_2_0)))
      (k0_pay6 (iblk m c 0 t) (before1 m c t) (before2 m c t) (iblk m c 4 t)
        (View.ld (iblk m c 3 t) (Rect.unit (s := S3x5504) ![0, 0] S1x5504.size inb_S3x5504_S1x5504_0_0))
        (View.ld (iblk m c 3 t) (Rect.unit (s := S3x5504) ![1, 0] S1x5504.size inb_S3x5504_S1x5504_1_0))
        (View.ld (iblk m c 3 t) (Rect.unit (s := S3x5504) ![2, 0] S1x5504.size inb_S3x5504_S1x5504_2_0)))
      k0_pay7 (iblk m c 1 t) := by
  unfold outsAt0
  frame_out
  rfl

/-- A point's block is the reference's result at the rows and columns the point covers. -/
theorem gated_at (c : Dev nD) (t : Fin cfg0.N) (i : Fin 16) (j : Fin 5504) :
    outsAt0 m c t (ix2 i j) = gated (m ((c : Thread nD τ).loc main_arg0)) (m ((c : Thread nD τ).loc main_arg1)) (m ((c : Thread nD τ).loc main_arg2))
      (m ((c : Thread nD τ).loc main_arg3)) (ix2 ⟨(seq t).val * 16 + i.val, by have := (seq t).isLt; omega⟩ (col t j)) := by
  rw [stored]
  have v : iblk m c 1 t (ix2 i j) = rows (m ((c : Thread nD τ).loc main_arg0)) (ix3 (seq t) i ⟨11008 + (col t j).val, by have := (col t j).isLt; omega⟩) := by
    pointwise [rows, seq, col]
    blk_point [iblk, V, idx t]
  pointwise [k0_pay1, k0_pay5, k0_pay6, k0_pay7, (fun i j => (taps m c t i j).1), (fun i j => (taps m c t i j).2.1), (fun i j => (taps m c t i j).2.2),
    (fun j i => (layer_at m c t j).2.1 i), (fun j => (layer_at m c t j).2.2), v, gated, gelu_at, convolved, spread]

/-- THE RESULT: the reference's gated convolution. -/
theorem final (c : Dev nD) : (dats m 0 c).arrAt 5 (cfgs 0).N
    = gated (m ((c : Thread nD τ).loc main_arg0)) (m ((c : Thread nD τ).loc main_arg1)) (m ((c : Thread nD τ).loc main_arg2))
      (m ((c : Thread nD τ).loc main_arg3)) := by
  refine (dats m 0 c).arrAt_eq_of_covers 5 _ (by decide +kernel) fun t _ y => ?_
  blk_simp
  rw [after0_5]
  obtain ⟨i, j, rfl⟩ : ∃ i j, y = ix2 i j := ⟨y 0, y 1, eq_ix2 y⟩
  refine (gated_at m c t i j).trans (congrArg _ ?_)
  blk_ext [idx t, seq, col]

end Cert.ConvIdeal.Rows

end
-- ==== Proof.ConvClaim.lean ====
/- The claims about the gated convolution of the sample batch and its reference. -/
module

public import proofs.«01_k».proof.Defs
public import proofs.«01_k».proof.Proof.ConvValue
public import Idealize.ShloMosaic.Lib.Claim

@[expose] public section

set_option maxRecDepth 16384

noncomputable section

namespace Cert.Proof

open Idealize.ShloMosaic Idealize.SL.Sem

set_option maxHeartbeats 1600000 in
/-- The reference of the gated convolution of the sample batch leaves its arguments as they were. -/
theorem gated_convolution_reference : Cert.quiescent_ConvRefIdeal (hConvRefIdeal := Cert.ConvRefIdeal.Gen.facts) := by
  intro m g _
  hlo_run
  · intro c
    simp only [and_self]
  · exact sem_eq_zero_of_no_sems (sig := Cert.ConvRefIdeal.sig) rfl _

set_option maxHeartbeats 1600000 in
/-- The value claim about the gated convolution of the sample batch. -/
theorem gated_convolution : Cert.algebraic_ConvIdeal_ConvRefIdeal (hConvIdeal := Cert.ConvIdeal.Gen.facts) (hConvRefIdeal := Cert.ConvRefIdeal.Gen.facts) := by
  pair_intro
  · run_from Cert.ConvIdeal.Gen.run_main m g
  · hlo_run
    exact (Cert.ConvIdeal.Rows.final m c).symm

end Cert.Proof

end
-- ==== Proof.lean ====
/- The claims about the layer's ten calls: each program runs from any memory and leaves its arguments as they were, and each kernel's
   results, its floats read as real numbers, are its reference's. What a call leaves in its results is proved in its own module. -/
module

public import proofs.«01_k».proof.Defs
public import proofs.«01_k».proof.Proof.Gen.Ret.Frame
public import proofs.«01_k».proof.Proof.RetClaim
public import proofs.«01_k».proof.Proof.Gen.RetP.Frame
public import proofs.«01_k».proof.Proof.PromptClaim
public import proofs.«01_k».proof.Proof.Gen.MmIn.Frame
public import proofs.«01_k».proof.Proof.MmInValue
public import proofs.«01_k».proof.Proof.Gen.MmO.Frame
public import proofs.«01_k».proof.Proof.MmOValue
public import proofs.«01_k».proof.Proof.Gen.MmUp.Frame
public import proofs.«01_k».proof.Proof.UpClaim
public import proofs.«01_k».proof.Proof.Gen.MmDown.Frame
public import proofs.«01_k».proof.Proof.MmDownValue
public import proofs.«01_k».proof.Proof.Gen.Merge.Frame
public import proofs.«01_k».proof.Proof.MergeValue
public import proofs.«01_k».proof.Proof.Gen.AddLn.Frame
public import proofs.«01_k».proof.Proof.AddLnValue
public import proofs.«01_k».proof.Proof.Gen.Sgu.Frame
public import proofs.«01_k».proof.Proof.SguClaim
public import proofs.«01_k».proof.Proof.Gen.Conv.Frame
public import proofs.«01_k».proof.Proof.ConvClaim
public import Idealize.ShloMosaic.Lib.Claim

@[expose] public section

set_option maxRecDepth 16384

noncomputable section

namespace Cert.Proof

open Idealize.ShloMosaic Idealize.SL.Sem

/-- The reference of the input projection leaves its arguments as they were. -/
theorem input_projection_reference : Cert.quiescent_MmInRefIdeal (hMmInRefIdeal := Cert.MmInRefIdeal.Gen.facts) := by
  intro m g _
  hlo_run
  · intro c
    simp only [and_self]
  · exact sem_eq_zero_of_no_sems (sig := Cert.MmInRefIdeal.sig) rfl _

/-- The value claim about the input projection. -/
theorem input_projection : Cert.algebraic_MmInIdeal_MmInRefIdeal (hMmInIdeal := Cert.MmInIdeal.Gen.facts) (hMmInRefIdeal := Cert.MmInRefIdeal.Gen.facts) := by
  pair_intro
  · run_from Cert.MmInIdeal.Gen.run_main m g
  · hlo_run
    exact (Cert.MmInIdeal.Product.final m c).symm

/-- The reference of the output projection leaves its arguments as they were. -/
theorem output_projection_reference : Cert.quiescent_MmORefIdeal (hMmORefIdeal := Cert.MmORefIdeal.Gen.facts) := by
  intro m g _
  hlo_run
  · intro c
    simp only [and_self]
  · exact sem_eq_zero_of_no_sems (sig := Cert.MmORefIdeal.sig) rfl _

/-- The value claim about the output projection. -/
theorem output_projection : Cert.algebraic_MmOIdeal_MmORefIdeal (hMmOIdeal := Cert.MmOIdeal.Gen.facts) (hMmORefIdeal := Cert.MmORefIdeal.Gen.facts) := by
  pair_intro
  · run_from Cert.MmOIdeal.Gen.run_main m g
  · hlo_run
    exact (Cert.MmOIdeal.Product.final m c).symm

/-- The reference of the down projection leaves its arguments as they were. -/
theorem down_projection_reference : Cert.quiescent_MmDownRefIdeal (hMmDownRefIdeal := Cert.MmDownRefIdeal.Gen.facts) := by
  intro m g _
  hlo_run
  · intro c
    simp only [and_self]
  · exact sem_eq_zero_of_no_sems (sig := Cert.MmDownRefIdeal.sig) rfl _

/-- The value claim about the down projection. -/
theorem down_projection : Cert.algebraic_MmDownIdeal_MmDownRefIdeal (hMmDownIdeal := Cert.MmDownIdeal.Gen.facts) (hMmDownRefIdeal := Cert.MmDownRefIdeal.Gen.facts) := by
  pair_intro
  · run_from Cert.MmDownIdeal.Gen.run_main m g
  · hlo_run
    exact (Cert.MmDownIdeal.Product.final m c).symm

/-- The reference of the merge of the two branches leaves its arguments as they were. -/
theorem merge_reference : Cert.quiescent_MergeRefIdeal (hMergeRefIdeal := Cert.MergeRefIdeal.Gen.facts) := by
  intro m g _
  hlo_run
  · intro c
    simp only [and_self]
  · exact sem_eq_zero_of_no_sems (sig := Cert.MergeRefIdeal.sig) rfl _

/-- The value claim about the merge of the two branches. -/
theorem merge : Cert.algebraic_MergeIdeal_MergeRefIdeal (hMergeIdeal := Cert.MergeIdeal.Gen.facts) (hMergeRefIdeal := Cert.MergeRefIdeal.Gen.facts) := by
  pair_intro
  · run_from Cert.MergeIdeal.Gen.run_main m g
  · hlo_run
    exact (Cert.MergeIdeal.Product.final m c).symm

/-- The reference of the residual sum and its normalization leaves its arguments as they were. -/
theorem add_and_normalize_reference : Cert.quiescent_AddLnRefIdeal (hAddLnRefIdeal := Cert.AddLnRefIdeal.Gen.facts) := by
  intro m g _
  hlo_run
  · intro c
    simp only [and_self]
  · exact sem_eq_zero_of_no_sems (sig := Cert.AddLnRefIdeal.sig) rfl _

/-- The value claim about the residual sum and its normalization. -/
theorem add_and_normalize : Cert.algebraic_AddLnIdeal_AddLnRefIdeal (hAddLnIdeal := Cert.AddLnIdeal.Gen.facts) (hAddLnRefIdeal := Cert.AddLnRefIdeal.Gen.facts) := by
  pair_intro
  · run_from Cert.AddLnIdeal.Gen.run_main m g
  · hlo_run
    · exact (Cert.AddLnIdeal.Rows.final_normalized m c).symm
    · exact (Cert.AddLnIdeal.Rows.final_rounded m c).symm

/-- All the claims together. -/
theorem claim : Cert.Claim :=
  ⟨Cert.Ret.Gen.facts, Cert.RetIdeal.Gen.facts, Cert.RetRefIdeal.Gen.facts,
    Cert.RetP.Gen.facts, Cert.RetPIdeal.Gen.facts, Cert.RetPRefIdeal.Gen.facts,
    Cert.MmIn.Gen.facts, Cert.MmInIdeal.Gen.facts, Cert.MmInRefIdeal.Gen.facts,
    Cert.MmO.Gen.facts, Cert.MmOIdeal.Gen.facts, Cert.MmORefIdeal.Gen.facts,
    Cert.MmUp.Gen.facts, Cert.MmUpIdeal.Gen.facts, Cert.MmUpRefIdeal.Gen.facts,
    Cert.MmDown.Gen.facts, Cert.MmDownIdeal.Gen.facts, Cert.MmDownRefIdeal.Gen.facts,
    Cert.Merge.Gen.facts, Cert.MergeIdeal.Gen.facts, Cert.MergeRefIdeal.Gen.facts,
    Cert.AddLn.Gen.facts, Cert.AddLnIdeal.Gen.facts, Cert.AddLnRefIdeal.Gen.facts,
    Cert.Sgu.Gen.facts, Cert.SguIdeal.Gen.facts, Cert.SguRefIdeal.Gen.facts,
    Cert.Conv.Gen.facts, Cert.ConvIdeal.Gen.facts, Cert.ConvRefIdeal.Gen.facts,
    fun m g _ => Cert.Ret.Gen.frame m g, fun m g _ => Cert.RetIdeal.Gen.frame m g, retention_reference,
    fun m g _ => Cert.RetP.Gen.frame m g, fun m g _ => Cert.RetPIdeal.Gen.frame m g, prompt_retention_reference,
    fun m g _ => Cert.MmIn.Gen.frame m g, fun m g _ => Cert.MmInIdeal.Gen.frame m g, input_projection_reference,
    fun m g _ => Cert.MmO.Gen.frame m g, fun m g _ => Cert.MmOIdeal.Gen.frame m g, output_projection_reference,
    fun m g _ => Cert.MmUp.Gen.frame m g, fun m g _ => Cert.MmUpIdeal.Gen.frame m g, up_projection_reference,
    fun m g _ => Cert.MmDown.Gen.frame m g, fun m g _ => Cert.MmDownIdeal.Gen.frame m g, down_projection_reference,
    fun m g _ => Cert.Merge.Gen.frame m g, fun m g _ => Cert.MergeIdeal.Gen.frame m g, merge_reference,
    fun m g _ => Cert.AddLn.Gen.frame m g, fun m g _ => Cert.AddLnIdeal.Gen.frame m g, add_and_normalize_reference,
    fun m g _ => Cert.Sgu.Gen.frame m g, fun m g _ => Cert.SguIdeal.Gen.frame m g, spatial_gating_reference,
    fun m g _ => Cert.Conv.Gen.frame m g, fun m g _ => Cert.ConvIdeal.Gen.frame m g, gated_convolution_reference,
    trivial, retention,
    trivial, prompt_retention,
    trivial, input_projection,
    trivial, output_projection,
    trivial, up_projection,
    trivial, down_projection,
    trivial, merge,
    trivial, add_and_normalize,
    trivial, spatial_gating,
    trivial, gated_convolution⟩

end Cert.Proof

end
